-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S4x8x32x1024 : Shape := ⟨4, ![4, 8, 32, 1024]⟩
abbrev S4x32x1024 : Shape := ⟨3, ![4, 32, 1024]⟩
abbrev S4x8 : Shape := ⟨2, ![4, 8]⟩
abbrev S_ : Shape := ⟨0, ![]⟩
abbrev S1x256x1024 : Shape := ⟨3, ![1, 256, 1024]⟩
abbrev S256x1024 : Shape := ⟨2, ![256, 1024]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1x1 : Shape := ⟨2, ![1, 1]⟩
abbrev S1x1x32x1024 : Shape := ⟨4, ![1, 1, 32, 1024]⟩
abbrev S32x1024 : Shape := ⟨2, ![32, 1024]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S4x8x32x1024, .bf16⟩
  | .local _ .vmem, ⟨8, _⟩ => ⟨S4x32x1024, .bf16⟩
  | .local _ .vmem, ⟨9, _⟩ => ⟨S4x8x32x1024, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v187 : BitVec 32 := Scalar.subi v2 c0_i32_84
  let c8_i32_85 : BitVec 32 := 8#32
  let v188 : BitVec 32 := Scalar.addi v187 c8_i32_85
  let c8_i32_86 : BitVec 32 := 8#32
  let v189 : BitVec 32 := Scalar.remsi v188 c8_i32_86
  let c0_i32_87 : BitVec 32 := 0#32
  let v190 : BitVec 1 := Scalar.cmpi .ne v189 c0_i32_87
  let v191 : BitVec 32 := Scalar.extui v190
  let c0_i32_92 : BitVec 32 := 0#32
  let v192 : BitVec 1 := Scalar.cmpi .ne v191 c0_i32_92
  v192

def k0_off1 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v187 : BitVec 32 := Scalar.subi v2 c0_i32_84
  let c8_i32_85 : BitVec 32 := 8#32
  let v188 : BitVec 32 := Scalar.addi v187 c8_i32_85
  let c8_i32_86 : BitVec 32 := 8#32
  let v189 : BitVec 32 := Scalar.remsi v188 c8_i32_86
  ![0, v189.toNat]
def k0_off2 (d0 : Dev nD) : Fin 4 → Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v187 : BitVec 32 := Scalar.subi v2 c0_i32_84
  let c8_i32_85 : BitVec 32 := 8#32
  let v188 : BitVec 32 := Scalar.addi v187 c8_i32_85
  let c8_i32_86 : BitVec 32 := 8#32
  let v189 : BitVec 32 := Scalar.remsi v188 c8_i32_86
  let c0_i32_2684 : BitVec 32 := 0#32
  let c0_i32_2685 : BitVec 32 := 0#32
  ![0, v189.toNat, 0, 0]
def k0_dev8 : Nat :=
  let c0_i32_2683 : BitVec 32 := 0#32
  let c0_i32_2681 : BitVec 32 := 0#32
  let c1_i32_2682 : BitVec 32 := 1#32
  let v2328 : BitVec 32 := Scalar.muli c0_i32_2681 c1_i32_2682
  let v2329 : BitVec 32 := Scalar.addi c0_i32_2683 v2328
  v2329.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v193 : BitVec 32 := Scalar.subi v2 c1_i32_93
  let c8_i32_94 : BitVec 32 := 8#32
  let v194 : BitVec 32 := Scalar.addi v193 c8_i32_94
  let c8_i32_95 : BitVec 32 := 8#32
  let v195 : BitVec 32 := Scalar.remsi v194 c8_i32_95
  let c0_i32_96 : BitVec 32 := 0#32
  let v196 : BitVec 1 := Scalar.cmpi .ne v195 c0_i32_96
  let v197 : BitVec 32 := Scalar.extui v196
  let c0_i32_101 : BitVec 32 := 0#32
  let v198 : BitVec 1 := Scalar.cmpi .ne v197 c0_i32_101
  v198

def k0_off3 (d0 : Dev nD) : Fin 2 → Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v193 : BitVec 32 := Scalar.subi v2 c1_i32_93
  let c8_i32_94 : BitVec 32 := 8#32
  let v194 : BitVec 32 := Scalar.addi v193 c8_i32_94
  let c8_i32_95 : BitVec 32 := 8#32
  let v195 : BitVec 32 := Scalar.remsi v194 c8_i32_95
  ![0, v195.toNat]
def k0_off4 (d0 : Dev nD) : Fin 4 → Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v193 : BitVec 32 := Scalar.subi v2 c1_i32_93
  let c8_i32_94 : BitVec 32 := 8#32
  let v194 : BitVec 32 := Scalar.addi v193 c8_i32_94
  let c8_i32_95 : BitVec 32 := 8#32
  let v195 : BitVec 32 := Scalar.remsi v194 c8_i32_95
  let c0_i32_2684 : BitVec 32 := 0#32
  let c0_i32_2685 : BitVec 32 := 0#32
  ![0, v195.toNat, 0, 0]
def k0_dev9 : Nat :=
  let c0_i32_2683 : BitVec 32 := 0#32
  let c1_i32_2681 : BitVec 32 := 1#32
  let c1_i32_2682 : BitVec 32 := 1#32
  let v2328 : BitVec 32 := Scalar.muli c1_i32_2681 c1_i32_2682
  let v2329 : BitVec 32 := Scalar.addi c0_i32_2683 v2328
  v2329.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v199 : BitVec 32 := Scalar.subi v2 c2_i32_102
  let c8_i32_103 : BitVec 32 := 8#32
  let v200 : BitVec 32 := Scalar.addi v199 c8_i32_103
  let c8_i32_104 : BitVec 32 := 8#32
  let v201 : BitVec 32 := Scalar.remsi v200 c8_i32_104
  let c0_i32_105 : BitVec 32 := 0#32
  let v202 : BitVec 1 := Scalar.cmpi .ne v201 c0_i32_105
  let v203 : BitVec 32 := Scalar.extui v202
  let c0_i32_110 : BitVec 32 := 0#32
  let v204 : BitVec 1 := Scalar.cmpi .ne v203 c0_i32_110
  v204

def k0_off5 (d0 : Dev nD) : Fin 2 → Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v199 : BitVec 32 := Scalar.subi v2 c2_i32_102
  let c8_i32_103 : BitVec 32 := 8#32
  let v200 : BitVec 32 := Scalar.addi v199 c8_i32_103
  let c8_i32_104 : BitVec 32 := 8#32
  let v201 : BitVec 32 := Scalar.remsi v200 c8_i32_104
  ![0, v201.toNat]
def k0_off6 (d0 : Dev nD) : Fin 4 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v199 : BitVec 32 := Scalar.subi v2 c2_i32_102
  let c8_i32_103 : BitVec 32 := 8#32
  let v200 : BitVec 32 := Scalar.addi v199 c8_i32_103
  let c8_i32_104 : BitVec 32 := 8#32
  let v201 : BitVec 32 := Scalar.remsi v200 c8_i32_104
  let c0_i32_2684 : BitVec 32 := 0#32
  let c0_i32_2685 : BitVec 32 := 0#32
  ![0, v201.toNat, 0, 0]
def k0_dev10 : Nat :=
  let c0_i32_2683 : BitVec 32 := 0#32
  let c2_i32_2681 : BitVec 32 := 2#32
  let c1_i32_2682 : BitVec 32 := 1#32
  let v2328 : BitVec 32 := Scalar.muli c2_i32_2681 c1_i32_2682
  let v2329 : BitVec 32 := Scalar.addi c0_i32_2683 v2328
  v2329.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v205 : BitVec 32 := Scalar.subi v2 c3_i32_111
  let c8_i32_112 : BitVec 32 := 8#32
  let v206 : BitVec 32 := Scalar.addi v205 c8_i32_112
  let c8_i32_113 : BitVec 32 := 8#32
  let v207 : BitVec 32 := Scalar.remsi v206 c8_i32_113
  let c0_i32_114 : BitVec 32 := 0#32
  let v208 : BitVec 1 := Scalar.cmpi .ne v207 c0_i32_114
  let v209 : BitVec 32 := Scalar.extui v208
  let c0_i32_119 : BitVec 32 := 0#32
  let v210 : BitVec 1 := Scalar.cmpi .ne v209 c0_i32_119
  v210

def k0_off7 (d0 : Dev nD) : Fin 2 → Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v205 : BitVec 32 := Scalar.subi v2 c3_i32_111
  let c8_i32_112 : BitVec 32 := 8#32
  let v206 : BitVec 32 := Scalar.addi v205 c8_i32_112
  let c8_i32_113 : BitVec 32 := 8#32
  let v207 : BitVec 32 := Scalar.remsi v206 c8_i32_113
  ![0, v207.toNat]
def k0_off8 (d0 : Dev nD) : Fin 4 → Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v205 : BitVec 32 := Scalar.subi v2 c3_i32_111
  let c8_i32_112 : BitVec 32 := 8#32
  let v206 : BitVec 32 := Scalar.addi v205 c8_i32_112
  let c8_i32_113 : BitVec 32 := 8#32
  let v207 : BitVec 32 := Scalar.remsi v206 c8_i32_113
  let c0_i32_2684 : BitVec 32 := 0#32
  let c0_i32_2685 : BitVec 32 := 0#32
  ![0, v207.toNat, 0, 0]
def k0_dev11 : Nat :=
  let c0_i32_2683 : BitVec 32 := 0#32
  let c3_i32_2681 : BitVec 32 := 3#32
  let c1_i32_2682 : BitVec 32 := 1#32
  let v2328 : BitVec 32 := Scalar.muli c3_i32_2681 c1_i32_2682
  let v2329 : BitVec 32 := Scalar.addi c0_i32_2683 v2328
  v2329.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v211 : BitVec 32 := Scalar.subi v2 c4_i32_120
  let c8_i32_121 : BitVec 32 := 8#32
  let v212 : BitVec 32 := Scalar.addi v211 c8_i32_121
  let c8_i32_122 : BitVec 32 := 8#32
  let v213 : BitVec 32 := Scalar.remsi v212 c8_i32_122
  let c0_i32_123 : BitVec 32 := 0#32
  let v214 : BitVec 1 := Scalar.cmpi .ne v213 c0_i32_123
  let v215 : BitVec 32 := Scalar.extui v214
  let c0_i32_128 : BitVec 32 := 0#32
  let v216 : BitVec 1 := Scalar.cmpi .ne v215 c0_i32_128
  v216

def k0_off9 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v211 : BitVec 32 := Scalar.subi v2 c4_i32_120
  let c8_i32_121 : BitVec 32 := 8#32
  let v212 : BitVec 32 := Scalar.addi v211 c8_i32_121
  let c8_i32_122 : BitVec 32 := 8#32
  let v213 : BitVec 32 := Scalar.remsi v212 c8_i32_122
  ![0, v213.toNat]
def k0_off10 (d0 : Dev nD) : Fin 4 → Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v211 : BitVec 32 := Scalar.subi v2 c4_i32_120
  let c8_i32_121 : BitVec 32 := 8#32
  let v212 : BitVec 32 := Scalar.addi v211 c8_i32_121
  let c8_i32_122 : BitVec 32 := 8#32
  let v213 : BitVec 32 := Scalar.remsi v212 c8_i32_122
  let c0_i32_2684 : BitVec 32 := 0#32
  let c0_i32_2685 : BitVec 32 := 0#32
  ![0, v213.toNat, 0, 0]
def k0_dev12 : Nat :=
  let c0_i32_2683 : BitVec 32 := 0#32
  let c4_i32_2681 : BitVec 32 := 4#32
  let c1_i32_2682 : BitVec 32 := 1#32
  let v2328 : BitVec 32 := Scalar.muli c4_i32_2681 c1_i32_2682
  let v2329 : BitVec 32 := Scalar.addi c0_i32_2683 v2328
  v2329.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v217 : BitVec 32 := Scalar.subi v2 c5_i32_129
  let c8_i32_130 : BitVec 32 := 8#32
  let v218 : BitVec 32 := Scalar.addi v217 c8_i32_130
  let c8_i32_131 : BitVec 32 := 8#32
  let v219 : BitVec 32 := Scalar.remsi v218 c8_i32_131
  let c0_i32_132 : BitVec 32 := 0#32
  let v220 : BitVec 1 := Scalar.cmpi .ne v219 c0_i32_132
  let v221 : BitVec 32 := Scalar.extui v220
  let c0_i32_137 : BitVec 32 := 0#32
  let v222 : BitVec 1 := Scalar.cmpi .ne v221 c0_i32_137
  v222

def k0_off11 (d0 : Dev nD) : Fin 2 → Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v217 : BitVec 32 := Scalar.subi v2 c5_i32_129
  let c8_i32_130 : BitVec 32 := 8#32
  let v218 : BitVec 32 := Scalar.addi v217 c8_i32_130
  let c8_i32_131 : BitVec 32 := 8#32
  let v219 : BitVec 32 := Scalar.remsi v218 c8_i32_131
  ![0, v219.toNat]
def k0_off12 (d0 : Dev nD) : Fin 4 → Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v217 : BitVec 32 := Scalar.subi v2 c5_i32_129
  let c8_i32_130 : BitVec 32 := 8#32
  let v218 : BitVec 32 := Scalar.addi v217 c8_i32_130
  let c8_i32_131 : BitVec 32 := 8#32
  let v219 : BitVec 32 := Scalar.remsi v218 c8_i32_131
  let c0_i32_2684 : BitVec 32 := 0#32
  let c0_i32_2685 : BitVec 32 := 0#32
  ![0, v219.toNat, 0, 0]
def k0_dev13 : Nat :=
  let c0_i32_2683 : BitVec 32 := 0#32
  let c5_i32_2681 : BitVec 32 := 5#32
  let c1_i32_2682 : BitVec 32 := 1#32
  let v2328 : BitVec 32 := Scalar.muli c5_i32_2681 c1_i32_2682
  let v2329 : BitVec 32 := Scalar.addi c0_i32_2683 v2328
  v2329.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v223 : BitVec 32 := Scalar.subi v2 c6_i32_138
  let c8_i32_139 : BitVec 32 := 8#32
  let v224 : BitVec 32 := Scalar.addi v223 c8_i32_139
  let c8_i32_140 : BitVec 32 := 8#32
  let v225 : BitVec 32 := Scalar.remsi v224 c8_i32_140
  let c0_i32_141 : BitVec 32 := 0#32
  let v226 : BitVec 1 := Scalar.cmpi .ne v225 c0_i32_141
  let v227 : BitVec 32 := Scalar.extui v226
  let c0_i32_146 : BitVec 32 := 0#32
  let v228 : BitVec 1 := Scalar.cmpi .ne v227 c0_i32_146
  v228

def k0_off13 (d0 : Dev nD) : Fin 2 → Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v223 : BitVec 32 := Scalar.subi v2 c6_i32_138
  let c8_i32_139 : BitVec 32 := 8#32
  let v224 : BitVec 32 := Scalar.addi v223 c8_i32_139
  let c8_i32_140 : BitVec 32 := 8#32
  let v225 : BitVec 32 := Scalar.remsi v224 c8_i32_140
  ![0, v225.toNat]
def k0_off14 (d0 : Dev nD) : Fin 4 → Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v223 : BitVec 32 := Scalar.subi v2 c6_i32_138
  let c8_i32_139 : BitVec 32 := 8#32
  let v224 : BitVec 32 := Scalar.addi v223 c8_i32_139
  let c8_i32_140 : BitVec 32 := 8#32
  let v225 : BitVec 32 := Scalar.remsi v224 c8_i32_140
  let c0_i32_2684 : BitVec 32 := 0#32
  let c0_i32_2685 : BitVec 32 := 0#32
  ![0, v225.toNat, 0, 0]
def k0_dev14 : Nat :=
  let c0_i32_2683 : BitVec 32 := 0#32
  let c6_i32_2681 : BitVec 32 := 6#32
  let c1_i32_2682 : BitVec 32 := 1#32
  let v2328 : BitVec 32 := Scalar.muli c6_i32_2681 c1_i32_2682
  let v2329 : BitVec 32 := Scalar.addi c0_i32_2683 v2328
  v2329.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_147 : BitVec 32 := 7#32
  let v229 : BitVec 32 := Scalar.subi v2 c7_i32_147
  let c8_i32_148 : BitVec 32 := 8#32
  let v230 : BitVec 32 := Scalar.addi v229 c8_i32_148
  let c8_i32_149 : BitVec 32 := 8#32
  let v231 : BitVec 32 := Scalar.remsi v230 c8_i32_149
  let c0_i32_150 : BitVec 32 := 0#32
  let v232 : BitVec 1 := Scalar.cmpi .ne v231 c0_i32_150
  let v233 : BitVec 32 := Scalar.extui v232
  let c0_i32_155 : BitVec 32 := 0#32
  let v234 : BitVec 1 := Scalar.cmpi .ne v233 c0_i32_155
  v234

def k0_off15 (d0 : Dev nD) : Fin 2 → Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_147 : BitVec 32 := 7#32
  let v229 : BitVec 32 := Scalar.subi v2 c7_i32_147
  let c8_i32_148 : BitVec 32 := 8#32
  let v230 : BitVec 32 := Scalar.addi v229 c8_i32_148
  let c8_i32_149 : BitVec 32 := 8#32
  let v231 : BitVec 32 := Scalar.remsi v230 c8_i32_149
  ![0, v231.toNat]
def k0_off16 (d0 : Dev nD) : Fin 4 → Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_147 : BitVec 32 := 7#32
  let v229 : BitVec 32 := Scalar.subi v2 c7_i32_147
  let c8_i32_148 : BitVec 32 := 8#32
  let v230 : BitVec 32 := Scalar.addi v229 c8_i32_148
  let c8_i32_149 : BitVec 32 := 8#32
  let v231 : BitVec 32 := Scalar.remsi v230 c8_i32_149
  let c0_i32_2684 : BitVec 32 := 0#32
  let c0_i32_2685 : BitVec 32 := 0#32
  ![0, v231.toNat, 0, 0]
def k0_dev15 : Nat :=
  let c0_i32_2683 : BitVec 32 := 0#32
  let c7_i32_2681 : BitVec 32 := 7#32
  let c1_i32_2682 : BitVec 32 := 1#32
  let v2328 : BitVec 32 := Scalar.muli c7_i32_2681 c1_i32_2682
  let v2329 : BitVec 32 := Scalar.addi c0_i32_2683 v2328
  v2329.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_211 : BitVec 32 := 0#32
  let v390 : BitVec 32 := Scalar.subi v2 c0_i32_211
  let c8_i32_212 : BitVec 32 := 8#32
  let v391 : BitVec 32 := Scalar.addi v390 c8_i32_212
  let c8_i32_213 : BitVec 32 := 8#32
  let v392 : BitVec 32 := Scalar.remsi v391 c8_i32_213
  let c0_i32_214 : BitVec 32 := 0#32
  let v393 : BitVec 1 := Scalar.cmpi .ne v392 c0_i32_214
  let v394 : BitVec 32 := Scalar.extui v393
  let c0_i32_219 : BitVec 32 := 0#32
  let v395 : BitVec 1 := Scalar.cmpi .ne v394 c0_i32_219
  v395

def k0_off17 (d0 : Dev nD) : Fin 2 → Nat :=
  let c1_i32_216 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_211 : BitVec 32 := 0#32
  let v390 : BitVec 32 := Scalar.subi v2 c0_i32_211
  let c8_i32_212 : BitVec 32 := 8#32
  let v391 : BitVec 32 := Scalar.addi v390 c8_i32_212
  let c8_i32_213 : BitVec 32 := 8#32
  let v392 : BitVec 32 := Scalar.remsi v391 c8_i32_213
  ![1, v392.toNat]
def k0_off18 (d0 : Dev nD) : Fin 4 → Nat :=
  let c1_i32_215 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_211 : BitVec 32 := 0#32
  let v390 : BitVec 32 := Scalar.subi v2 c0_i32_211
  let c8_i32_212 : BitVec 32 := 8#32
  let v391 : BitVec 32 := Scalar.addi v390 c8_i32_212
  let c8_i32_213 : BitVec 32 := 8#32
  let v392 : BitVec 32 := Scalar.remsi v391 c8_i32_213
  let c0_i32_2684 : BitVec 32 := 0#32
  let c0_i32_2685 : BitVec 32 := 0#32
  ![1, v392.toNat, 0, 0]
def k0_dev16 : Nat :=
  let c0_i32_2683 : BitVec 32 := 0#32
  let c0_i32_2681 : BitVec 32 := 0#32
  let c1_i32_2682 : BitVec 32 := 1#32
  let v2328 : BitVec 32 := Scalar.muli c0_i32_2681 c1_i32_2682
  let v2329 : BitVec 32 := Scalar.addi c0_i32_2683 v2328
  v2329.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v396 : BitVec 32 := Scalar.subi v2 c1_i32_220
  let c8_i32_221 : BitVec 32 := 8#32
  let v397 : BitVec 32 := Scalar.addi v396 c8_i32_221
  let c8_i32_222 : BitVec 32 := 8#32
  let v398 : BitVec 32 := Scalar.remsi v397 c8_i32_222
  let c0_i32_223 : BitVec 32 := 0#32
  let v399 : BitVec 1 := Scalar.cmpi .ne v398 c0_i32_223
  let v400 : BitVec 32 := Scalar.extui v399
  let c0_i32_228 : BitVec 32 := 0#32
  let v401 : BitVec 1 := Scalar.cmpi .ne v400 c0_i32_228
  v401

def k0_off19 (d0 : Dev nD) : Fin 2 → Nat :=
  let c1_i32_225 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v396 : BitVec 32 := Scalar.subi v2 c1_i32_220
  let c8_i32_221 : BitVec 32 := 8#32
  let v397 : BitVec 32 := Scalar.addi v396 c8_i32_221
  let c8_i32_222 : BitVec 32 := 8#32
  let v398 : BitVec 32 := Scalar.remsi v397 c8_i32_222
  ![1, v398.toNat]
def k0_off20 (d0 : Dev nD) : Fin 4 → Nat :=
  let c1_i32_224 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v396 : BitVec 32 := Scalar.subi v2 c1_i32_220
  let c8_i32_221 : BitVec 32 := 8#32
  let v397 : BitVec 32 := Scalar.addi v396 c8_i32_221
  let c8_i32_222 : BitVec 32 := 8#32
  let v398 : BitVec 32 := Scalar.remsi v397 c8_i32_222
  let c0_i32_2684 : BitVec 32 := 0#32
  let c0_i32_2685 : BitVec 32 := 0#32
  ![1, v398.toNat, 0, 0]
def k0_dev17 : Nat :=
  let c0_i32_2683 : BitVec 32 := 0#32
  let c1_i32_2681 : BitVec 32 := 1#32
  let c1_i32_2682 : BitVec 32 := 1#32
  let v2328 : BitVec 32 := Scalar.muli c1_i32_2681 c1_i32_2682
  let v2329 : BitVec 32 := Scalar.addi c0_i32_2683 v2328
  v2329.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v402 : BitVec 32 := Scalar.subi v2 c2_i32_229
  let c8_i32_230 : BitVec 32 := 8#32
  let v403 : BitVec 32 := Scalar.addi v402 c8_i32_230
  let c8_i32_231 : BitVec 32 := 8#32
  let v404 : BitVec 32 := Scalar.remsi v403 c8_i32_231
  let c0_i32_232 : BitVec 32 := 0#32
  let v405 : BitVec 1 := Scalar.cmpi .ne v404 c0_i32_232
  let v406 : BitVec 32 := Scalar.extui v405
  let c0_i32_237 : BitVec 32 := 0#32
  let v407 : BitVec 1 := Scalar.cmpi .ne v406 c0_i32_237
  v407

def k0_off21 (d0 : Dev nD) : Fin 2 → Nat :=
  let c1_i32_234 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v402 : BitVec 32 := Scalar.subi v2 c2_i32_229
  let c8_i32_230 : BitVec 32 := 8#32
  let v403 : BitVec 32 := Scalar.addi v402 c8_i32_230
  let c8_i32_231 : BitVec 32 := 8#32
  let v404 : BitVec 32 := Scalar.remsi v403 c8_i32_231
  ![1, v404.toNat]
def k0_off22 (d0 : Dev nD) : Fin 4 → Nat :=
  let c1_i32_233 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v402 : BitVec 32 := Scalar.subi v2 c2_i32_229
  let c8_i32_230 : BitVec 32 := 8#32
  let v403 : BitVec 32 := Scalar.addi v402 c8_i32_230
  let c8_i32_231 : BitVec 32 := 8#32
  let v404 : BitVec 32 := Scalar.remsi v403 c8_i32_231
  let c0_i32_2684 : BitVec 32 := 0#32
  let c0_i32_2685 : BitVec 32 := 0#32
  ![1, v404.toNat, 0, 0]
def k0_dev18 : Nat :=
  let c0_i32_2683 : BitVec 32 := 0#32
  let c2_i32_2681 : BitVec 32 := 2#32
  let c1_i32_2682 : BitVec 32 := 1#32
  let v2328 : BitVec 32 := Scalar.muli c2_i32_2681 c1_i32_2682
  let v2329 : BitVec 32 := Scalar.addi c0_i32_2683 v2328
  v2329.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v408 : BitVec 32 := Scalar.subi v2 c3_i32_238
  let c8_i32_239 : BitVec 32 := 8#32
  let v409 : BitVec 32 := Scalar.addi v408 c8_i32_239
  let c8_i32_240 : BitVec 32 := 8#32
  let v410 : BitVec 32 := Scalar.remsi v409 c8_i32_240
  let c0_i32_241 : BitVec 32 := 0#32
  let v411 : BitVec 1 := Scalar.cmpi .ne v410 c0_i32_241
  let v412 : BitVec 32 := Scalar.extui v411
  let c0_i32_246 : BitVec 32 := 0#32
  let v413 : BitVec 1 := Scalar.cmpi .ne v412 c0_i32_246
  v413

def k0_off23 (d0 : Dev nD) : Fin 2 → Nat :=
  let c1_i32_243 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v408 : BitVec 32 := Scalar.subi v2 c3_i32_238
  let c8_i32_239 : BitVec 32 := 8#32
  let v409 : BitVec 32 := Scalar.addi v408 c8_i32_239
  let c8_i32_240 : BitVec 32 := 8#32
  let v410 : BitVec 32 := Scalar.remsi v409 c8_i32_240
  ![1, v410.toNat]
def k0_off24 (d0 : Dev nD) : Fin 4 → Nat :=
  let c1_i32_242 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v408 : BitVec 32 := Scalar.subi v2 c3_i32_238
  let c8_i32_239 : BitVec 32 := 8#32
  let v409 : BitVec 32 := Scalar.addi v408 c8_i32_239
  let c8_i32_240 : BitVec 32 := 8#32
  let v410 : BitVec 32 := Scalar.remsi v409 c8_i32_240
  let c0_i32_2684 : BitVec 32 := 0#32
  let c0_i32_2685 : BitVec 32 := 0#32
  ![1, v410.toNat, 0, 0]
def k0_dev19 : Nat :=
  let c0_i32_2683 : BitVec 32 := 0#32
  let c3_i32_2681 : BitVec 32 := 3#32
  let c1_i32_2682 : BitVec 32 := 1#32
  let v2328 : BitVec 32 := Scalar.muli c3_i32_2681 c1_i32_2682
  let v2329 : BitVec 32 := Scalar.addi c0_i32_2683 v2328
  v2329.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v414 : BitVec 32 := Scalar.subi v2 c4_i32_247
  let c8_i32_248 : BitVec 32 := 8#32
  let v415 : BitVec 32 := Scalar.addi v414 c8_i32_248
  let c8_i32_249 : BitVec 32 := 8#32
  let v416 : BitVec 32 := Scalar.remsi v415 c8_i32_249
  let c0_i32_250 : BitVec 32 := 0#32
  let v417 : BitVec 1 := Scalar.cmpi .ne v416 c0_i32_250
  let v418 : BitVec 32 := Scalar.extui v417
  let c0_i32_255 : BitVec 32 := 0#32
  let v419 : BitVec 1 := Scalar.cmpi .ne v418 c0_i32_255
  v419

def k0_off25 (d0 : Dev nD) : Fin 2 → Nat :=
  let c1_i32_252 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v414 : BitVec 32 := Scalar.subi v2 c4_i32_247
  let c8_i32_248 : BitVec 32 := 8#32
  let v415 : BitVec 32 := Scalar.addi v414 c8_i32_248
  let c8_i32_249 : BitVec 32 := 8#32
  let v416 : BitVec 32 := Scalar.remsi v415 c8_i32_249
  ![1, v416.toNat]
def k0_off26 (d0 : Dev nD) : Fin 4 → Nat :=
  let c1_i32_251 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v414 : BitVec 32 := Scalar.subi v2 c4_i32_247
  let c8_i32_248 : BitVec 32 := 8#32
  let v415 : BitVec 32 := Scalar.addi v414 c8_i32_248
  let c8_i32_249 : BitVec 32 := 8#32
  let v416 : BitVec 32 := Scalar.remsi v415 c8_i32_249
  let c0_i32_2684 : BitVec 32 := 0#32
  let c0_i32_2685 : BitVec 32 := 0#32
  ![1, v416.toNat, 0, 0]
def k0_dev20 : Nat :=
  let c0_i32_2683 : BitVec 32 := 0#32
  let c4_i32_2681 : BitVec 32 := 4#32
  let c1_i32_2682 : BitVec 32 := 1#32
  let v2328 : BitVec 32 := Scalar.muli c4_i32_2681 c1_i32_2682
  let v2329 : BitVec 32 := Scalar.addi c0_i32_2683 v2328
  v2329.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_256 : BitVec 32 := 5#32
  let v420 : BitVec 32 := Scalar.subi v2 c5_i32_256
  let c8_i32_257 : BitVec 32 := 8#32
  let v421 : BitVec 32 := Scalar.addi v420 c8_i32_257
  let c8_i32_258 : BitVec 32 := 8#32
  let v422 : BitVec 32 := Scalar.remsi v421 c8_i32_258
  let c0_i32_259 : BitVec 32 := 0#32
  let v423 : BitVec 1 := Scalar.cmpi .ne v422 c0_i32_259
  let v424 : BitVec 32 := Scalar.extui v423
  let c0_i32_264 : BitVec 32 := 0#32
  let v425 : BitVec 1 := Scalar.cmpi .ne v424 c0_i32_264
  v425

def k0_off27 (d0 : Dev nD) : Fin 2 → Nat :=
  let c1_i32_261 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_256 : BitVec 32 := 5#32
  let v420 : BitVec 32 := Scalar.subi v2 c5_i32_256
  let c8_i32_257 : BitVec 32 := 8#32
  let v421 : BitVec 32 := Scalar.addi v420 c8_i32_257
  let c8_i32_258 : BitVec 32 := 8#32
  let v422 : BitVec 32 := Scalar.remsi v421 c8_i32_258
  ![1, v422.toNat]
def k0_off28 (d0 : Dev nD) : Fin 4 → Nat :=
  let c1_i32_260 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_256 : BitVec 32 := 5#32
  let v420 : BitVec 32 := Scalar.subi v2 c5_i32_256
  let c8_i32_257 : BitVec 32 := 8#32
  let v421 : BitVec 32 := Scalar.addi v420 c8_i32_257
  let c8_i32_258 : BitVec 32 := 8#32
  let v422 : BitVec 32 := Scalar.remsi v421 c8_i32_258
  let c0_i32_2684 : BitVec 32 := 0#32
  let c0_i32_2685 : BitVec 32 := 0#32
  ![1, v422.toNat, 0, 0]
def k0_dev21 : Nat :=
  let c0_i32_2683 : BitVec 32 := 0#32
  let c5_i32_2681 : BitVec 32 := 5#32
  let c1_i32_2682 : BitVec 32 := 1#32
  let v2328 : BitVec 32 := Scalar.muli c5_i32_2681 c1_i32_2682
  let v2329 : BitVec 32 := Scalar.addi c0_i32_2683 v2328
  v2329.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_265 : BitVec 32 := 6#32
  let v426 : BitVec 32 := Scalar.subi v2 c6_i32_265
  let c8_i32_266 : BitVec 32 := 8#32
  let v427 : BitVec 32 := Scalar.addi v426 c8_i32_266
  let c8_i32_267 : BitVec 32 := 8#32
  let v428 : BitVec 32 := Scalar.remsi v427 c8_i32_267
  let c0_i32_268 : BitVec 32 := 0#32
  let v429 : BitVec 1 := Scalar.cmpi .ne v428 c0_i32_268
  let v430 : BitVec 32 := Scalar.extui v429
  let c0_i32_273 : BitVec 32 := 0#32
  let v431 : BitVec 1 := Scalar.cmpi .ne v430 c0_i32_273
  v431

def k0_off29 (d0 : Dev nD) : Fin 2 → Nat :=
  let c1_i32_270 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_265 : BitVec 32 := 6#32
  let v426 : BitVec 32 := Scalar.subi v2 c6_i32_265
  let c8_i32_266 : BitVec 32 := 8#32
  let v427 : BitVec 32 := Scalar.addi v426 c8_i32_266
  let c8_i32_267 : BitVec 32 := 8#32
  let v428 : BitVec 32 := Scalar.remsi v427 c8_i32_267
  ![1, v428.toNat]
def k0_off30 (d0 : Dev nD) : Fin 4 → Nat :=
  let c1_i32_269 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_265 : BitVec 32 := 6#32
  let v426 : BitVec 32 := Scalar.subi v2 c6_i32_265
  let c8_i32_266 : BitVec 32 := 8#32
  let v427 : BitVec 32 := Scalar.addi v426 c8_i32_266
  let c8_i32_267 : BitVec 32 := 8#32
  let v428 : BitVec 32 := Scalar.remsi v427 c8_i32_267
  let c0_i32_2684 : BitVec 32 := 0#32
  let c0_i32_2685 : BitVec 32 := 0#32
  ![1, v428.toNat, 0, 0]
def k0_dev22 : Nat :=
  let c0_i32_2683 : BitVec 32 := 0#32
  let c6_i32_2681 : BitVec 32 := 6#32
  let c1_i32_2682 : BitVec 32 := 1#32
  let v2328 : BitVec 32 := Scalar.muli c6_i32_2681 c1_i32_2682
  let v2329 : BitVec 32 := Scalar.addi c0_i32_2683 v2328
  v2329.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v432 : BitVec 32 := Scalar.subi v2 c7_i32_274
  let c8_i32_275 : BitVec 32 := 8#32
  let v433 : BitVec 32 := Scalar.addi v432 c8_i32_275
  let c8_i32_276 : BitVec 32 := 8#32
  let v434 : BitVec 32 := Scalar.remsi v433 c8_i32_276
  let c0_i32_277 : BitVec 32 := 0#32
  let v435 : BitVec 1 := Scalar.cmpi .ne v434 c0_i32_277
  let v436 : BitVec 32 := Scalar.extui v435
  let c0_i32_282 : BitVec 32 := 0#32
  let v437 : BitVec 1 := Scalar.cmpi .ne v436 c0_i32_282
  v437

def k0_off31 (d0 : Dev nD) : Fin 2 → Nat :=
  let c1_i32_279 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v432 : BitVec 32 := Scalar.subi v2 c7_i32_274
  let c8_i32_275 : BitVec 32 := 8#32
  let v433 : BitVec 32 := Scalar.addi v432 c8_i32_275
  let c8_i32_276 : BitVec 32 := 8#32
  let v434 : BitVec 32 := Scalar.remsi v433 c8_i32_276
  ![1, v434.toNat]
def k0_off32 (d0 : Dev nD) : Fin 4 → Nat :=
  let c1_i32_278 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v432 : BitVec 32 := Scalar.subi v2 c7_i32_274
  let c8_i32_275 : BitVec 32 := 8#32
  let v433 : BitVec 32 := Scalar.addi v432 c8_i32_275
  let c8_i32_276 : BitVec 32 := 8#32
  let v434 : BitVec 32 := Scalar.remsi v433 c8_i32_276
  let c0_i32_2684 : BitVec 32 := 0#32
  let c0_i32_2685 : BitVec 32 := 0#32
  ![1, v434.toNat, 0, 0]
def k0_dev23 : Nat :=
  let c0_i32_2683 : BitVec 32 := 0#32
  let c7_i32_2681 : BitVec 32 := 7#32
  let c1_i32_2682 : BitVec 32 := 1#32
  let v2328 : BitVec 32 := Scalar.muli c7_i32_2681 c1_i32_2682
  let v2329 : BitVec 32 := Scalar.addi c0_i32_2683 v2328
  v2329.toNat
def k0_off33 (d0 : Dev nD) (c0_i32_381 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v494 : BitVec 32 := Scalar.muli v2 c32_i32
  let v495 : BitVec 32 := Scalar.addi c0_i32_381 v494
  let v496 : Index := Scalar.indexCast v495
  let c0_382 : Index := 0#32
  ![v496.toNat, 0]
def k0_dev24 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_409 : BitVec 32 := 1#32
  let v533 : BitVec 32 := Scalar.subi v2 c1_i32_409
  let c8_i32_410 : BitVec 32 := 8#32
  let v534 : BitVec 32 := Scalar.addi v533 c8_i32_410
  let c8_i32_411 : BitVec 32 := 8#32
  let v535 : BitVec 32 := Scalar.remsi v534 c8_i32_411
  let c1_i32_419 : BitVec 32 := 1#32
  let v536 : BitVec 32 := Scalar.muli v535 c1_i32_419
  let v537 : BitVec 32 := Scalar.addi c0_i32_420 v536
  v537.toNat
def k0_dev25 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_425 : BitVec 32 := 2#32
  let v546 : BitVec 32 := Scalar.subi v2 c2_i32_425
  let c8_i32_426 : BitVec 32 := 8#32
  let v547 : BitVec 32 := Scalar.addi v546 c8_i32_426
  let c8_i32_427 : BitVec 32 := 8#32
  let v548 : BitVec 32 := Scalar.remsi v547 c8_i32_427
  let c1_i32_435 : BitVec 32 := 1#32
  let v549 : BitVec 32 := Scalar.muli v548 c1_i32_435
  let v550 : BitVec 32 := Scalar.addi c0_i32_436 v549
  v550.toNat
def k0_dev26 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_441 : BitVec 32 := 3#32
  let v559 : BitVec 32 := Scalar.subi v2 c3_i32_441
  let c8_i32_442 : BitVec 32 := 8#32
  let v560 : BitVec 32 := Scalar.addi v559 c8_i32_442
  let c8_i32_443 : BitVec 32 := 8#32
  let v561 : BitVec 32 := Scalar.remsi v560 c8_i32_443
  let c1_i32_451 : BitVec 32 := 1#32
  let v562 : BitVec 32 := Scalar.muli v561 c1_i32_451
  let v563 : BitVec 32 := Scalar.addi c0_i32_452 v562
  v563.toNat
def k0_dev27 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_457 : BitVec 32 := 4#32
  let v572 : BitVec 32 := Scalar.subi v2 c4_i32_457
  let c8_i32_458 : BitVec 32 := 8#32
  let v573 : BitVec 32 := Scalar.addi v572 c8_i32_458
  let c8_i32_459 : BitVec 32 := 8#32
  let v574 : BitVec 32 := Scalar.remsi v573 c8_i32_459
  let c1_i32_467 : BitVec 32 := 1#32
  let v575 : BitVec 32 := Scalar.muli v574 c1_i32_467
  let v576 : BitVec 32 := Scalar.addi c0_i32_468 v575
  v576.toNat
def k0_dev28 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_473 : BitVec 32 := 5#32
  let v585 : BitVec 32 := Scalar.subi v2 c5_i32_473
  let c8_i32_474 : BitVec 32 := 8#32
  let v586 : BitVec 32 := Scalar.addi v585 c8_i32_474
  let c8_i32_475 : BitVec 32 := 8#32
  let v587 : BitVec 32 := Scalar.remsi v586 c8_i32_475
  let c1_i32_483 : BitVec 32 := 1#32
  let v588 : BitVec 32 := Scalar.muli v587 c1_i32_483
  let v589 : BitVec 32 := Scalar.addi c0_i32_484 v588
  v589.toNat
def k0_dev29 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_489 : BitVec 32 := 6#32
  let v598 : BitVec 32 := Scalar.subi v2 c6_i32_489
  let c8_i32_490 : BitVec 32 := 8#32
  let v599 : BitVec 32 := Scalar.addi v598 c8_i32_490
  let c8_i32_491 : BitVec 32 := 8#32
  let v600 : BitVec 32 := Scalar.remsi v599 c8_i32_491
  let c1_i32_499 : BitVec 32 := 1#32
  let v601 : BitVec 32 := Scalar.muli v600 c1_i32_499
  let v602 : BitVec 32 := Scalar.addi c0_i32_500 v601
  v602.toNat
def k0_dev30 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_505 : BitVec 32 := 7#32
  let v611 : BitVec 32 := Scalar.subi v2 c7_i32_505
  let c8_i32_506 : BitVec 32 := 8#32
  let v612 : BitVec 32 := Scalar.addi v611 c8_i32_506
  let c8_i32_507 : BitVec 32 := 8#32
  let v613 : BitVec 32 := Scalar.remsi v612 c8_i32_507
  let c1_i32_515 : BitVec 32 := 1#32
  let v614 : BitVec 32 := Scalar.muli v613 c1_i32_515
  let v615 : BitVec 32 := Scalar.addi c0_i32_516 v614
  v615.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_577 : BitVec 32 := 0#32
  let v779 : BitVec 32 := Scalar.subi v2 c0_i32_577
  let c8_i32_578 : BitVec 32 := 8#32
  let v780 : BitVec 32 := Scalar.addi v779 c8_i32_578
  let c8_i32_579 : BitVec 32 := 8#32
  let v781 : BitVec 32 := Scalar.remsi v780 c8_i32_579
  let c0_i32_580 : BitVec 32 := 0#32
  let v782 : BitVec 1 := Scalar.cmpi .ne v781 c0_i32_580
  let v783 : BitVec 32 := Scalar.extui v782
  let c0_i32_585 : BitVec 32 := 0#32
  let v784 : BitVec 1 := Scalar.cmpi .ne v783 c0_i32_585
  v784

def k0_off34 (d0 : Dev nD) : Fin 2 → Nat :=
  let c2_i32_582 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_577 : BitVec 32 := 0#32
  let v779 : BitVec 32 := Scalar.subi v2 c0_i32_577
  let c8_i32_578 : BitVec 32 := 8#32
  let v780 : BitVec 32 := Scalar.addi v779 c8_i32_578
  let c8_i32_579 : BitVec 32 := 8#32
  let v781 : BitVec 32 := Scalar.remsi v780 c8_i32_579
  ![2, v781.toNat]
def k0_off35 (d0 : Dev nD) : Fin 4 → Nat :=
  let c2_i32_581 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_577 : BitVec 32 := 0#32
  let v779 : BitVec 32 := Scalar.subi v2 c0_i32_577
  let c8_i32_578 : BitVec 32 := 8#32
  let v780 : BitVec 32 := Scalar.addi v779 c8_i32_578
  let c8_i32_579 : BitVec 32 := 8#32
  let v781 : BitVec 32 := Scalar.remsi v780 c8_i32_579
  let c0_i32_2684 : BitVec 32 := 0#32
  let c0_i32_2685 : BitVec 32 := 0#32
  ![2, v781.toNat, 0, 0]
def k0_dev31 : Nat :=
  let c0_i32_2683 : BitVec 32 := 0#32
  let c0_i32_2681 : BitVec 32 := 0#32
  let c1_i32_2682 : BitVec 32 := 1#32
  let v2328 : BitVec 32 := Scalar.muli c0_i32_2681 c1_i32_2682
  let v2329 : BitVec 32 := Scalar.addi c0_i32_2683 v2328
  v2329.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v785 : BitVec 32 := Scalar.subi v2 c1_i32_586
  let c8_i32_587 : BitVec 32 := 8#32
  let v786 : BitVec 32 := Scalar.addi v785 c8_i32_587
  let c8_i32_588 : BitVec 32 := 8#32
  let v787 : BitVec 32 := Scalar.remsi v786 c8_i32_588
  let c0_i32_589 : BitVec 32 := 0#32
  let v788 : BitVec 1 := Scalar.cmpi .ne v787 c0_i32_589
  let v789 : BitVec 32 := Scalar.extui v788
  let c0_i32_594 : BitVec 32 := 0#32
  let v790 : BitVec 1 := Scalar.cmpi .ne v789 c0_i32_594
  v790

def k0_off36 (d0 : Dev nD) : Fin 2 → Nat :=
  let c2_i32_591 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v785 : BitVec 32 := Scalar.subi v2 c1_i32_586
  let c8_i32_587 : BitVec 32 := 8#32
  let v786 : BitVec 32 := Scalar.addi v785 c8_i32_587
  let c8_i32_588 : BitVec 32 := 8#32
  let v787 : BitVec 32 := Scalar.remsi v786 c8_i32_588
  ![2, v787.toNat]
def k0_off37 (d0 : Dev nD) : Fin 4 → Nat :=
  let c2_i32_590 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v785 : BitVec 32 := Scalar.subi v2 c1_i32_586
  let c8_i32_587 : BitVec 32 := 8#32
  let v786 : BitVec 32 := Scalar.addi v785 c8_i32_587
  let c8_i32_588 : BitVec 32 := 8#32
  let v787 : BitVec 32 := Scalar.remsi v786 c8_i32_588
  let c0_i32_2684 : BitVec 32 := 0#32
  let c0_i32_2685 : BitVec 32 := 0#32
  ![2, v787.toNat, 0, 0]
def k0_dev32 : Nat :=
  let c0_i32_2683 : BitVec 32 := 0#32
  let c1_i32_2681 : BitVec 32 := 1#32
  let c1_i32_2682 : BitVec 32 := 1#32
  let v2328 : BitVec 32 := Scalar.muli c1_i32_2681 c1_i32_2682
  let v2329 : BitVec 32 := Scalar.addi c0_i32_2683 v2328
  v2329.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v791 : BitVec 32 := Scalar.subi v2 c2_i32_595
  let c8_i32_596 : BitVec 32 := 8#32
  let v792 : BitVec 32 := Scalar.addi v791 c8_i32_596
  let c8_i32_597 : BitVec 32 := 8#32
  let v793 : BitVec 32 := Scalar.remsi v792 c8_i32_597
  let c0_i32_598 : BitVec 32 := 0#32
  let v794 : BitVec 1 := Scalar.cmpi .ne v793 c0_i32_598
  let v795 : BitVec 32 := Scalar.extui v794
  let c0_i32_603 : BitVec 32 := 0#32
  let v796 : BitVec 1 := Scalar.cmpi .ne v795 c0_i32_603
  v796

def k0_off38 (d0 : Dev nD) : Fin 2 → Nat :=
  let c2_i32_600 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v791 : BitVec 32 := Scalar.subi v2 c2_i32_595
  let c8_i32_596 : BitVec 32 := 8#32
  let v792 : BitVec 32 := Scalar.addi v791 c8_i32_596
  let c8_i32_597 : BitVec 32 := 8#32
  let v793 : BitVec 32 := Scalar.remsi v792 c8_i32_597
  ![2, v793.toNat]
def k0_off39 (d0 : Dev nD) : Fin 4 → Nat :=
  let c2_i32_599 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v791 : BitVec 32 := Scalar.subi v2 c2_i32_595
  let c8_i32_596 : BitVec 32 := 8#32
  let v792 : BitVec 32 := Scalar.addi v791 c8_i32_596
  let c8_i32_597 : BitVec 32 := 8#32
  let v793 : BitVec 32 := Scalar.remsi v792 c8_i32_597
  let c0_i32_2684 : BitVec 32 := 0#32
  let c0_i32_2685 : BitVec 32 := 0#32
  ![2, v793.toNat, 0, 0]
def k0_dev33 : Nat :=
  let c0_i32_2683 : BitVec 32 := 0#32
  let c2_i32_2681 : BitVec 32 := 2#32
  let c1_i32_2682 : BitVec 32 := 1#32
  let v2328 : BitVec 32 := Scalar.muli c2_i32_2681 c1_i32_2682
  let v2329 : BitVec 32 := Scalar.addi c0_i32_2683 v2328
  v2329.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v797 : BitVec 32 := Scalar.subi v2 c3_i32_604
  let c8_i32_605 : BitVec 32 := 8#32
  let v798 : BitVec 32 := Scalar.addi v797 c8_i32_605
  let c8_i32_606 : BitVec 32 := 8#32
  let v799 : BitVec 32 := Scalar.remsi v798 c8_i32_606
  let c0_i32_607 : BitVec 32 := 0#32
  let v800 : BitVec 1 := Scalar.cmpi .ne v799 c0_i32_607
  let v801 : BitVec 32 := Scalar.extui v800
  let c0_i32_612 : BitVec 32 := 0#32
  let v802 : BitVec 1 := Scalar.cmpi .ne v801 c0_i32_612
  v802

def k0_off40 (d0 : Dev nD) : Fin 2 → Nat :=
  let c2_i32_609 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v797 : BitVec 32 := Scalar.subi v2 c3_i32_604
  let c8_i32_605 : BitVec 32 := 8#32
  let v798 : BitVec 32 := Scalar.addi v797 c8_i32_605
  let c8_i32_606 : BitVec 32 := 8#32
  let v799 : BitVec 32 := Scalar.remsi v798 c8_i32_606
  ![2, v799.toNat]
def k0_off41 (d0 : Dev nD) : Fin 4 → Nat :=
  let c2_i32_608 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v797 : BitVec 32 := Scalar.subi v2 c3_i32_604
  let c8_i32_605 : BitVec 32 := 8#32
  let v798 : BitVec 32 := Scalar.addi v797 c8_i32_605
  let c8_i32_606 : BitVec 32 := 8#32
  let v799 : BitVec 32 := Scalar.remsi v798 c8_i32_606
  let c0_i32_2684 : BitVec 32 := 0#32
  let c0_i32_2685 : BitVec 32 := 0#32
  ![2, v799.toNat, 0, 0]
def k0_dev34 : Nat :=
  let c0_i32_2683 : BitVec 32 := 0#32
  let c3_i32_2681 : BitVec 32 := 3#32
  let c1_i32_2682 : BitVec 32 := 1#32
  let v2328 : BitVec 32 := Scalar.muli c3_i32_2681 c1_i32_2682
  let v2329 : BitVec 32 := Scalar.addi c0_i32_2683 v2328
  v2329.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_613 : BitVec 32 := 4#32
  let v803 : BitVec 32 := Scalar.subi v2 c4_i32_613
  let c8_i32_614 : BitVec 32 := 8#32
  let v804 : BitVec 32 := Scalar.addi v803 c8_i32_614
  let c8_i32_615 : BitVec 32 := 8#32
  let v805 : BitVec 32 := Scalar.remsi v804 c8_i32_615
  let c0_i32_616 : BitVec 32 := 0#32
  let v806 : BitVec 1 := Scalar.cmpi .ne v805 c0_i32_616
  let v807 : BitVec 32 := Scalar.extui v806
  let c0_i32_621 : BitVec 32 := 0#32
  let v808 : BitVec 1 := Scalar.cmpi .ne v807 c0_i32_621
  v808

def k0_off42 (d0 : Dev nD) : Fin 2 → Nat :=
  let c2_i32_618 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_613 : BitVec 32 := 4#32
  let v803 : BitVec 32 := Scalar.subi v2 c4_i32_613
  let c8_i32_614 : BitVec 32 := 8#32
  let v804 : BitVec 32 := Scalar.addi v803 c8_i32_614
  let c8_i32_615 : BitVec 32 := 8#32
  let v805 : BitVec 32 := Scalar.remsi v804 c8_i32_615
  ![2, v805.toNat]
def k0_off43 (d0 : Dev nD) : Fin 4 → Nat :=
  let c2_i32_617 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_613 : BitVec 32 := 4#32
  let v803 : BitVec 32 := Scalar.subi v2 c4_i32_613
  let c8_i32_614 : BitVec 32 := 8#32
  let v804 : BitVec 32 := Scalar.addi v803 c8_i32_614
  let c8_i32_615 : BitVec 32 := 8#32
  let v805 : BitVec 32 := Scalar.remsi v804 c8_i32_615
  let c0_i32_2684 : BitVec 32 := 0#32
  let c0_i32_2685 : BitVec 32 := 0#32
  ![2, v805.toNat, 0, 0]
def k0_dev35 : Nat :=
  let c0_i32_2683 : BitVec 32 := 0#32
  let c4_i32_2681 : BitVec 32 := 4#32
  let c1_i32_2682 : BitVec 32 := 1#32
  let v2328 : BitVec 32 := Scalar.muli c4_i32_2681 c1_i32_2682
  let v2329 : BitVec 32 := Scalar.addi c0_i32_2683 v2328
  v2329.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v809 : BitVec 32 := Scalar.subi v2 c5_i32_622
  let c8_i32_623 : BitVec 32 := 8#32
  let v810 : BitVec 32 := Scalar.addi v809 c8_i32_623
  let c8_i32_624 : BitVec 32 := 8#32
  let v811 : BitVec 32 := Scalar.remsi v810 c8_i32_624
  let c0_i32_625 : BitVec 32 := 0#32
  let v812 : BitVec 1 := Scalar.cmpi .ne v811 c0_i32_625
  let v813 : BitVec 32 := Scalar.extui v812
  let c0_i32_630 : BitVec 32 := 0#32
  let v814 : BitVec 1 := Scalar.cmpi .ne v813 c0_i32_630
  v814

def k0_off44 (d0 : Dev nD) : Fin 2 → Nat :=
  let c2_i32_627 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v809 : BitVec 32 := Scalar.subi v2 c5_i32_622
  let c8_i32_623 : BitVec 32 := 8#32
  let v810 : BitVec 32 := Scalar.addi v809 c8_i32_623
  let c8_i32_624 : BitVec 32 := 8#32
  let v811 : BitVec 32 := Scalar.remsi v810 c8_i32_624
  ![2, v811.toNat]
def k0_off45 (d0 : Dev nD) : Fin 4 → Nat :=
  let c2_i32_626 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v809 : BitVec 32 := Scalar.subi v2 c5_i32_622
  let c8_i32_623 : BitVec 32 := 8#32
  let v810 : BitVec 32 := Scalar.addi v809 c8_i32_623
  let c8_i32_624 : BitVec 32 := 8#32
  let v811 : BitVec 32 := Scalar.remsi v810 c8_i32_624
  let c0_i32_2684 : BitVec 32 := 0#32
  let c0_i32_2685 : BitVec 32 := 0#32
  ![2, v811.toNat, 0, 0]
def k0_dev36 : Nat :=
  let c0_i32_2683 : BitVec 32 := 0#32
  let c5_i32_2681 : BitVec 32 := 5#32
  let c1_i32_2682 : BitVec 32 := 1#32
  let v2328 : BitVec 32 := Scalar.muli c5_i32_2681 c1_i32_2682
  let v2329 : BitVec 32 := Scalar.addi c0_i32_2683 v2328
  v2329.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v815 : BitVec 32 := Scalar.subi v2 c6_i32_631
  let c8_i32_632 : BitVec 32 := 8#32
  let v816 : BitVec 32 := Scalar.addi v815 c8_i32_632
  let c8_i32_633 : BitVec 32 := 8#32
  let v817 : BitVec 32 := Scalar.remsi v816 c8_i32_633
  let c0_i32_634 : BitVec 32 := 0#32
  let v818 : BitVec 1 := Scalar.cmpi .ne v817 c0_i32_634
  let v819 : BitVec 32 := Scalar.extui v818
  let c0_i32_639 : BitVec 32 := 0#32
  let v820 : BitVec 1 := Scalar.cmpi .ne v819 c0_i32_639
  v820

def k0_off46 (d0 : Dev nD) : Fin 2 → Nat :=
  let c2_i32_636 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v815 : BitVec 32 := Scalar.subi v2 c6_i32_631
  let c8_i32_632 : BitVec 32 := 8#32
  let v816 : BitVec 32 := Scalar.addi v815 c8_i32_632
  let c8_i32_633 : BitVec 32 := 8#32
  let v817 : BitVec 32 := Scalar.remsi v816 c8_i32_633
  ![2, v817.toNat]
def k0_off47 (d0 : Dev nD) : Fin 4 → Nat :=
  let c2_i32_635 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v815 : BitVec 32 := Scalar.subi v2 c6_i32_631
  let c8_i32_632 : BitVec 32 := 8#32
  let v816 : BitVec 32 := Scalar.addi v815 c8_i32_632
  let c8_i32_633 : BitVec 32 := 8#32
  let v817 : BitVec 32 := Scalar.remsi v816 c8_i32_633
  let c0_i32_2684 : BitVec 32 := 0#32
  let c0_i32_2685 : BitVec 32 := 0#32
  ![2, v817.toNat, 0, 0]
def k0_dev37 : Nat :=
  let c0_i32_2683 : BitVec 32 := 0#32
  let c6_i32_2681 : BitVec 32 := 6#32
  let c1_i32_2682 : BitVec 32 := 1#32
  let v2328 : BitVec 32 := Scalar.muli c6_i32_2681 c1_i32_2682
  let v2329 : BitVec 32 := Scalar.addi c0_i32_2683 v2328
  v2329.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_640 : BitVec 32 := 7#32
  let v821 : BitVec 32 := Scalar.subi v2 c7_i32_640
  let c8_i32_641 : BitVec 32 := 8#32
  let v822 : BitVec 32 := Scalar.addi v821 c8_i32_641
  let c8_i32_642 : BitVec 32 := 8#32
  let v823 : BitVec 32 := Scalar.remsi v822 c8_i32_642
  let c0_i32_643 : BitVec 32 := 0#32
  let v824 : BitVec 1 := Scalar.cmpi .ne v823 c0_i32_643
  let v825 : BitVec 32 := Scalar.extui v824
  let c0_i32_648 : BitVec 32 := 0#32
  let v826 : BitVec 1 := Scalar.cmpi .ne v825 c0_i32_648
  v826

def k0_off48 (d0 : Dev nD) : Fin 2 → Nat :=
  let c2_i32_645 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_640 : BitVec 32 := 7#32
  let v821 : BitVec 32 := Scalar.subi v2 c7_i32_640
  let c8_i32_641 : BitVec 32 := 8#32
  let v822 : BitVec 32 := Scalar.addi v821 c8_i32_641
  let c8_i32_642 : BitVec 32 := 8#32
  let v823 : BitVec 32 := Scalar.remsi v822 c8_i32_642
  ![2, v823.toNat]
def k0_off49 (d0 : Dev nD) : Fin 4 → Nat :=
  let c2_i32_644 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_640 : BitVec 32 := 7#32
  let v821 : BitVec 32 := Scalar.subi v2 c7_i32_640
  let c8_i32_641 : BitVec 32 := 8#32
  let v822 : BitVec 32 := Scalar.addi v821 c8_i32_641
  let c8_i32_642 : BitVec 32 := 8#32
  let v823 : BitVec 32 := Scalar.remsi v822 c8_i32_642
  let c0_i32_2684 : BitVec 32 := 0#32
  let c0_i32_2685 : BitVec 32 := 0#32
  ![2, v823.toNat, 0, 0]
def k0_dev38 : Nat :=
  let c0_i32_2683 : BitVec 32 := 0#32
  let c7_i32_2681 : BitVec 32 := 7#32
  let c1_i32_2682 : BitVec 32 := 1#32
  let v2328 : BitVec 32 := Scalar.muli c7_i32_2681 c1_i32_2682
  let v2329 : BitVec 32 := Scalar.addi c0_i32_2683 v2328
  v2329.toNat
def k0_dev39 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_781 : BitVec 32 := 1#32
  let v922 : BitVec 32 := Scalar.subi v2 c1_i32_781
  let c8_i32_782 : BitVec 32 := 8#32
  let v923 : BitVec 32 := Scalar.addi v922 c8_i32_782
  let c8_i32_783 : BitVec 32 := 8#32
  let v924 : BitVec 32 := Scalar.remsi v923 c8_i32_783
  let c1_i32_791 : BitVec 32 := 1#32
  let v925 : BitVec 32 := Scalar.muli v924 c1_i32_791
  let v926 : BitVec 32 := Scalar.addi c0_i32_792 v925
  v926.toNat
def k0_dev40 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_797 : BitVec 32 := 2#32
  let v935 : BitVec 32 := Scalar.subi v2 c2_i32_797
  let c8_i32_798 : BitVec 32 := 8#32
  let v936 : BitVec 32 := Scalar.addi v935 c8_i32_798
  let c8_i32_799 : BitVec 32 := 8#32
  let v937 : BitVec 32 := Scalar.remsi v936 c8_i32_799
  let c1_i32_807 : BitVec 32 := 1#32
  let v938 : BitVec 32 := Scalar.muli v937 c1_i32_807
  let v939 : BitVec 32 := Scalar.addi c0_i32_808 v938
  v939.toNat
def k0_dev41 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_813 : BitVec 32 := 3#32
  let v948 : BitVec 32 := Scalar.subi v2 c3_i32_813
  let c8_i32_814 : BitVec 32 := 8#32
  let v949 : BitVec 32 := Scalar.addi v948 c8_i32_814
  let c8_i32_815 : BitVec 32 := 8#32
  let v950 : BitVec 32 := Scalar.remsi v949 c8_i32_815
  let c1_i32_823 : BitVec 32 := 1#32
  let v951 : BitVec 32 := Scalar.muli v950 c1_i32_823
  let v952 : BitVec 32 := Scalar.addi c0_i32_824 v951
  v952.toNat
def k0_dev42 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_829 : BitVec 32 := 4#32
  let v961 : BitVec 32 := Scalar.subi v2 c4_i32_829
  let c8_i32_830 : BitVec 32 := 8#32
  let v962 : BitVec 32 := Scalar.addi v961 c8_i32_830
  let c8_i32_831 : BitVec 32 := 8#32
  let v963 : BitVec 32 := Scalar.remsi v962 c8_i32_831
  let c1_i32_839 : BitVec 32 := 1#32
  let v964 : BitVec 32 := Scalar.muli v963 c1_i32_839
  let v965 : BitVec 32 := Scalar.addi c0_i32_840 v964
  v965.toNat
def k0_dev43 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_845 : BitVec 32 := 5#32
  let v974 : BitVec 32 := Scalar.subi v2 c5_i32_845
  let c8_i32_846 : BitVec 32 := 8#32
  let v975 : BitVec 32 := Scalar.addi v974 c8_i32_846
  let c8_i32_847 : BitVec 32 := 8#32
  let v976 : BitVec 32 := Scalar.remsi v975 c8_i32_847
  let c1_i32_855 : BitVec 32 := 1#32
  let v977 : BitVec 32 := Scalar.muli v976 c1_i32_855
  let v978 : BitVec 32 := Scalar.addi c0_i32_856 v977
  v978.toNat
def k0_dev44 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_861 : BitVec 32 := 6#32
  let v987 : BitVec 32 := Scalar.subi v2 c6_i32_861
  let c8_i32_862 : BitVec 32 := 8#32
  let v988 : BitVec 32 := Scalar.addi v987 c8_i32_862
  let c8_i32_863 : BitVec 32 := 8#32
  let v989 : BitVec 32 := Scalar.remsi v988 c8_i32_863
  let c1_i32_871 : BitVec 32 := 1#32
  let v990 : BitVec 32 := Scalar.muli v989 c1_i32_871
  let v991 : BitVec 32 := Scalar.addi c0_i32_872 v990
  v991.toNat
def k0_dev45 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_877 : BitVec 32 := 7#32
  let v1000 : BitVec 32 := Scalar.subi v2 c7_i32_877
  let c8_i32_878 : BitVec 32 := 8#32
  let v1001 : BitVec 32 := Scalar.addi v1000 c8_i32_878
  let c8_i32_879 : BitVec 32 := 8#32
  let v1002 : BitVec 32 := Scalar.remsi v1001 c8_i32_879
  let c1_i32_887 : BitVec 32 := 1#32
  let v1003 : BitVec 32 := Scalar.muli v1002 c1_i32_887
  let v1004 : BitVec 32 := Scalar.addi c0_i32_888 v1003
  v1004.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_949 : BitVec 32 := 0#32
  let v1168 : BitVec 32 := Scalar.subi v2 c0_i32_949
  let c8_i32_950 : BitVec 32 := 8#32
  let v1169 : BitVec 32 := Scalar.addi v1168 c8_i32_950
  let c8_i32_951 : BitVec 32 := 8#32
  let v1170 : BitVec 32 := Scalar.remsi v1169 c8_i32_951
  let c0_i32_952 : BitVec 32 := 0#32
  let v1171 : BitVec 1 := Scalar.cmpi .ne v1170 c0_i32_952
  let v1172 : BitVec 32 := Scalar.extui v1171
  let c0_i32_957 : BitVec 32 := 0#32
  let v1173 : BitVec 1 := Scalar.cmpi .ne v1172 c0_i32_957
  v1173

def k0_off50 (d0 : Dev nD) : Fin 2 → Nat :=
  let c3_i32_954 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_949 : BitVec 32 := 0#32
  let v1168 : BitVec 32 := Scalar.subi v2 c0_i32_949
  let c8_i32_950 : BitVec 32 := 8#32
  let v1169 : BitVec 32 := Scalar.addi v1168 c8_i32_950
  let c8_i32_951 : BitVec 32 := 8#32
  let v1170 : BitVec 32 := Scalar.remsi v1169 c8_i32_951
  ![3, v1170.toNat]
def k0_off51 (d0 : Dev nD) : Fin 4 → Nat :=
  let c3_i32_953 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_949 : BitVec 32 := 0#32
  let v1168 : BitVec 32 := Scalar.subi v2 c0_i32_949
  let c8_i32_950 : BitVec 32 := 8#32
  let v1169 : BitVec 32 := Scalar.addi v1168 c8_i32_950
  let c8_i32_951 : BitVec 32 := 8#32
  let v1170 : BitVec 32 := Scalar.remsi v1169 c8_i32_951
  let c0_i32_2684 : BitVec 32 := 0#32
  let c0_i32_2685 : BitVec 32 := 0#32
  ![3, v1170.toNat, 0, 0]
def k0_dev46 : Nat :=
  let c0_i32_2683 : BitVec 32 := 0#32
  let c0_i32_2681 : BitVec 32 := 0#32
  let c1_i32_2682 : BitVec 32 := 1#32
  let v2328 : BitVec 32 := Scalar.muli c0_i32_2681 c1_i32_2682
  let v2329 : BitVec 32 := Scalar.addi c0_i32_2683 v2328
  v2329.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_958 : BitVec 32 := 1#32
  let v1174 : BitVec 32 := Scalar.subi v2 c1_i32_958
  let c8_i32_959 : BitVec 32 := 8#32
  let v1175 : BitVec 32 := Scalar.addi v1174 c8_i32_959
  let c8_i32_960 : BitVec 32 := 8#32
  let v1176 : BitVec 32 := Scalar.remsi v1175 c8_i32_960
  let c0_i32_961 : BitVec 32 := 0#32
  let v1177 : BitVec 1 := Scalar.cmpi .ne v1176 c0_i32_961
  let v1178 : BitVec 32 := Scalar.extui v1177
  let c0_i32_966 : BitVec 32 := 0#32
  let v1179 : BitVec 1 := Scalar.cmpi .ne v1178 c0_i32_966
  v1179

def k0_off52 (d0 : Dev nD) : Fin 2 → Nat :=
  let c3_i32_963 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_958 : BitVec 32 := 1#32
  let v1174 : BitVec 32 := Scalar.subi v2 c1_i32_958
  let c8_i32_959 : BitVec 32 := 8#32
  let v1175 : BitVec 32 := Scalar.addi v1174 c8_i32_959
  let c8_i32_960 : BitVec 32 := 8#32
  let v1176 : BitVec 32 := Scalar.remsi v1175 c8_i32_960
  ![3, v1176.toNat]
def k0_off53 (d0 : Dev nD) : Fin 4 → Nat :=
  let c3_i32_962 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_958 : BitVec 32 := 1#32
  let v1174 : BitVec 32 := Scalar.subi v2 c1_i32_958
  let c8_i32_959 : BitVec 32 := 8#32
  let v1175 : BitVec 32 := Scalar.addi v1174 c8_i32_959
  let c8_i32_960 : BitVec 32 := 8#32
  let v1176 : BitVec 32 := Scalar.remsi v1175 c8_i32_960
  let c0_i32_2684 : BitVec 32 := 0#32
  let c0_i32_2685 : BitVec 32 := 0#32
  ![3, v1176.toNat, 0, 0]
def k0_dev47 : Nat :=
  let c0_i32_2683 : BitVec 32 := 0#32
  let c1_i32_2681 : BitVec 32 := 1#32
  let c1_i32_2682 : BitVec 32 := 1#32
  let v2328 : BitVec 32 := Scalar.muli c1_i32_2681 c1_i32_2682
  let v2329 : BitVec 32 := Scalar.addi c0_i32_2683 v2328
  v2329.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_967 : BitVec 32 := 2#32
  let v1180 : BitVec 32 := Scalar.subi v2 c2_i32_967
  let c8_i32_968 : BitVec 32 := 8#32
  let v1181 : BitVec 32 := Scalar.addi v1180 c8_i32_968
  let c8_i32_969 : BitVec 32 := 8#32
  let v1182 : BitVec 32 := Scalar.remsi v1181 c8_i32_969
  let c0_i32_970 : BitVec 32 := 0#32
  let v1183 : BitVec 1 := Scalar.cmpi .ne v1182 c0_i32_970
  let v1184 : BitVec 32 := Scalar.extui v1183
  let c0_i32_975 : BitVec 32 := 0#32
  let v1185 : BitVec 1 := Scalar.cmpi .ne v1184 c0_i32_975
  v1185

def k0_off54 (d0 : Dev nD) : Fin 2 → Nat :=
  let c3_i32_972 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_967 : BitVec 32 := 2#32
  let v1180 : BitVec 32 := Scalar.subi v2 c2_i32_967
  let c8_i32_968 : BitVec 32 := 8#32
  let v1181 : BitVec 32 := Scalar.addi v1180 c8_i32_968
  let c8_i32_969 : BitVec 32 := 8#32
  let v1182 : BitVec 32 := Scalar.remsi v1181 c8_i32_969
  ![3, v1182.toNat]
def k0_off55 (d0 : Dev nD) : Fin 4 → Nat :=
  let c3_i32_971 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_967 : BitVec 32 := 2#32
  let v1180 : BitVec 32 := Scalar.subi v2 c2_i32_967
  let c8_i32_968 : BitVec 32 := 8#32
  let v1181 : BitVec 32 := Scalar.addi v1180 c8_i32_968
  let c8_i32_969 : BitVec 32 := 8#32
  let v1182 : BitVec 32 := Scalar.remsi v1181 c8_i32_969
  let c0_i32_2684 : BitVec 32 := 0#32
  let c0_i32_2685 : BitVec 32 := 0#32
  ![3, v1182.toNat, 0, 0]
def k0_dev48 : Nat :=
  let c0_i32_2683 : BitVec 32 := 0#32
  let c2_i32_2681 : BitVec 32 := 2#32
  let c1_i32_2682 : BitVec 32 := 1#32
  let v2328 : BitVec 32 := Scalar.muli c2_i32_2681 c1_i32_2682
  let v2329 : BitVec 32 := Scalar.addi c0_i32_2683 v2328
  v2329.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_976 : BitVec 32 := 3#32
  let v1186 : BitVec 32 := Scalar.subi v2 c3_i32_976
  let c8_i32_977 : BitVec 32 := 8#32
  let v1187 : BitVec 32 := Scalar.addi v1186 c8_i32_977
  let c8_i32_978 : BitVec 32 := 8#32
  let v1188 : BitVec 32 := Scalar.remsi v1187 c8_i32_978
  let c0_i32_979 : BitVec 32 := 0#32
  let v1189 : BitVec 1 := Scalar.cmpi .ne v1188 c0_i32_979
  let v1190 : BitVec 32 := Scalar.extui v1189
  let c0_i32_984 : BitVec 32 := 0#32
  let v1191 : BitVec 1 := Scalar.cmpi .ne v1190 c0_i32_984
  v1191

def k0_off56 (d0 : Dev nD) : Fin 2 → Nat :=
  let c3_i32_981 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_976 : BitVec 32 := 3#32
  let v1186 : BitVec 32 := Scalar.subi v2 c3_i32_976
  let c8_i32_977 : BitVec 32 := 8#32
  let v1187 : BitVec 32 := Scalar.addi v1186 c8_i32_977
  let c8_i32_978 : BitVec 32 := 8#32
  let v1188 : BitVec 32 := Scalar.remsi v1187 c8_i32_978
  ![3, v1188.toNat]
def k0_off57 (d0 : Dev nD) : Fin 4 → Nat :=
  let c3_i32_980 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_976 : BitVec 32 := 3#32
  let v1186 : BitVec 32 := Scalar.subi v2 c3_i32_976
  let c8_i32_977 : BitVec 32 := 8#32
  let v1187 : BitVec 32 := Scalar.addi v1186 c8_i32_977
  let c8_i32_978 : BitVec 32 := 8#32
  let v1188 : BitVec 32 := Scalar.remsi v1187 c8_i32_978
  let c0_i32_2684 : BitVec 32 := 0#32
  let c0_i32_2685 : BitVec 32 := 0#32
  ![3, v1188.toNat, 0, 0]
def k0_dev49 : Nat :=
  let c0_i32_2683 : BitVec 32 := 0#32
  let c3_i32_2681 : BitVec 32 := 3#32
  let c1_i32_2682 : BitVec 32 := 1#32
  let v2328 : BitVec 32 := Scalar.muli c3_i32_2681 c1_i32_2682
  let v2329 : BitVec 32 := Scalar.addi c0_i32_2683 v2328
  v2329.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_985 : BitVec 32 := 4#32
  let v1192 : BitVec 32 := Scalar.subi v2 c4_i32_985
  let c8_i32_986 : BitVec 32 := 8#32
  let v1193 : BitVec 32 := Scalar.addi v1192 c8_i32_986
  let c8_i32_987 : BitVec 32 := 8#32
  let v1194 : BitVec 32 := Scalar.remsi v1193 c8_i32_987
  let c0_i32_988 : BitVec 32 := 0#32
  let v1195 : BitVec 1 := Scalar.cmpi .ne v1194 c0_i32_988
  let v1196 : BitVec 32 := Scalar.extui v1195
  let c0_i32_993 : BitVec 32 := 0#32
  let v1197 : BitVec 1 := Scalar.cmpi .ne v1196 c0_i32_993
  v1197

def k0_off58 (d0 : Dev nD) : Fin 2 → Nat :=
  let c3_i32_990 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_985 : BitVec 32 := 4#32
  let v1192 : BitVec 32 := Scalar.subi v2 c4_i32_985
  let c8_i32_986 : BitVec 32 := 8#32
  let v1193 : BitVec 32 := Scalar.addi v1192 c8_i32_986
  let c8_i32_987 : BitVec 32 := 8#32
  let v1194 : BitVec 32 := Scalar.remsi v1193 c8_i32_987
  ![3, v1194.toNat]
def k0_off59 (d0 : Dev nD) : Fin 4 → Nat :=
  let c3_i32_989 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_985 : BitVec 32 := 4#32
  let v1192 : BitVec 32 := Scalar.subi v2 c4_i32_985
  let c8_i32_986 : BitVec 32 := 8#32
  let v1193 : BitVec 32 := Scalar.addi v1192 c8_i32_986
  let c8_i32_987 : BitVec 32 := 8#32
  let v1194 : BitVec 32 := Scalar.remsi v1193 c8_i32_987
  let c0_i32_2684 : BitVec 32 := 0#32
  let c0_i32_2685 : BitVec 32 := 0#32
  ![3, v1194.toNat, 0, 0]
def k0_dev50 : Nat :=
  let c0_i32_2683 : BitVec 32 := 0#32
  let c4_i32_2681 : BitVec 32 := 4#32
  let c1_i32_2682 : BitVec 32 := 1#32
  let v2328 : BitVec 32 := Scalar.muli c4_i32_2681 c1_i32_2682
  let v2329 : BitVec 32 := Scalar.addi c0_i32_2683 v2328
  v2329.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_994 : BitVec 32 := 5#32
  let v1198 : BitVec 32 := Scalar.subi v2 c5_i32_994
  let c8_i32_995 : BitVec 32 := 8#32
  let v1199 : BitVec 32 := Scalar.addi v1198 c8_i32_995
  let c8_i32_996 : BitVec 32 := 8#32
  let v1200 : BitVec 32 := Scalar.remsi v1199 c8_i32_996
  let c0_i32_997 : BitVec 32 := 0#32
  let v1201 : BitVec 1 := Scalar.cmpi .ne v1200 c0_i32_997
  let v1202 : BitVec 32 := Scalar.extui v1201
  let c0_i32_1002 : BitVec 32 := 0#32
  let v1203 : BitVec 1 := Scalar.cmpi .ne v1202 c0_i32_1002
  v1203

def k0_off60 (d0 : Dev nD) : Fin 2 → Nat :=
  let c3_i32_999 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_994 : BitVec 32 := 5#32
  let v1198 : BitVec 32 := Scalar.subi v2 c5_i32_994
  let c8_i32_995 : BitVec 32 := 8#32
  let v1199 : BitVec 32 := Scalar.addi v1198 c8_i32_995
  let c8_i32_996 : BitVec 32 := 8#32
  let v1200 : BitVec 32 := Scalar.remsi v1199 c8_i32_996
  ![3, v1200.toNat]
def k0_off61 (d0 : Dev nD) : Fin 4 → Nat :=
  let c3_i32_998 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_994 : BitVec 32 := 5#32
  let v1198 : BitVec 32 := Scalar.subi v2 c5_i32_994
  let c8_i32_995 : BitVec 32 := 8#32
  let v1199 : BitVec 32 := Scalar.addi v1198 c8_i32_995
  let c8_i32_996 : BitVec 32 := 8#32
  let v1200 : BitVec 32 := Scalar.remsi v1199 c8_i32_996
  let c0_i32_2684 : BitVec 32 := 0#32
  let c0_i32_2685 : BitVec 32 := 0#32
  ![3, v1200.toNat, 0, 0]
def k0_dev51 : Nat :=
  let c0_i32_2683 : BitVec 32 := 0#32
  let c5_i32_2681 : BitVec 32 := 5#32
  let c1_i32_2682 : BitVec 32 := 1#32
  let v2328 : BitVec 32 := Scalar.muli c5_i32_2681 c1_i32_2682
  let v2329 : BitVec 32 := Scalar.addi c0_i32_2683 v2328
  v2329.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1003 : BitVec 32 := 6#32
  let v1204 : BitVec 32 := Scalar.subi v2 c6_i32_1003
  let c8_i32_1004 : BitVec 32 := 8#32
  let v1205 : BitVec 32 := Scalar.addi v1204 c8_i32_1004
  let c8_i32_1005 : BitVec 32 := 8#32
  let v1206 : BitVec 32 := Scalar.remsi v1205 c8_i32_1005
  let c0_i32_1006 : BitVec 32 := 0#32
  let v1207 : BitVec 1 := Scalar.cmpi .ne v1206 c0_i32_1006
  let v1208 : BitVec 32 := Scalar.extui v1207
  let c0_i32_1011 : BitVec 32 := 0#32
  let v1209 : BitVec 1 := Scalar.cmpi .ne v1208 c0_i32_1011
  v1209

def k0_off62 (d0 : Dev nD) : Fin 2 → Nat :=
  let c3_i32_1008 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1003 : BitVec 32 := 6#32
  let v1204 : BitVec 32 := Scalar.subi v2 c6_i32_1003
  let c8_i32_1004 : BitVec 32 := 8#32
  let v1205 : BitVec 32 := Scalar.addi v1204 c8_i32_1004
  let c8_i32_1005 : BitVec 32 := 8#32
  let v1206 : BitVec 32 := Scalar.remsi v1205 c8_i32_1005
  ![3, v1206.toNat]
def k0_off63 (d0 : Dev nD) : Fin 4 → Nat :=
  let c3_i32_1007 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1003 : BitVec 32 := 6#32
  let v1204 : BitVec 32 := Scalar.subi v2 c6_i32_1003
  let c8_i32_1004 : BitVec 32 := 8#32
  let v1205 : BitVec 32 := Scalar.addi v1204 c8_i32_1004
  let c8_i32_1005 : BitVec 32 := 8#32
  let v1206 : BitVec 32 := Scalar.remsi v1205 c8_i32_1005
  let c0_i32_2684 : BitVec 32 := 0#32
  let c0_i32_2685 : BitVec 32 := 0#32
  ![3, v1206.toNat, 0, 0]
def k0_dev52 : Nat :=
  let c0_i32_2683 : BitVec 32 := 0#32
  let c6_i32_2681 : BitVec 32 := 6#32
  let c1_i32_2682 : BitVec 32 := 1#32
  let v2328 : BitVec 32 := Scalar.muli c6_i32_2681 c1_i32_2682
  let v2329 : BitVec 32 := Scalar.addi c0_i32_2683 v2328
  v2329.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1012 : BitVec 32 := 7#32
  let v1210 : BitVec 32 := Scalar.subi v2 c7_i32_1012
  let c8_i32_1013 : BitVec 32 := 8#32
  let v1211 : BitVec 32 := Scalar.addi v1210 c8_i32_1013
  let c8_i32_1014 : BitVec 32 := 8#32
  let v1212 : BitVec 32 := Scalar.remsi v1211 c8_i32_1014
  let c0_i32_1015 : BitVec 32 := 0#32
  let v1213 : BitVec 1 := Scalar.cmpi .ne v1212 c0_i32_1015
  let v1214 : BitVec 32 := Scalar.extui v1213
  let c0_i32_1020 : BitVec 32 := 0#32
  let v1215 : BitVec 1 := Scalar.cmpi .ne v1214 c0_i32_1020
  v1215

def k0_off64 (d0 : Dev nD) : Fin 2 → Nat :=
  let c3_i32_1017 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1012 : BitVec 32 := 7#32
  let v1210 : BitVec 32 := Scalar.subi v2 c7_i32_1012
  let c8_i32_1013 : BitVec 32 := 8#32
  let v1211 : BitVec 32 := Scalar.addi v1210 c8_i32_1013
  let c8_i32_1014 : BitVec 32 := 8#32
  let v1212 : BitVec 32 := Scalar.remsi v1211 c8_i32_1014
  ![3, v1212.toNat]
def k0_off65 (d0 : Dev nD) : Fin 4 → Nat :=
  let c3_i32_1016 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1012 : BitVec 32 := 7#32
  let v1210 : BitVec 32 := Scalar.subi v2 c7_i32_1012
  let c8_i32_1013 : BitVec 32 := 8#32
  let v1211 : BitVec 32 := Scalar.addi v1210 c8_i32_1013
  let c8_i32_1014 : BitVec 32 := 8#32
  let v1212 : BitVec 32 := Scalar.remsi v1211 c8_i32_1014
  let c0_i32_2684 : BitVec 32 := 0#32
  let c0_i32_2685 : BitVec 32 := 0#32
  ![3, v1212.toNat, 0, 0]
def k0_dev53 : Nat :=
  let c0_i32_2683 : BitVec 32 := 0#32
  let c7_i32_2681 : BitVec 32 := 7#32
  let c1_i32_2682 : BitVec 32 := 1#32
  let v2328 : BitVec 32 := Scalar.muli c7_i32_2681 c1_i32_2682
  let v2329 : BitVec 32 := Scalar.addi c0_i32_2683 v2328
  v2329.toNat
def k0_dev54 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1153 : BitVec 32 := 1#32
  let v1311 : BitVec 32 := Scalar.subi v2 c1_i32_1153
  let c8_i32_1154 : BitVec 32 := 8#32
  let v1312 : BitVec 32 := Scalar.addi v1311 c8_i32_1154
  let c8_i32_1155 : BitVec 32 := 8#32
  let v1313 : BitVec 32 := Scalar.remsi v1312 c8_i32_1155
  let c1_i32_1163 : BitVec 32 := 1#32
  let v1314 : BitVec 32 := Scalar.muli v1313 c1_i32_1163
  let v1315 : BitVec 32 := Scalar.addi c0_i32_1164 v1314
  v1315.toNat
def k0_dev55 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1169 : BitVec 32 := 2#32
  let v1324 : BitVec 32 := Scalar.subi v2 c2_i32_1169
  let c8_i32_1170 : BitVec 32 := 8#32
  let v1325 : BitVec 32 := Scalar.addi v1324 c8_i32_1170
  let c8_i32_1171 : BitVec 32 := 8#32
  let v1326 : BitVec 32 := Scalar.remsi v1325 c8_i32_1171
  let c1_i32_1179 : BitVec 32 := 1#32
  let v1327 : BitVec 32 := Scalar.muli v1326 c1_i32_1179
  let v1328 : BitVec 32 := Scalar.addi c0_i32_1180 v1327
  v1328.toNat
def k0_dev56 (d0 : Dev nD) : Nat :=
  let c0_i32_1196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1185 : BitVec 32 := 3#32
  let v1337 : BitVec 32 := Scalar.subi v2 c3_i32_1185
  let c8_i32_1186 : BitVec 32 := 8#32
  let v1338 : BitVec 32 := Scalar.addi v1337 c8_i32_1186
  let c8_i32_1187 : BitVec 32 := 8#32
  let v1339 : BitVec 32 := Scalar.remsi v1338 c8_i32_1187
  let c1_i32_1195 : BitVec 32 := 1#32
  let v1340 : BitVec 32 := Scalar.muli v1339 c1_i32_1195
  let v1341 : BitVec 32 := Scalar.addi c0_i32_1196 v1340
  v1341.toNat
def k0_dev57 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1201 : BitVec 32 := 4#32
  let v1350 : BitVec 32 := Scalar.subi v2 c4_i32_1201
  let c8_i32_1202 : BitVec 32 := 8#32
  let v1351 : BitVec 32 := Scalar.addi v1350 c8_i32_1202
  let c8_i32_1203 : BitVec 32 := 8#32
  let v1352 : BitVec 32 := Scalar.remsi v1351 c8_i32_1203
  let c1_i32_1211 : BitVec 32 := 1#32
  let v1353 : BitVec 32 := Scalar.muli v1352 c1_i32_1211
  let v1354 : BitVec 32 := Scalar.addi c0_i32_1212 v1353
  v1354.toNat
def k0_dev58 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1217 : BitVec 32 := 5#32
  let v1363 : BitVec 32 := Scalar.subi v2 c5_i32_1217
  let c8_i32_1218 : BitVec 32 := 8#32
  let v1364 : BitVec 32 := Scalar.addi v1363 c8_i32_1218
  let c8_i32_1219 : BitVec 32 := 8#32
  let v1365 : BitVec 32 := Scalar.remsi v1364 c8_i32_1219
  let c1_i32_1227 : BitVec 32 := 1#32
  let v1366 : BitVec 32 := Scalar.muli v1365 c1_i32_1227
  let v1367 : BitVec 32 := Scalar.addi c0_i32_1228 v1366
  v1367.toNat
def k0_dev59 (d0 : Dev nD) : Nat :=
  let c0_i32_1244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1233 : BitVec 32 := 6#32
  let v1376 : BitVec 32 := Scalar.subi v2 c6_i32_1233
  let c8_i32_1234 : BitVec 32 := 8#32
  let v1377 : BitVec 32 := Scalar.addi v1376 c8_i32_1234
  let c8_i32_1235 : BitVec 32 := 8#32
  let v1378 : BitVec 32 := Scalar.remsi v1377 c8_i32_1235
  let c1_i32_1243 : BitVec 32 := 1#32
  let v1379 : BitVec 32 := Scalar.muli v1378 c1_i32_1243
  let v1380 : BitVec 32 := Scalar.addi c0_i32_1244 v1379
  v1380.toNat
def k0_dev60 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1249 : BitVec 32 := 7#32
  let v1389 : BitVec 32 := Scalar.subi v2 c7_i32_1249
  let c8_i32_1250 : BitVec 32 := 8#32
  let v1390 : BitVec 32 := Scalar.addi v1389 c8_i32_1250
  let c8_i32_1251 : BitVec 32 := 8#32
  let v1391 : BitVec 32 := Scalar.remsi v1390 c8_i32_1251
  let c1_i32_1259 : BitVec 32 := 1#32
  let v1392 : BitVec 32 := Scalar.muli v1391 c1_i32_1259
  let v1393 : BitVec 32 := Scalar.addi c0_i32_1260 v1392
  v1393.toNat
def k0_off66 (d0 : Dev nD) (c0_i32_1286 : BitVec 32) (c1_i32_1279 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1410 : BitVec 32 := Scalar.addi v2 c1_i32_1279
  let c8_i32_1280 : BitVec 32 := 8#32
  let v1411 : BitVec 32 := Scalar.remsi v1410 c8_i32_1280
  let c32_i32_1285 : BitVec 32 := 32#32
  let v1415 : BitVec 32 := Scalar.muli v1411 c32_i32_1285
  let v1416 : BitVec 32 := Scalar.addi c0_i32_1286 v1415
  let v1417 : Index := Scalar.indexCast v1416
  let c0_1287 : Index := 0#32
  ![v1417.toNat, 0]
def k0_dev61 (d0 : Dev nD) : Nat :=
  let c0_i32_1730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1719 : BitVec 32 := 1#32
  let v1735 : BitVec 32 := Scalar.subi v2 c1_i32_1719
  let c8_i32_1720 : BitVec 32 := 8#32
  let v1736 : BitVec 32 := Scalar.addi v1735 c8_i32_1720
  let c8_i32_1721 : BitVec 32 := 8#32
  let v1737 : BitVec 32 := Scalar.remsi v1736 c8_i32_1721
  let c1_i32_1729 : BitVec 32 := 1#32
  let v1738 : BitVec 32 := Scalar.muli v1737 c1_i32_1729
  let v1739 : BitVec 32 := Scalar.addi c0_i32_1730 v1738
  v1739.toNat
def k0_dev62 (d0 : Dev nD) : Nat :=
  let c0_i32_1746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1735 : BitVec 32 := 2#32
  let v1748 : BitVec 32 := Scalar.subi v2 c2_i32_1735
  let c8_i32_1736 : BitVec 32 := 8#32
  let v1749 : BitVec 32 := Scalar.addi v1748 c8_i32_1736
  let c8_i32_1737 : BitVec 32 := 8#32
  let v1750 : BitVec 32 := Scalar.remsi v1749 c8_i32_1737
  let c1_i32_1745 : BitVec 32 := 1#32
  let v1751 : BitVec 32 := Scalar.muli v1750 c1_i32_1745
  let v1752 : BitVec 32 := Scalar.addi c0_i32_1746 v1751
  v1752.toNat
def k0_dev63 (d0 : Dev nD) : Nat :=
  let c0_i32_1762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1751 : BitVec 32 := 3#32
  let v1761 : BitVec 32 := Scalar.subi v2 c3_i32_1751
  let c8_i32_1752 : BitVec 32 := 8#32
  let v1762 : BitVec 32 := Scalar.addi v1761 c8_i32_1752
  let c8_i32_1753 : BitVec 32 := 8#32
  let v1763 : BitVec 32 := Scalar.remsi v1762 c8_i32_1753
  let c1_i32_1761 : BitVec 32 := 1#32
  let v1764 : BitVec 32 := Scalar.muli v1763 c1_i32_1761
  let v1765 : BitVec 32 := Scalar.addi c0_i32_1762 v1764
  v1765.toNat
def k0_dev64 (d0 : Dev nD) : Nat :=
  let c0_i32_1778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1767 : BitVec 32 := 4#32
  let v1774 : BitVec 32 := Scalar.subi v2 c4_i32_1767
  let c8_i32_1768 : BitVec 32 := 8#32
  let v1775 : BitVec 32 := Scalar.addi v1774 c8_i32_1768
  let c8_i32_1769 : BitVec 32 := 8#32
  let v1776 : BitVec 32 := Scalar.remsi v1775 c8_i32_1769
  let c1_i32_1777 : BitVec 32 := 1#32
  let v1777 : BitVec 32 := Scalar.muli v1776 c1_i32_1777
  let v1778 : BitVec 32 := Scalar.addi c0_i32_1778 v1777
  v1778.toNat
def k0_dev65 (d0 : Dev nD) : Nat :=
  let c0_i32_1794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1783 : BitVec 32 := 5#32
  let v1787 : BitVec 32 := Scalar.subi v2 c5_i32_1783
  let c8_i32_1784 : BitVec 32 := 8#32
  let v1788 : BitVec 32 := Scalar.addi v1787 c8_i32_1784
  let c8_i32_1785 : BitVec 32 := 8#32
  let v1789 : BitVec 32 := Scalar.remsi v1788 c8_i32_1785
  let c1_i32_1793 : BitVec 32 := 1#32
  let v1790 : BitVec 32 := Scalar.muli v1789 c1_i32_1793
  let v1791 : BitVec 32 := Scalar.addi c0_i32_1794 v1790
  v1791.toNat
def k0_dev66 (d0 : Dev nD) : Nat :=
  let c0_i32_1810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1799 : BitVec 32 := 6#32
  let v1800 : BitVec 32 := Scalar.subi v2 c6_i32_1799
  let c8_i32_1800 : BitVec 32 := 8#32
  let v1801 : BitVec 32 := Scalar.addi v1800 c8_i32_1800
  let c8_i32_1801 : BitVec 32 := 8#32
  let v1802 : BitVec 32 := Scalar.remsi v1801 c8_i32_1801
  let c1_i32_1809 : BitVec 32 := 1#32
  let v1803 : BitVec 32 := Scalar.muli v1802 c1_i32_1809
  let v1804 : BitVec 32 := Scalar.addi c0_i32_1810 v1803
  v1804.toNat
def k0_dev67 (d0 : Dev nD) : Nat :=
  let c0_i32_1826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1815 : BitVec 32 := 7#32
  let v1813 : BitVec 32 := Scalar.subi v2 c7_i32_1815
  let c8_i32_1816 : BitVec 32 := 8#32
  let v1814 : BitVec 32 := Scalar.addi v1813 c8_i32_1816
  let c8_i32_1817 : BitVec 32 := 8#32
  let v1815 : BitVec 32 := Scalar.remsi v1814 c8_i32_1817
  let c1_i32_1825 : BitVec 32 := 1#32
  let v1816 : BitVec 32 := Scalar.muli v1815 c1_i32_1825
  let v1817 : BitVec 32 := Scalar.addi c0_i32_1826 v1816
  v1817.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v187 : BitVec 32 := Scalar.subi v2 c0_i32_84
  let c8_i32_85 : BitVec 32 := 8#32
  let v188 : BitVec 32 := Scalar.addi v187 c8_i32_85
  let c8_i32_86 : BitVec 32 := 8#32
  let v189 : BitVec 32 := Scalar.remsi v188 c8_i32_86
  let c0_i32_2153 : BitVec 32 := 0#32
  let v2064 : BitVec 1 := Scalar.cmpi .ne v189 c0_i32_2153
  let v2065 : BitVec 32 := Scalar.extui v2064
  let c0_i32_2158 : BitVec 32 := 0#32
  let v2066 : BitVec 1 := Scalar.cmpi .ne v2065 c0_i32_2158
  v2066

def k0_off67 (d0 : Dev nD) : Fin 4 → Nat :=
  let c0_i32_2154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_84 : BitVec 32 := 0#32
  let v187 : BitVec 32 := Scalar.subi v2 c0_i32_84
  let c8_i32_85 : BitVec 32 := 8#32
  let v188 : BitVec 32 := Scalar.addi v187 c8_i32_85
  let c8_i32_86 : BitVec 32 := 8#32
  let v189 : BitVec 32 := Scalar.remsi v188 c8_i32_86
  let c0_i32_2685 : BitVec 32 := 0#32
  let c0_i32_2686 : BitVec 32 := 0#32
  ![0, v189.toNat, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v193 : BitVec 32 := Scalar.subi v2 c1_i32_93
  let c8_i32_94 : BitVec 32 := 8#32
  let v194 : BitVec 32 := Scalar.addi v193 c8_i32_94
  let c8_i32_95 : BitVec 32 := 8#32
  let v195 : BitVec 32 := Scalar.remsi v194 c8_i32_95
  let c0_i32_2159 : BitVec 32 := 0#32
  let v2067 : BitVec 1 := Scalar.cmpi .ne v195 c0_i32_2159
  let v2068 : BitVec 32 := Scalar.extui v2067
  let c0_i32_2164 : BitVec 32 := 0#32
  let v2069 : BitVec 1 := Scalar.cmpi .ne v2068 c0_i32_2164
  v2069

def k0_off68 (d0 : Dev nD) : Fin 4 → Nat :=
  let c0_i32_2160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v193 : BitVec 32 := Scalar.subi v2 c1_i32_93
  let c8_i32_94 : BitVec 32 := 8#32
  let v194 : BitVec 32 := Scalar.addi v193 c8_i32_94
  let c8_i32_95 : BitVec 32 := 8#32
  let v195 : BitVec 32 := Scalar.remsi v194 c8_i32_95
  let c0_i32_2685 : BitVec 32 := 0#32
  let c0_i32_2686 : BitVec 32 := 0#32
  ![0, v195.toNat, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v199 : BitVec 32 := Scalar.subi v2 c2_i32_102
  let c8_i32_103 : BitVec 32 := 8#32
  let v200 : BitVec 32 := Scalar.addi v199 c8_i32_103
  let c8_i32_104 : BitVec 32 := 8#32
  let v201 : BitVec 32 := Scalar.remsi v200 c8_i32_104
  let c0_i32_2165 : BitVec 32 := 0#32
  let v2070 : BitVec 1 := Scalar.cmpi .ne v201 c0_i32_2165
  let v2071 : BitVec 32 := Scalar.extui v2070
  let c0_i32_2170 : BitVec 32 := 0#32
  let v2072 : BitVec 1 := Scalar.cmpi .ne v2071 c0_i32_2170
  v2072

def k0_off69 (d0 : Dev nD) : Fin 4 → Nat :=
  let c0_i32_2166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v199 : BitVec 32 := Scalar.subi v2 c2_i32_102
  let c8_i32_103 : BitVec 32 := 8#32
  let v200 : BitVec 32 := Scalar.addi v199 c8_i32_103
  let c8_i32_104 : BitVec 32 := 8#32
  let v201 : BitVec 32 := Scalar.remsi v200 c8_i32_104
  let c0_i32_2684 : BitVec 32 := 0#32
  let c0_i32_2685 : BitVec 32 := 0#32
  ![0, v201.toNat, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v205 : BitVec 32 := Scalar.subi v2 c3_i32_111
  let c8_i32_112 : BitVec 32 := 8#32
  let v206 : BitVec 32 := Scalar.addi v205 c8_i32_112
  let c8_i32_113 : BitVec 32 := 8#32
  let v207 : BitVec 32 := Scalar.remsi v206 c8_i32_113
  let c0_i32_2171 : BitVec 32 := 0#32
  let v2073 : BitVec 1 := Scalar.cmpi .ne v207 c0_i32_2171
  let v2074 : BitVec 32 := Scalar.extui v2073
  let c0_i32_2176 : BitVec 32 := 0#32
  let v2075 : BitVec 1 := Scalar.cmpi .ne v2074 c0_i32_2176
  v2075

def k0_off70 (d0 : Dev nD) : Fin 4 → Nat :=
  let c0_i32_2172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v205 : BitVec 32 := Scalar.subi v2 c3_i32_111
  let c8_i32_112 : BitVec 32 := 8#32
  let v206 : BitVec 32 := Scalar.addi v205 c8_i32_112
  let c8_i32_113 : BitVec 32 := 8#32
  let v207 : BitVec 32 := Scalar.remsi v206 c8_i32_113
  let c0_i32_2684 : BitVec 32 := 0#32
  let c0_i32_2685 : BitVec 32 := 0#32
  ![0, v207.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v211 : BitVec 32 := Scalar.subi v2 c4_i32_120
  let c8_i32_121 : BitVec 32 := 8#32
  let v212 : BitVec 32 := Scalar.addi v211 c8_i32_121
  let c8_i32_122 : BitVec 32 := 8#32
  let v213 : BitVec 32 := Scalar.remsi v212 c8_i32_122
  let c0_i32_2177 : BitVec 32 := 0#32
  let v2076 : BitVec 1 := Scalar.cmpi .ne v213 c0_i32_2177
  let v2077 : BitVec 32 := Scalar.extui v2076
  let c0_i32_2182 : BitVec 32 := 0#32
  let v2078 : BitVec 1 := Scalar.cmpi .ne v2077 c0_i32_2182
  v2078

def k0_off71 (d0 : Dev nD) : Fin 4 → Nat :=
  let c0_i32_2178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v211 : BitVec 32 := Scalar.subi v2 c4_i32_120
  let c8_i32_121 : BitVec 32 := 8#32
  let v212 : BitVec 32 := Scalar.addi v211 c8_i32_121
  let c8_i32_122 : BitVec 32 := 8#32
  let v213 : BitVec 32 := Scalar.remsi v212 c8_i32_122
  let c0_i32_2684 : BitVec 32 := 0#32
  let c0_i32_2685 : BitVec 32 := 0#32
  ![0, v213.toNat, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v217 : BitVec 32 := Scalar.subi v2 c5_i32_129
  let c8_i32_130 : BitVec 32 := 8#32
  let v218 : BitVec 32 := Scalar.addi v217 c8_i32_130
  let c8_i32_131 : BitVec 32 := 8#32
  let v219 : BitVec 32 := Scalar.remsi v218 c8_i32_131
  let c0_i32_2183 : BitVec 32 := 0#32
  let v2079 : BitVec 1 := Scalar.cmpi .ne v219 c0_i32_2183
  let v2080 : BitVec 32 := Scalar.extui v2079
  let c0_i32_2188 : BitVec 32 := 0#32
  let v2081 : BitVec 1 := Scalar.cmpi .ne v2080 c0_i32_2188
  v2081

def k0_off72 (d0 : Dev nD) : Fin 4 → Nat :=
  let c0_i32_2184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v217 : BitVec 32 := Scalar.subi v2 c5_i32_129
  let c8_i32_130 : BitVec 32 := 8#32
  let v218 : BitVec 32 := Scalar.addi v217 c8_i32_130
  let c8_i32_131 : BitVec 32 := 8#32
  let v219 : BitVec 32 := Scalar.remsi v218 c8_i32_131
  let c0_i32_2684 : BitVec 32 := 0#32
  let c0_i32_2685 : BitVec 32 := 0#32
  ![0, v219.toNat, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v223 : BitVec 32 := Scalar.subi v2 c6_i32_138
  let c8_i32_139 : BitVec 32 := 8#32
  let v224 : BitVec 32 := Scalar.addi v223 c8_i32_139
  let c8_i32_140 : BitVec 32 := 8#32
  let v225 : BitVec 32 := Scalar.remsi v224 c8_i32_140
  let c0_i32_2189 : BitVec 32 := 0#32
  let v2082 : BitVec 1 := Scalar.cmpi .ne v225 c0_i32_2189
  let v2083 : BitVec 32 := Scalar.extui v2082
  let c0_i32_2194 : BitVec 32 := 0#32
  let v2084 : BitVec 1 := Scalar.cmpi .ne v2083 c0_i32_2194
  v2084

def k0_off73 (d0 : Dev nD) : Fin 4 → Nat :=
  let c0_i32_2190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v223 : BitVec 32 := Scalar.subi v2 c6_i32_138
  let c8_i32_139 : BitVec 32 := 8#32
  let v224 : BitVec 32 := Scalar.addi v223 c8_i32_139
  let c8_i32_140 : BitVec 32 := 8#32
  let v225 : BitVec 32 := Scalar.remsi v224 c8_i32_140
  let c0_i32_2684 : BitVec 32 := 0#32
  let c0_i32_2685 : BitVec 32 := 0#32
  ![0, v225.toNat, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_147 : BitVec 32 := 7#32
  let v229 : BitVec 32 := Scalar.subi v2 c7_i32_147
  let c8_i32_148 : BitVec 32 := 8#32
  let v230 : BitVec 32 := Scalar.addi v229 c8_i32_148
  let c8_i32_149 : BitVec 32 := 8#32
  let v231 : BitVec 32 := Scalar.remsi v230 c8_i32_149
  let c0_i32_2195 : BitVec 32 := 0#32
  let v2085 : BitVec 1 := Scalar.cmpi .ne v231 c0_i32_2195
  let v2086 : BitVec 32 := Scalar.extui v2085
  let c0_i32_2200 : BitVec 32 := 0#32
  let v2087 : BitVec 1 := Scalar.cmpi .ne v2086 c0_i32_2200
  v2087

def k0_off74 (d0 : Dev nD) : Fin 4 → Nat :=
  let c0_i32_2196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_147 : BitVec 32 := 7#32
  let v229 : BitVec 32 := Scalar.subi v2 c7_i32_147
  let c8_i32_148 : BitVec 32 := 8#32
  let v230 : BitVec 32 := Scalar.addi v229 c8_i32_148
  let c8_i32_149 : BitVec 32 := 8#32
  let v231 : BitVec 32 := Scalar.remsi v230 c8_i32_149
  let c0_i32_2684 : BitVec 32 := 0#32
  let c0_i32_2685 : BitVec 32 := 0#32
  ![0, v231.toNat, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_211 : BitVec 32 := 0#32
  let v390 : BitVec 32 := Scalar.subi v2 c0_i32_211
  let c8_i32_212 : BitVec 32 := 8#32
  let v391 : BitVec 32 := Scalar.addi v390 c8_i32_212
  let c8_i32_213 : BitVec 32 := 8#32
  let v392 : BitVec 32 := Scalar.remsi v391 c8_i32_213
  let c0_i32_2201 : BitVec 32 := 0#32
  let v2088 : BitVec 1 := Scalar.cmpi .ne v392 c0_i32_2201
  let v2089 : BitVec 32 := Scalar.extui v2088
  let c0_i32_2206 : BitVec 32 := 0#32
  let v2090 : BitVec 1 := Scalar.cmpi .ne v2089 c0_i32_2206
  v2090

def k0_off75 (d0 : Dev nD) : Fin 4 → Nat :=
  let c1_i32_2202 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_211 : BitVec 32 := 0#32
  let v390 : BitVec 32 := Scalar.subi v2 c0_i32_211
  let c8_i32_212 : BitVec 32 := 8#32
  let v391 : BitVec 32 := Scalar.addi v390 c8_i32_212
  let c8_i32_213 : BitVec 32 := 8#32
  let v392 : BitVec 32 := Scalar.remsi v391 c8_i32_213
  let c0_i32_2685 : BitVec 32 := 0#32
  let c0_i32_2686 : BitVec 32 := 0#32
  ![1, v392.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v396 : BitVec 32 := Scalar.subi v2 c1_i32_220
  let c8_i32_221 : BitVec 32 := 8#32
  let v397 : BitVec 32 := Scalar.addi v396 c8_i32_221
  let c8_i32_222 : BitVec 32 := 8#32
  let v398 : BitVec 32 := Scalar.remsi v397 c8_i32_222
  let c0_i32_2207 : BitVec 32 := 0#32
  let v2091 : BitVec 1 := Scalar.cmpi .ne v398 c0_i32_2207
  let v2092 : BitVec 32 := Scalar.extui v2091
  let c0_i32_2212 : BitVec 32 := 0#32
  let v2093 : BitVec 1 := Scalar.cmpi .ne v2092 c0_i32_2212
  v2093

def k0_off76 (d0 : Dev nD) : Fin 4 → Nat :=
  let c1_i32_2208 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_220 : BitVec 32 := 1#32
  let v396 : BitVec 32 := Scalar.subi v2 c1_i32_220
  let c8_i32_221 : BitVec 32 := 8#32
  let v397 : BitVec 32 := Scalar.addi v396 c8_i32_221
  let c8_i32_222 : BitVec 32 := 8#32
  let v398 : BitVec 32 := Scalar.remsi v397 c8_i32_222
  let c0_i32_2684 : BitVec 32 := 0#32
  let c0_i32_2685 : BitVec 32 := 0#32
  ![1, v398.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v402 : BitVec 32 := Scalar.subi v2 c2_i32_229
  let c8_i32_230 : BitVec 32 := 8#32
  let v403 : BitVec 32 := Scalar.addi v402 c8_i32_230
  let c8_i32_231 : BitVec 32 := 8#32
  let v404 : BitVec 32 := Scalar.remsi v403 c8_i32_231
  let c0_i32_2213 : BitVec 32 := 0#32
  let v2094 : BitVec 1 := Scalar.cmpi .ne v404 c0_i32_2213
  let v2095 : BitVec 32 := Scalar.extui v2094
  let c0_i32_2218 : BitVec 32 := 0#32
  let v2096 : BitVec 1 := Scalar.cmpi .ne v2095 c0_i32_2218
  v2096

def k0_off77 (d0 : Dev nD) : Fin 4 → Nat :=
  let c1_i32_2214 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v402 : BitVec 32 := Scalar.subi v2 c2_i32_229
  let c8_i32_230 : BitVec 32 := 8#32
  let v403 : BitVec 32 := Scalar.addi v402 c8_i32_230
  let c8_i32_231 : BitVec 32 := 8#32
  let v404 : BitVec 32 := Scalar.remsi v403 c8_i32_231
  let c0_i32_2684 : BitVec 32 := 0#32
  let c0_i32_2685 : BitVec 32 := 0#32
  ![1, v404.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v408 : BitVec 32 := Scalar.subi v2 c3_i32_238
  let c8_i32_239 : BitVec 32 := 8#32
  let v409 : BitVec 32 := Scalar.addi v408 c8_i32_239
  let c8_i32_240 : BitVec 32 := 8#32
  let v410 : BitVec 32 := Scalar.remsi v409 c8_i32_240
  let c0_i32_2219 : BitVec 32 := 0#32
  let v2097 : BitVec 1 := Scalar.cmpi .ne v410 c0_i32_2219
  let v2098 : BitVec 32 := Scalar.extui v2097
  let c0_i32_2224 : BitVec 32 := 0#32
  let v2099 : BitVec 1 := Scalar.cmpi .ne v2098 c0_i32_2224
  v2099

def k0_off78 (d0 : Dev nD) : Fin 4 → Nat :=
  let c1_i32_2220 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v408 : BitVec 32 := Scalar.subi v2 c3_i32_238
  let c8_i32_239 : BitVec 32 := 8#32
  let v409 : BitVec 32 := Scalar.addi v408 c8_i32_239
  let c8_i32_240 : BitVec 32 := 8#32
  let v410 : BitVec 32 := Scalar.remsi v409 c8_i32_240
  let c0_i32_2684 : BitVec 32 := 0#32
  let c0_i32_2685 : BitVec 32 := 0#32
  ![1, v410.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v414 : BitVec 32 := Scalar.subi v2 c4_i32_247
  let c8_i32_248 : BitVec 32 := 8#32
  let v415 : BitVec 32 := Scalar.addi v414 c8_i32_248
  let c8_i32_249 : BitVec 32 := 8#32
  let v416 : BitVec 32 := Scalar.remsi v415 c8_i32_249
  let c0_i32_2225 : BitVec 32 := 0#32
  let v2100 : BitVec 1 := Scalar.cmpi .ne v416 c0_i32_2225
  let v2101 : BitVec 32 := Scalar.extui v2100
  let c0_i32_2230 : BitVec 32 := 0#32
  let v2102 : BitVec 1 := Scalar.cmpi .ne v2101 c0_i32_2230
  v2102

def k0_off79 (d0 : Dev nD) : Fin 4 → Nat :=
  let c1_i32_2226 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v414 : BitVec 32 := Scalar.subi v2 c4_i32_247
  let c8_i32_248 : BitVec 32 := 8#32
  let v415 : BitVec 32 := Scalar.addi v414 c8_i32_248
  let c8_i32_249 : BitVec 32 := 8#32
  let v416 : BitVec 32 := Scalar.remsi v415 c8_i32_249
  let c0_i32_2684 : BitVec 32 := 0#32
  let c0_i32_2685 : BitVec 32 := 0#32
  ![1, v416.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_256 : BitVec 32 := 5#32
  let v420 : BitVec 32 := Scalar.subi v2 c5_i32_256
  let c8_i32_257 : BitVec 32 := 8#32
  let v421 : BitVec 32 := Scalar.addi v420 c8_i32_257
  let c8_i32_258 : BitVec 32 := 8#32
  let v422 : BitVec 32 := Scalar.remsi v421 c8_i32_258
  let c0_i32_2231 : BitVec 32 := 0#32
  let v2103 : BitVec 1 := Scalar.cmpi .ne v422 c0_i32_2231
  let v2104 : BitVec 32 := Scalar.extui v2103
  let c0_i32_2236 : BitVec 32 := 0#32
  let v2105 : BitVec 1 := Scalar.cmpi .ne v2104 c0_i32_2236
  v2105

def k0_off80 (d0 : Dev nD) : Fin 4 → Nat :=
  let c1_i32_2232 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_256 : BitVec 32 := 5#32
  let v420 : BitVec 32 := Scalar.subi v2 c5_i32_256
  let c8_i32_257 : BitVec 32 := 8#32
  let v421 : BitVec 32 := Scalar.addi v420 c8_i32_257
  let c8_i32_258 : BitVec 32 := 8#32
  let v422 : BitVec 32 := Scalar.remsi v421 c8_i32_258
  let c0_i32_2684 : BitVec 32 := 0#32
  let c0_i32_2685 : BitVec 32 := 0#32
  ![1, v422.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_265 : BitVec 32 := 6#32
  let v426 : BitVec 32 := Scalar.subi v2 c6_i32_265
  let c8_i32_266 : BitVec 32 := 8#32
  let v427 : BitVec 32 := Scalar.addi v426 c8_i32_266
  let c8_i32_267 : BitVec 32 := 8#32
  let v428 : BitVec 32 := Scalar.remsi v427 c8_i32_267
  let c0_i32_2237 : BitVec 32 := 0#32
  let v2106 : BitVec 1 := Scalar.cmpi .ne v428 c0_i32_2237
  let v2107 : BitVec 32 := Scalar.extui v2106
  let c0_i32_2242 : BitVec 32 := 0#32
  let v2108 : BitVec 1 := Scalar.cmpi .ne v2107 c0_i32_2242
  v2108

def k0_off81 (d0 : Dev nD) : Fin 4 → Nat :=
  let c1_i32_2238 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_265 : BitVec 32 := 6#32
  let v426 : BitVec 32 := Scalar.subi v2 c6_i32_265
  let c8_i32_266 : BitVec 32 := 8#32
  let v427 : BitVec 32 := Scalar.addi v426 c8_i32_266
  let c8_i32_267 : BitVec 32 := 8#32
  let v428 : BitVec 32 := Scalar.remsi v427 c8_i32_267
  let c0_i32_2684 : BitVec 32 := 0#32
  let c0_i32_2685 : BitVec 32 := 0#32
  ![1, v428.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v432 : BitVec 32 := Scalar.subi v2 c7_i32_274
  let c8_i32_275 : BitVec 32 := 8#32
  let v433 : BitVec 32 := Scalar.addi v432 c8_i32_275
  let c8_i32_276 : BitVec 32 := 8#32
  let v434 : BitVec 32 := Scalar.remsi v433 c8_i32_276
  let c0_i32_2243 : BitVec 32 := 0#32
  let v2109 : BitVec 1 := Scalar.cmpi .ne v434 c0_i32_2243
  let v2110 : BitVec 32 := Scalar.extui v2109
  let c0_i32_2248 : BitVec 32 := 0#32
  let v2111 : BitVec 1 := Scalar.cmpi .ne v2110 c0_i32_2248
  v2111

def k0_off82 (d0 : Dev nD) : Fin 4 → Nat :=
  let c1_i32_2244 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v432 : BitVec 32 := Scalar.subi v2 c7_i32_274
  let c8_i32_275 : BitVec 32 := 8#32
  let v433 : BitVec 32 := Scalar.addi v432 c8_i32_275
  let c8_i32_276 : BitVec 32 := 8#32
  let v434 : BitVec 32 := Scalar.remsi v433 c8_i32_276
  let c0_i32_2684 : BitVec 32 := 0#32
  let c0_i32_2685 : BitVec 32 := 0#32
  ![1, v434.toNat, 0, 0]
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_577 : BitVec 32 := 0#32
  let v779 : BitVec 32 := Scalar.subi v2 c0_i32_577
  let c8_i32_578 : BitVec 32 := 8#32
  let v780 : BitVec 32 := Scalar.addi v779 c8_i32_578
  let c8_i32_579 : BitVec 32 := 8#32
  let v781 : BitVec 32 := Scalar.remsi v780 c8_i32_579
  let c0_i32_2249 : BitVec 32 := 0#32
  let v2112 : BitVec 1 := Scalar.cmpi .ne v781 c0_i32_2249
  let v2113 : BitVec 32 := Scalar.extui v2112
  let c0_i32_2254 : BitVec 32 := 0#32
  let v2114 : BitVec 1 := Scalar.cmpi .ne v2113 c0_i32_2254
  v2114

def k0_off83 (d0 : Dev nD) : Fin 4 → Nat :=
  let c2_i32_2250 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_577 : BitVec 32 := 0#32
  let v779 : BitVec 32 := Scalar.subi v2 c0_i32_577
  let c8_i32_578 : BitVec 32 := 8#32
  let v780 : BitVec 32 := Scalar.addi v779 c8_i32_578
  let c8_i32_579 : BitVec 32 := 8#32
  let v781 : BitVec 32 := Scalar.remsi v780 c8_i32_579
  let c0_i32_2685 : BitVec 32 := 0#32
  let c0_i32_2686 : BitVec 32 := 0#32
  ![2, v781.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v785 : BitVec 32 := Scalar.subi v2 c1_i32_586
  let c8_i32_587 : BitVec 32 := 8#32
  let v786 : BitVec 32 := Scalar.addi v785 c8_i32_587
  let c8_i32_588 : BitVec 32 := 8#32
  let v787 : BitVec 32 := Scalar.remsi v786 c8_i32_588
  let c0_i32_2255 : BitVec 32 := 0#32
  let v2115 : BitVec 1 := Scalar.cmpi .ne v787 c0_i32_2255
  let v2116 : BitVec 32 := Scalar.extui v2115
  let c0_i32_2260 : BitVec 32 := 0#32
  let v2117 : BitVec 1 := Scalar.cmpi .ne v2116 c0_i32_2260
  v2117

def k0_off84 (d0 : Dev nD) : Fin 4 → Nat :=
  let c2_i32_2256 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v785 : BitVec 32 := Scalar.subi v2 c1_i32_586
  let c8_i32_587 : BitVec 32 := 8#32
  let v786 : BitVec 32 := Scalar.addi v785 c8_i32_587
  let c8_i32_588 : BitVec 32 := 8#32
  let v787 : BitVec 32 := Scalar.remsi v786 c8_i32_588
  let c0_i32_2684 : BitVec 32 := 0#32
  let c0_i32_2685 : BitVec 32 := 0#32
  ![2, v787.toNat, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v791 : BitVec 32 := Scalar.subi v2 c2_i32_595
  let c8_i32_596 : BitVec 32 := 8#32
  let v792 : BitVec 32 := Scalar.addi v791 c8_i32_596
  let c8_i32_597 : BitVec 32 := 8#32
  let v793 : BitVec 32 := Scalar.remsi v792 c8_i32_597
  let c0_i32_2261 : BitVec 32 := 0#32
  let v2118 : BitVec 1 := Scalar.cmpi .ne v793 c0_i32_2261
  let v2119 : BitVec 32 := Scalar.extui v2118
  let c0_i32_2266 : BitVec 32 := 0#32
  let v2120 : BitVec 1 := Scalar.cmpi .ne v2119 c0_i32_2266
  v2120

def k0_off85 (d0 : Dev nD) : Fin 4 → Nat :=
  let c2_i32_2262 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v791 : BitVec 32 := Scalar.subi v2 c2_i32_595
  let c8_i32_596 : BitVec 32 := 8#32
  let v792 : BitVec 32 := Scalar.addi v791 c8_i32_596
  let c8_i32_597 : BitVec 32 := 8#32
  let v793 : BitVec 32 := Scalar.remsi v792 c8_i32_597
  let c0_i32_2684 : BitVec 32 := 0#32
  let c0_i32_2685 : BitVec 32 := 0#32
  ![2, v793.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v797 : BitVec 32 := Scalar.subi v2 c3_i32_604
  let c8_i32_605 : BitVec 32 := 8#32
  let v798 : BitVec 32 := Scalar.addi v797 c8_i32_605
  let c8_i32_606 : BitVec 32 := 8#32
  let v799 : BitVec 32 := Scalar.remsi v798 c8_i32_606
  let c0_i32_2267 : BitVec 32 := 0#32
  let v2121 : BitVec 1 := Scalar.cmpi .ne v799 c0_i32_2267
  let v2122 : BitVec 32 := Scalar.extui v2121
  let c0_i32_2272 : BitVec 32 := 0#32
  let v2123 : BitVec 1 := Scalar.cmpi .ne v2122 c0_i32_2272
  v2123

def k0_off86 (d0 : Dev nD) : Fin 4 → Nat :=
  let c2_i32_2268 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v797 : BitVec 32 := Scalar.subi v2 c3_i32_604
  let c8_i32_605 : BitVec 32 := 8#32
  let v798 : BitVec 32 := Scalar.addi v797 c8_i32_605
  let c8_i32_606 : BitVec 32 := 8#32
  let v799 : BitVec 32 := Scalar.remsi v798 c8_i32_606
  let c0_i32_2684 : BitVec 32 := 0#32
  let c0_i32_2685 : BitVec 32 := 0#32
  ![2, v799.toNat, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_613 : BitVec 32 := 4#32
  let v803 : BitVec 32 := Scalar.subi v2 c4_i32_613
  let c8_i32_614 : BitVec 32 := 8#32
  let v804 : BitVec 32 := Scalar.addi v803 c8_i32_614
  let c8_i32_615 : BitVec 32 := 8#32
  let v805 : BitVec 32 := Scalar.remsi v804 c8_i32_615
  let c0_i32_2273 : BitVec 32 := 0#32
  let v2124 : BitVec 1 := Scalar.cmpi .ne v805 c0_i32_2273
  let v2125 : BitVec 32 := Scalar.extui v2124
  let c0_i32_2278 : BitVec 32 := 0#32
  let v2126 : BitVec 1 := Scalar.cmpi .ne v2125 c0_i32_2278
  v2126

def k0_off87 (d0 : Dev nD) : Fin 4 → Nat :=
  let c2_i32_2274 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_613 : BitVec 32 := 4#32
  let v803 : BitVec 32 := Scalar.subi v2 c4_i32_613
  let c8_i32_614 : BitVec 32 := 8#32
  let v804 : BitVec 32 := Scalar.addi v803 c8_i32_614
  let c8_i32_615 : BitVec 32 := 8#32
  let v805 : BitVec 32 := Scalar.remsi v804 c8_i32_615
  let c0_i32_2684 : BitVec 32 := 0#32
  let c0_i32_2685 : BitVec 32 := 0#32
  ![2, v805.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v809 : BitVec 32 := Scalar.subi v2 c5_i32_622
  let c8_i32_623 : BitVec 32 := 8#32
  let v810 : BitVec 32 := Scalar.addi v809 c8_i32_623
  let c8_i32_624 : BitVec 32 := 8#32
  let v811 : BitVec 32 := Scalar.remsi v810 c8_i32_624
  let c0_i32_2279 : BitVec 32 := 0#32
  let v2127 : BitVec 1 := Scalar.cmpi .ne v811 c0_i32_2279
  let v2128 : BitVec 32 := Scalar.extui v2127
  let c0_i32_2284 : BitVec 32 := 0#32
  let v2129 : BitVec 1 := Scalar.cmpi .ne v2128 c0_i32_2284
  v2129

def k0_off88 (d0 : Dev nD) : Fin 4 → Nat :=
  let c2_i32_2280 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v809 : BitVec 32 := Scalar.subi v2 c5_i32_622
  let c8_i32_623 : BitVec 32 := 8#32
  let v810 : BitVec 32 := Scalar.addi v809 c8_i32_623
  let c8_i32_624 : BitVec 32 := 8#32
  let v811 : BitVec 32 := Scalar.remsi v810 c8_i32_624
  let c0_i32_2684 : BitVec 32 := 0#32
  let c0_i32_2685 : BitVec 32 := 0#32
  ![2, v811.toNat, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v815 : BitVec 32 := Scalar.subi v2 c6_i32_631
  let c8_i32_632 : BitVec 32 := 8#32
  let v816 : BitVec 32 := Scalar.addi v815 c8_i32_632
  let c8_i32_633 : BitVec 32 := 8#32
  let v817 : BitVec 32 := Scalar.remsi v816 c8_i32_633
  let c0_i32_2285 : BitVec 32 := 0#32
  let v2130 : BitVec 1 := Scalar.cmpi .ne v817 c0_i32_2285
  let v2131 : BitVec 32 := Scalar.extui v2130
  let c0_i32_2290 : BitVec 32 := 0#32
  let v2132 : BitVec 1 := Scalar.cmpi .ne v2131 c0_i32_2290
  v2132

def k0_off89 (d0 : Dev nD) : Fin 4 → Nat :=
  let c2_i32_2286 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v815 : BitVec 32 := Scalar.subi v2 c6_i32_631
  let c8_i32_632 : BitVec 32 := 8#32
  let v816 : BitVec 32 := Scalar.addi v815 c8_i32_632
  let c8_i32_633 : BitVec 32 := 8#32
  let v817 : BitVec 32 := Scalar.remsi v816 c8_i32_633
  let c0_i32_2684 : BitVec 32 := 0#32
  let c0_i32_2685 : BitVec 32 := 0#32
  ![2, v817.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_640 : BitVec 32 := 7#32
  let v821 : BitVec 32 := Scalar.subi v2 c7_i32_640
  let c8_i32_641 : BitVec 32 := 8#32
  let v822 : BitVec 32 := Scalar.addi v821 c8_i32_641
  let c8_i32_642 : BitVec 32 := 8#32
  let v823 : BitVec 32 := Scalar.remsi v822 c8_i32_642
  let c0_i32_2291 : BitVec 32 := 0#32
  let v2133 : BitVec 1 := Scalar.cmpi .ne v823 c0_i32_2291
  let v2134 : BitVec 32 := Scalar.extui v2133
  let c0_i32_2296 : BitVec 32 := 0#32
  let v2135 : BitVec 1 := Scalar.cmpi .ne v2134 c0_i32_2296
  v2135

def k0_off90 (d0 : Dev nD) : Fin 4 → Nat :=
  let c2_i32_2292 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_640 : BitVec 32 := 7#32
  let v821 : BitVec 32 := Scalar.subi v2 c7_i32_640
  let c8_i32_641 : BitVec 32 := 8#32
  let v822 : BitVec 32 := Scalar.addi v821 c8_i32_641
  let c8_i32_642 : BitVec 32 := 8#32
  let v823 : BitVec 32 := Scalar.remsi v822 c8_i32_642
  let c0_i32_2684 : BitVec 32 := 0#32
  let c0_i32_2685 : BitVec 32 := 0#32
  ![2, v823.toNat, 0, 0]
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_949 : BitVec 32 := 0#32
  let v1168 : BitVec 32 := Scalar.subi v2 c0_i32_949
  let c8_i32_950 : BitVec 32 := 8#32
  let v1169 : BitVec 32 := Scalar.addi v1168 c8_i32_950
  let c8_i32_951 : BitVec 32 := 8#32
  let v1170 : BitVec 32 := Scalar.remsi v1169 c8_i32_951
  let c0_i32_2297 : BitVec 32 := 0#32
  let v2136 : BitVec 1 := Scalar.cmpi .ne v1170 c0_i32_2297
  let v2137 : BitVec 32 := Scalar.extui v2136
  let c0_i32_2302 : BitVec 32 := 0#32
  let v2138 : BitVec 1 := Scalar.cmpi .ne v2137 c0_i32_2302
  v2138

def k0_off91 (d0 : Dev nD) : Fin 4 → Nat :=
  let c3_i32_2298 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_949 : BitVec 32 := 0#32
  let v1168 : BitVec 32 := Scalar.subi v2 c0_i32_949
  let c8_i32_950 : BitVec 32 := 8#32
  let v1169 : BitVec 32 := Scalar.addi v1168 c8_i32_950
  let c8_i32_951 : BitVec 32 := 8#32
  let v1170 : BitVec 32 := Scalar.remsi v1169 c8_i32_951
  let c0_i32_2685 : BitVec 32 := 0#32
  let c0_i32_2686 : BitVec 32 := 0#32
  ![3, v1170.toNat, 0, 0]
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_958 : BitVec 32 := 1#32
  let v1174 : BitVec 32 := Scalar.subi v2 c1_i32_958
  let c8_i32_959 : BitVec 32 := 8#32
  let v1175 : BitVec 32 := Scalar.addi v1174 c8_i32_959
  let c8_i32_960 : BitVec 32 := 8#32
  let v1176 : BitVec 32 := Scalar.remsi v1175 c8_i32_960
  let c0_i32_2303 : BitVec 32 := 0#32
  let v2139 : BitVec 1 := Scalar.cmpi .ne v1176 c0_i32_2303
  let v2140 : BitVec 32 := Scalar.extui v2139
  let c0_i32_2308 : BitVec 32 := 0#32
  let v2141 : BitVec 1 := Scalar.cmpi .ne v2140 c0_i32_2308
  v2141

def k0_off92 (d0 : Dev nD) : Fin 4 → Nat :=
  let c3_i32_2304 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_958 : BitVec 32 := 1#32
  let v1174 : BitVec 32 := Scalar.subi v2 c1_i32_958
  let c8_i32_959 : BitVec 32 := 8#32
  let v1175 : BitVec 32 := Scalar.addi v1174 c8_i32_959
  let c8_i32_960 : BitVec 32 := 8#32
  let v1176 : BitVec 32 := Scalar.remsi v1175 c8_i32_960
  let c0_i32_2684 : BitVec 32 := 0#32
  let c0_i32_2685 : BitVec 32 := 0#32
  ![3, v1176.toNat, 0, 0]
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_967 : BitVec 32 := 2#32
  let v1180 : BitVec 32 := Scalar.subi v2 c2_i32_967
  let c8_i32_968 : BitVec 32 := 8#32
  let v1181 : BitVec 32 := Scalar.addi v1180 c8_i32_968
  let c8_i32_969 : BitVec 32 := 8#32
  let v1182 : BitVec 32 := Scalar.remsi v1181 c8_i32_969
  let c0_i32_2309 : BitVec 32 := 0#32
  let v2142 : BitVec 1 := Scalar.cmpi .ne v1182 c0_i32_2309
  let v2143 : BitVec 32 := Scalar.extui v2142
  let c0_i32_2314 : BitVec 32 := 0#32
  let v2144 : BitVec 1 := Scalar.cmpi .ne v2143 c0_i32_2314
  v2144

def k0_off93 (d0 : Dev nD) : Fin 4 → Nat :=
  let c3_i32_2310 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_967 : BitVec 32 := 2#32
  let v1180 : BitVec 32 := Scalar.subi v2 c2_i32_967
  let c8_i32_968 : BitVec 32 := 8#32
  let v1181 : BitVec 32 := Scalar.addi v1180 c8_i32_968
  let c8_i32_969 : BitVec 32 := 8#32
  let v1182 : BitVec 32 := Scalar.remsi v1181 c8_i32_969
  let c0_i32_2684 : BitVec 32 := 0#32
  let c0_i32_2685 : BitVec 32 := 0#32
  ![3, v1182.toNat, 0, 0]
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_976 : BitVec 32 := 3#32
  let v1186 : BitVec 32 := Scalar.subi v2 c3_i32_976
  let c8_i32_977 : BitVec 32 := 8#32
  let v1187 : BitVec 32 := Scalar.addi v1186 c8_i32_977
  let c8_i32_978 : BitVec 32 := 8#32
  let v1188 : BitVec 32 := Scalar.remsi v1187 c8_i32_978
  let c0_i32_2315 : BitVec 32 := 0#32
  let v2145 : BitVec 1 := Scalar.cmpi .ne v1188 c0_i32_2315
  let v2146 : BitVec 32 := Scalar.extui v2145
  let c0_i32_2320 : BitVec 32 := 0#32
  let v2147 : BitVec 1 := Scalar.cmpi .ne v2146 c0_i32_2320
  v2147

def k0_off94 (d0 : Dev nD) : Fin 4 → Nat :=
  let c3_i32_2316 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_976 : BitVec 32 := 3#32
  let v1186 : BitVec 32 := Scalar.subi v2 c3_i32_976
  let c8_i32_977 : BitVec 32 := 8#32
  let v1187 : BitVec 32 := Scalar.addi v1186 c8_i32_977
  let c8_i32_978 : BitVec 32 := 8#32
  let v1188 : BitVec 32 := Scalar.remsi v1187 c8_i32_978
  let c0_i32_2684 : BitVec 32 := 0#32
  let c0_i32_2685 : BitVec 32 := 0#32
  ![3, v1188.toNat, 0, 0]
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_985 : BitVec 32 := 4#32
  let v1192 : BitVec 32 := Scalar.subi v2 c4_i32_985
  let c8_i32_986 : BitVec 32 := 8#32
  let v1193 : BitVec 32 := Scalar.addi v1192 c8_i32_986
  let c8_i32_987 : BitVec 32 := 8#32
  let v1194 : BitVec 32 := Scalar.remsi v1193 c8_i32_987
  let c0_i32_2321 : BitVec 32 := 0#32
  let v2148 : BitVec 1 := Scalar.cmpi .ne v1194 c0_i32_2321
  let v2149 : BitVec 32 := Scalar.extui v2148
  let c0_i32_2326 : BitVec 32 := 0#32
  let v2150 : BitVec 1 := Scalar.cmpi .ne v2149 c0_i32_2326
  v2150

def k0_off95 (d0 : Dev nD) : Fin 4 → Nat :=
  let c3_i32_2322 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_985 : BitVec 32 := 4#32
  let v1192 : BitVec 32 := Scalar.subi v2 c4_i32_985
  let c8_i32_986 : BitVec 32 := 8#32
  let v1193 : BitVec 32 := Scalar.addi v1192 c8_i32_986
  let c8_i32_987 : BitVec 32 := 8#32
  let v1194 : BitVec 32 := Scalar.remsi v1193 c8_i32_987
  let c0_i32_2684 : BitVec 32 := 0#32
  let c0_i32_2685 : BitVec 32 := 0#32
  ![3, v1194.toNat, 0, 0]
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_994 : BitVec 32 := 5#32
  let v1198 : BitVec 32 := Scalar.subi v2 c5_i32_994
  let c8_i32_995 : BitVec 32 := 8#32
  let v1199 : BitVec 32 := Scalar.addi v1198 c8_i32_995
  let c8_i32_996 : BitVec 32 := 8#32
  let v1200 : BitVec 32 := Scalar.remsi v1199 c8_i32_996
  let c0_i32_2327 : BitVec 32 := 0#32
  let v2151 : BitVec 1 := Scalar.cmpi .ne v1200 c0_i32_2327
  let v2152 : BitVec 32 := Scalar.extui v2151
  let c0_i32_2332 : BitVec 32 := 0#32
  let v2153 : BitVec 1 := Scalar.cmpi .ne v2152 c0_i32_2332
  v2153

def k0_off96 (d0 : Dev nD) : Fin 4 → Nat :=
  let c3_i32_2328 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_994 : BitVec 32 := 5#32
  let v1198 : BitVec 32 := Scalar.subi v2 c5_i32_994
  let c8_i32_995 : BitVec 32 := 8#32
  let v1199 : BitVec 32 := Scalar.addi v1198 c8_i32_995
  let c8_i32_996 : BitVec 32 := 8#32
  let v1200 : BitVec 32 := Scalar.remsi v1199 c8_i32_996
  let c0_i32_2684 : BitVec 32 := 0#32
  let c0_i32_2685 : BitVec 32 := 0#32
  ![3, v1200.toNat, 0, 0]
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1003 : BitVec 32 := 6#32
  let v1204 : BitVec 32 := Scalar.subi v2 c6_i32_1003
  let c8_i32_1004 : BitVec 32 := 8#32
  let v1205 : BitVec 32 := Scalar.addi v1204 c8_i32_1004
  let c8_i32_1005 : BitVec 32 := 8#32
  let v1206 : BitVec 32 := Scalar.remsi v1205 c8_i32_1005
  let c0_i32_2333 : BitVec 32 := 0#32
  let v2154 : BitVec 1 := Scalar.cmpi .ne v1206 c0_i32_2333
  let v2155 : BitVec 32 := Scalar.extui v2154
  let c0_i32_2338 : BitVec 32 := 0#32
  let v2156 : BitVec 1 := Scalar.cmpi .ne v2155 c0_i32_2338
  v2156

def k0_off97 (d0 : Dev nD) : Fin 4 → Nat :=
  let c3_i32_2334 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1003 : BitVec 32 := 6#32
  let v1204 : BitVec 32 := Scalar.subi v2 c6_i32_1003
  let c8_i32_1004 : BitVec 32 := 8#32
  let v1205 : BitVec 32 := Scalar.addi v1204 c8_i32_1004
  let c8_i32_1005 : BitVec 32 := 8#32
  let v1206 : BitVec 32 := Scalar.remsi v1205 c8_i32_1005
  let c0_i32_2684 : BitVec 32 := 0#32
  let c0_i32_2685 : BitVec 32 := 0#32
  ![3, v1206.toNat, 0, 0]
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1012 : BitVec 32 := 7#32
  let v1210 : BitVec 32 := Scalar.subi v2 c7_i32_1012
  let c8_i32_1013 : BitVec 32 := 8#32
  let v1211 : BitVec 32 := Scalar.addi v1210 c8_i32_1013
  let c8_i32_1014 : BitVec 32 := 8#32
  let v1212 : BitVec 32 := Scalar.remsi v1211 c8_i32_1014
  let c0_i32_2339 : BitVec 32 := 0#32
  let v2157 : BitVec 1 := Scalar.cmpi .ne v1212 c0_i32_2339
  let v2158 : BitVec 32 := Scalar.extui v2157
  let c0_i32_2344 : BitVec 32 := 0#32
  let v2159 : BitVec 1 := Scalar.cmpi .ne v2158 c0_i32_2344
  v2159

def k0_off98 (d0 : Dev nD) : Fin 4 → Nat :=
  let c3_i32_2340 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1012 : BitVec 32 := 7#32
  let v1210 : BitVec 32 := Scalar.subi v2 c7_i32_1012
  let c8_i32_1013 : BitVec 32 := 8#32
  let v1211 : BitVec 32 := Scalar.addi v1210 c8_i32_1013
  let c8_i32_1014 : BitVec 32 := 8#32
  let v1212 : BitVec 32 := Scalar.remsi v1211 c8_i32_1014
  let c0_i32_2684 : BitVec 32 := 0#32
  let c0_i32_2685 : BitVec 32 := 0#32
  ![3, v1212.toNat, 0, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S8192x1024 : Shape := ⟨2, ![8192, 1024]⟩
abbrev S4x256x8192 : Shape := ⟨3, ![4, 256, 8192]⟩
abbrev S4x256x64x128 : Shape := ⟨4, ![4, 256, 64, 128]⟩
abbrev S_ : Shape := ⟨0, ![]⟩
abbrev S4x64x256x1 : Shape := ⟨4, ![4, 64, 256, 1]⟩
abbrev S4x64x256x256 : Shape := ⟨4, ![4, 64, 256, 256]⟩
abbrev S4x64x256 : Shape := ⟨3, ![4, 64, 256]⟩
abbrev S4x256x64x1 : Shape := ⟨4, ![4, 256, 64, 1]⟩
abbrev S4x64x128x256 : Shape := ⟨4, ![4, 64, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S4x256x8192, .f32⟩
  | .hbm, ⟨8, _⟩ => ⟨S4x256x64x128, .f32⟩
  | .hbm, ⟨9, _⟩ => ⟨S4x256x8192, .f32⟩
  | .hbm, ⟨10, _⟩ => ⟨S4x256x64x128, .f32⟩
  | .hbm, ⟨11, _⟩ => ⟨S_, .f32⟩
  | .hbm, ⟨12, _⟩ => ⟨S4x256x64x128, .f32⟩
  | .hbm, ⟨13, _⟩ => ⟨S_, .f32⟩
  | .hbm, ⟨14, _⟩ => ⟨S4x64x256x1, .f32⟩
  | .hbm, ⟨15, _⟩ => ⟨S_, .f32⟩
  | .hbm, ⟨16, _⟩ => ⟨S4x64x256x1, .f32⟩
  | .hbm, ⟨17, _⟩ => ⟨S4x64x256x256, .f32⟩
  | .hbm, ⟨18, _⟩ => ⟨S_, .f32⟩
  | .hbm, ⟨19, _⟩ => ⟨S4x64x256x256, .f32⟩
  | .hbm, ⟨20, _⟩ => ⟨S4x64x256x256, .f32⟩
  | .hbm, ⟨21, _⟩ => ⟨S_, .f32⟩
  | .hbm, ⟨22, _⟩ => ⟨S4x64x256, .f32⟩
  | .hbm, ⟨23, _⟩ => ⟨S4x64x256x1, .f32⟩
  | .hbm, ⟨24, _⟩ => ⟨S4x64x256x1, .f32⟩
  | .hbm, ⟨25, _⟩ => ⟨S4x64x256x1, .f32⟩
  | .hbm, ⟨26, _⟩ => ⟨S4x64x256x1, .f32⟩
  | .hbm, ⟨27, _⟩ => ⟨S4x64x256x256, .f32⟩
  | .hbm, ⟨28, _⟩ => ⟨S4x64x256x256, .f32⟩
  | .hbm, ⟨29, _⟩ => ⟨S4x64x256x256, .f32⟩
  | .hbm, ⟨30, _⟩ => ⟨S4x64x256x1, .f32⟩
  | .hbm, ⟨31, _⟩ => ⟨S_, .f32⟩
  | .hbm, ⟨32, _⟩ => ⟨S4x64x256, .f32⟩
  | .hbm, ⟨33, _⟩ => ⟨S4x64x256x1, .f32⟩
  | .hbm, ⟨34, _⟩ => ⟨S4x64x256x1, .f32⟩
  | .hbm, ⟨35, _⟩ => ⟨S4x256x64x1, .f32⟩
  | .hbm, ⟨36, _⟩ => ⟨S4x256x64x128, .f32⟩
  | .hbm, ⟨37, _⟩ => ⟨S4x256x64x128, .f32⟩
  | .hbm, ⟨38, _⟩ => ⟨S4x64x128x256, .f32⟩
  | .hbm, ⟨39, _⟩ => ⟨S4x256x64x128, .f32⟩
  | .hbm, ⟨40, _⟩ => ⟨S4x256x64x128, .f32⟩
  | .hbm, ⟨41, _⟩ => ⟨S4x256x64x1, .f32⟩
  | .hbm, ⟨42, _⟩ => ⟨S4x256x64x128, .f32⟩
  | .hbm, ⟨43, _⟩ => ⟨S4x256x64x128, .f32⟩
  | .hbm, ⟨44, _⟩ => ⟨S4x256x8192, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Base.lean ====
/-
# The fused attention and all-reduce kernel: views, contents and the protocol

One launch over eight devices. Device `c` computes, for each of the four batches, its own partial output of the
attention block (its eight heads), sends 32 rows of it to every other device (the reduce-scatter copies), adds the
seven chunks that it receives to its own, and sends the sum to every other device (the all-gather copies).

Semaphores, each waited for by its own device only:

* the barrier semaphore of `c`: each other device `p` signals it once and hands over with it the eight landing slots
  (four in the reduce-scatter buffer, four in the all-gather buffer) of `p` that `c` copies into; `c` waits once, for 7;
* `rs_send[b, d]` of `c` (`d ≠ c`): the copy to `d` of batch `b` gives the rows of the partial output back;
* `rs_recv[b, j]` of `c` (`j ≠ 0`): the copy by `c + j` lands: slot `[b, j]` holds the rows of `c` of the partial output of `c + j`;
* `ag_send[b, j]` of `c` (`j ≠ 0`): the copy to `c - j` gives the eighth of the source slot back;
* `ag_recv[b, j]` of `c` (`j ≠ 0`): the copy by `c + j` lands: slot `[b, j]` holds the sum that `c + j` formed.

Levels: barrier 1, `rs_recv` of batch `b` at `2 + b`, `ag_recv` of batch `b` at `10 + b`, all else 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic
public import Idealize.ShloMosaic.Lib.ValueLayout
public import Idealize.ShloMosaic.Lib.Pipeline.ValueKit.Geometry

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resources -/

/-- Duties carry the number of a device. -/
abbrev UB : Type := URounds (GSem nD τ sig) (Fin 8)
/-- The staging's rounds and the kernel's own. -/
abbrev UU : Type := UR sig nD τ × UB

local notation "𝕄" => MT nD τ sig Unit (Elt F) ℕ UU ℕ

/-- The staging's resources among all. -/
abbrev EP : Emb (UR sig nD τ) (MT nD τ sig Unit (Elt F) ℕ UU ℕ) := embL
/-- The kernel's own resources among all. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- A batch and a device (absolute or relative). -/
abbrev P : Type := Fin 4 × Fin 8

/-! ## Views -/

/-- The staged `x`, whole. -/
abbrev xM : Memref sig .tc .vmem S4x256x1024 .f32 := Memref.whole cc0_stg0_0
/-- The staged `Wq`. -/
abbrev wqM : Memref sig .tc .vmem S1024x1024 .f32 := Memref.whole cc0_stg1_0
/-- The staged `Wo`. -/
abbrev woM : Memref sig .tc .vmem S1024x1024 .f32 := Memref.whole cc0_stg2_0
/-- The staged `Wk`. -/
abbrev wkM : Memref sig .tc .vmem S1024x1024 .f32 := Memref.whole cc0_stg3_0
/-- The staged `Wv`. -/
abbrev wvM : Memref sig .tc .vmem S1024x1024 .f32 := Memref.whole cc0_stg4_0
/-- The staged result. -/
abbrev oM : Memref sig .tc .vmem S1024x1024 .f32 := Memref.whole cc0_stg5_0
/-- The partial-output buffer. -/
abbrev pM : Memref sig .tc .vmem S1024x1024 .bf16 := Memref.whole cc0_scratch0
/-- The reduce-scatter landing buffer. -/
abbrev rM : Memref sig .tc .vmem S4x8x32x1024 .bf16 := Memref.whole cc0_scratch1
/-- The all-gather source buffer. -/
abbrev gM : Memref sig .tc .vmem S4x32x1024 .bf16 := Memref.whole cc0_scratch2
/-- The all-gather landing buffer. -/
abbrev aM : Memref sig .tc .vmem S4x8x32x1024 .bf16 := Memref.whole cc0_scratch3

/-- A landing slot lies in its buffer. -/
theorem slot_inb (b : Fin 4) (j : Fin 8) : ∀ a, (![b.val, j.val, 0, 0] : Fin 4 → Nat) a + S1x1x32x1024.size a ≤ S4x8x32x1024.size a := by
  revert b j; decide
/-- An element lies in its semaphore array. -/
theorem sem_inb (b : Fin 4) (j : Fin 8) : ∀ a, (![b.val, j.val] : Fin 2 → Nat) a + S1x1.size a ≤ S4x8.size a := by
  revert b j; decide
/-- A device's rows of a batch lie in the array. -/
theorem chunk_inb (b : Fin 4) (j : Fin 8) : ∀ a, (![256 * b.val + 32 * j.val, 0] : Fin 2 → Nat) a + S32x1024.size a ≤ S1024x1024.size a := by
  revert b j; decide
/-- A batch's rows lie in the array. -/
theorem batch_inb (b : Fin 4) : ∀ a, (![256 * b.val, 0] : Fin 2 → Nat) a + S256x1024.size a ≤ S1024x1024.size a := by
  revert b; decide
/-- A batch's slot lies in the all-gather source buffer. -/
theorem gb_inb (b : Fin 4) : ∀ a, (![b.val, 0, 0] : Fin 3 → Nat) a + S1x32x1024.size a ≤ S4x32x1024.size a := by
  revert b; decide
/-- A batch lies in `x`. -/
theorem xb_inb (b : Fin 4) : ∀ a, (![b.val, 0, 0] : Fin 3 → Nat) a + S1x256x1024.size a ≤ S4x256x1024.size a := by
  revert b; decide

/-- Slot `[b, j]` of a landing buffer. -/
abbrev slotR (b : Fin 4) (j : Fin 8) : Rect S4x8x32x1024 := Rect.unit (s := S4x8x32x1024) ![b.val, j.val, 0, 0] S1x1x32x1024.size (slot_inb b j)
/-- The 32 rows of device `d` in batch `b`. -/
abbrev chunkR (b : Fin 4) (d : Fin 8) : Rect S1024x1024 := Rect.unit (s := S1024x1024) ![256 * b.val + 32 * d.val, 0] S32x1024.size (chunk_inb b d)
/-- The rows of batch `b`. -/
abbrev batchR (b : Fin 4) : Rect S1024x1024 := Rect.unit (s := S1024x1024) ![256 * b.val, 0] S256x1024.size (batch_inb b)
/-- Slot `b` of the all-gather source buffer. -/
abbrev gbR (b : Fin 4) : Rect S4x32x1024 := Rect.unit (s := S4x32x1024) ![b.val, 0, 0] S1x32x1024.size (gb_inb b)
/-- Batch `b` of the input. -/
abbrev xbR (b : Fin 4) : Rect S4x256x1024 := Rect.unit (s := S4x256x1024) ![b.val, 0, 0] S1x256x1024.size (xb_inb b)

/-- The memrefs that the copies name. -/
abbrev slotM (M : Memref sig .tc .vmem S4x8x32x1024 .bf16) (b : Fin 4) (j : Fin 8) : Memref sig .tc .vmem S32x1024 .bf16 :=
  (M.slice (slotR b j) (fun _ => rfl)).squeeze S32x1024 squeezes_S1x1x32x1024_S32x1024
/-- The rows of device `d` in batch `b` of the partial output, as a copy's source. -/
abbrev chunkM (b : Fin 4) (d : Fin 8) : Memref sig .tc .vmem S32x1024 .bf16 := pM.slice (chunkR b d) (fun _ => rfl)
/-- Slot `b` of the all-gather source buffer, as a copy's source. -/
abbrev gbM (b : Fin 4) : Memref sig .tc .vmem S32x1024 .bf16 :=
  (gM.slice (gbR b) (fun _ => rfl)).squeeze S32x1024 squeezes_S1x32x1024_S32x1024

/-! ## Cells -/

/-- The four semaphore arrays: `rs_send`, `rs_recv`, `ag_send`, `ag_recv`. -/
def semArr : Fin 4 → DmaSems sig S4x8 := fun | 0 => cc0_scratch4 | 1 => cc0_scratch5 | 2 => cc0_scratch6 | 3 => cc0_scratch7

/-- The element `[b, j]` of an array. -/
abbrev semAt (A : DmaSems sig S4x8) (b : Fin 4) (j : Fin 8) : DmaSem sig :=
  ((A.slice (Rect.unit (s := S4x8) ![b.val, j.val] S1x1.size (sem_inb b j))).squeeze S_ squeezes_S1x1_S_).sem
/-- Element `[b, j]` of array `k`. -/
abbrev semOf (k : Fin 4) (b : Fin 4) (j : Fin 8) : DmaSem sig := semAt (semArr k) b j

/-- The runtime's barrier semaphore. -/
abbrev barS : Sem sig := (SemArray.scalar (sig.barrier 0 rfl) : Sems sig S_).sem

/-- The barrier counter of device `c`. -/
abbrev barCell (c : Dev nD) : GSem nD τ sig := ((c : Thread nD τ), .reg barS)
/-- The counter of element `[b, j]` of array `k` on device `c`. -/
abbrev dCell (k : Fin 4) (c : Dev nD) (b : Fin 4) (j : Fin 8) : GSem nD τ sig := ((c : Thread nD τ), .dma (semOf k b j))

/-- The number of an element's semaphore. -/
theorem semOf_val (k b : Fin 4) (j : Fin 8) : (semOf k b j).val = 6 + 32 * k.val + 8 * b.val + j.val := by
  revert k b j; decide

/-- Which array, batch and column a semaphore's number stands for. -/
def kOf (q : DmaSem sig) : Fin 4 := ⟨(q.val - 6) / 32 % 4, Nat.mod_lt _ (by decide)⟩
/-- The batch that a semaphore's number stands for. -/
def bOf (q : DmaSem sig) : Fin 4 := ⟨(q.val - 6) / 8 % 4, Nat.mod_lt _ (by decide)⟩
/-- The column that it stands for. -/
def jOf (q : DmaSem sig) : Fin 8 := ⟨(q.val - 6) % 8, Nat.mod_lt _ (by decide)⟩

/-- The array is read back from an element's number, -/
theorem kOf_semOf (k b : Fin 4) (j : Fin 8) : kOf (semOf k b j) = k := by
  apply Fin.ext; have := semOf_val k b j; simp only [kOf]; omega
/-- so is the batch, -/
theorem bOf_semOf (k b : Fin 4) (j : Fin 8) : bOf (semOf k b j) = b := by
  apply Fin.ext; have := semOf_val k b j; simp only [bOf]; omega
/-- and the column. -/
theorem jOf_semOf (k b : Fin 4) (j : Fin 8) : jOf (semOf k b j) = j := by
  apply Fin.ext; have := semOf_val k b j; simp only [jOf]; omega
/-- The arrays' numbers come after the six of the staging. -/
theorem six_le_semOf (k b : Fin 4) (j : Fin 8) : 6 ≤ (semOf k b j).val := by
  have := semOf_val k b j; omega

/-- The credit of one copy: 32 rows of 1024 bf16 values. -/
def N : ℕ := (slotM rM 0 0).view.dmaCredit
/-- A copy has a positive credit. -/
theorem N_pos : 0 < N := View.dmaCredit_pos _ (by decide)

/-! ## Contents -/

/-- The staged inputs: `x`, `Wq`, `Wo`, `Wk`, `Wv`. -/
def xV (c : Dev nD) : (cc0_stg0_0 : Ref sig .tc).ty.Contents (Elt F) :=
  (win0_0.blk (0 : Fin 1)).view.read (Elt F) ((s₀ m ρ).mem ((c : Thread nD τ).loc main_arg0))
/-- The staged `Wq`. -/
def wqV (c : Dev nD) : (cc0_stg1_0 : Ref sig .tc).ty.Contents (Elt F) :=
  (win0_1.blk (0 : Fin 1)).view.read (Elt F) ((s₀ m ρ).mem ((c : Thread nD τ).loc main_arg1))
/-- The staged `Wo`. -/
def woV (c : Dev nD) : (cc0_stg2_0 : Ref sig .tc).ty.Contents (Elt F) :=
  (win0_2.blk (0 : Fin 1)).view.read (Elt F) ((s₀ m ρ).mem ((c : Thread nD τ).loc main_arg4))
/-- The staged `Wk`. -/
def wkV (c : Dev nD) : (cc0_stg3_0 : Ref sig .tc).ty.Contents (Elt F) :=
  (win0_3.blk (0 : Fin 1)).view.read (Elt F) ((s₀ m ρ).mem ((c : Thread nD τ).loc main_arg2))
/-- The staged `Wv`. -/
def wvV (c : Dev nD) : (cc0_stg4_0 : Ref sig .tc).ty.Contents (Elt F) :=
  (win0_4.blk (0 : Fin 1)).view.read (Elt F) ((s₀ m ρ).mem ((c : Thread nD τ).loc main_arg3))

/-- Batch `b` of `x` as the kernel loads it. -/
def xb (c : Dev nD) (b : Fin 4) : Vec F S1x256x1024 .f32 :=
  xM.view.readAt (Elt F) (xbR b).toLoadRect (xV m ρ c)

/-- One batch's partial attention output, from the batch and the four weight blocks: the first batch's payloads composed. -/
def attnOf (x : Vec F S1x256x1024 .f32) (wq wk wv wo : Vec F S1024x1024 .f32) : FVec F S256x1024 .bf16 :=
  k0_pay19 (k0_pay2 x wq) (k0_pay3 x wk) (k0_pay4 x wv)
    (k0_pay8 (k0_pay6 x wq wk) (k0_pay7 x wq wk wv))
    (k0_pay9 (k0_pay2 x wq) (k0_pay3 x wk) (k0_pay4 x wv)) (k0_pay10 (k0_pay2 x wq) (k0_pay3 x wk) (k0_pay4 x wv))
    (k0_pay13 (k0_pay11 (k0_pay4 x wv)) (k0_pay12 (k0_pay2 x wq) (k0_pay3 x wk)))
    (k0_pay14 (k0_pay2 x wq) (k0_pay3 x wk) (k0_pay4 x wv)) (k0_pay15 (k0_pay2 x wq) (k0_pay3 x wk) (k0_pay4 x wv))
    (k0_pay16 (k0_pay4 x wv)) (k0_pay17 (k0_pay2 x wq) (k0_pay3 x wk)) k0_pay18 wo

/-- Device `c`'s partial output of batch `b`. -/
def att (c : Dev nD) (b : Fin 4) : FVec F S256x1024 .bf16 := attnOf (xb m ρ c b) (wqV m ρ c) (wkV m ρ c) (wvV m ρ c) (woV m ρ c)

/-- The partial-output buffer, all four batches stored. -/
def pF (c : Dev nD) : S1024x1024.Idx → Elt F .bf16 := fun i =>
  att m ρ c ⟨(i 0).val / 256, Nat.div_lt_of_lt_mul (i 0).isLt⟩ (ix2 (⟨(i 0).val % 256, Nat.mod_lt _ (by decide)⟩ : Fin 256) (i 1))

/-- The row of device `d` in batch `b`. -/
def rowOf (b : Fin 4) (d : Fin 8) (r : Fin 32) : Fin 1024 := ⟨256 * b.val + 32 * d.val + r.val, by omega⟩

/-- The column of a slot's index. -/
abbrev colOf (i : S4x8x32x1024.Idx) : Fin 8 := i 1

/-- The reduce-scatter landing buffer: slot `[b, j]` holds the rows of `c` of what device `c + j` computed. -/
def rF (c : Dev nD) : S4x8x32x1024.Idx → Elt F .bf16 := fun i => pF m ρ (c + colOf i) (ix2 (rowOf (i 0) c (i 2)) (i 3))

/-- The own chunk and the received slots as the kernel loads them. -/
def ldP (c : Dev nD) (b : Fin 4) : Vec F S32x1024 .bf16 := pM.view.readAt (Elt F) (chunkR b c).toLoadRect (pF m ρ c)
/-- A received slot as the kernel loads it. -/
def ldR (c : Dev nD) (b : Fin 4) (j : Fin 8) : Vec F S1x1x32x1024 .bf16 := rM.view.readAt (Elt F) (slotR b j).toLoadRect (rF m ρ c)

/-- The sum that device `c` forms of batch `b`: the first batch's payloads composed. -/
def red (c : Dev nD) (b : Fin 4) : FVec F S32x1024 .f32 :=
  k0_pay40 (k0_pay39 (ldP m ρ c b) (ldR m ρ c b 1) (ldR m ρ c b 2) (ldR m ρ c b 3))
    (ldR m ρ c b 4) (ldR m ρ c b 5) (ldR m ρ c b 6) (ldR m ρ c b 7)
/-- The same as the all-gather sends it. -/
def redG (c : Dev nD) (b : Fin 4) : FVec F S1x32x1024 .bf16 :=
  k0_pay41 (k0_pay39 (ldP m ρ c b) (ldR m ρ c b 1) (ldR m ρ c b 2) (ldR m ρ c b 3))
    (ldR m ρ c b 4) (ldR m ρ c b 5) (ldR m ρ c b 6) (ldR m ρ c b 7)

/-- The all-gather source buffer. -/
def gF (c : Dev nD) : S4x32x1024.Idx → Elt F .bf16 := fun i => redG m ρ c (i 0) (ix3 (⟨0, Nat.one_pos⟩ : Fin 1) (i 1) (i 2))

/-- The all-gather landing buffer: slot `[b, j]` holds the sum that device `c + j` formed. -/
def aF (c : Dev nD) : S4x8x32x1024.Idx → Elt F .bf16 := fun i => gF m ρ (c + colOf i) (ix3 (i 0) (i 2) (i 3))

/-- A gathered slot as the kernel loads it. -/
def ldA (c : Dev nD) (b : Fin 4) (j : Fin 8) : Vec F S1x1x32x1024 .bf16 := aM.view.readAt (Elt F) (slotR b j).toLoadRect (aF m ρ c)

/-- The 32 rows of device `e` in the result of device `c`: its own sum, or the received one widened. -/
def outC (c : Dev nD) (b : Fin 4) (e : Fin 8) : FVec F S32x1024 .f32 :=
  if e = c then red m ρ c b else k0_pay82 (ldA m ρ c b (e - c))

/-- The result of device `c`. -/
def oF (c : Dev nD) : S1024x1024.Idx → Elt F .f32 := fun i =>
  outC m ρ c ⟨(i 0).val / 256, Nat.div_lt_of_lt_mul (i 0).isLt⟩
    ⟨(i 0).val % 256 / 32, by have := Nat.mod_lt (i 0).val (show 0 < 256 by decide); omega⟩
    (ix2 (⟨(i 0).val % 32, Nat.mod_lt _ (by decide)⟩ : Fin 32) (i 1))

/-! ## Pieces of the buffers -/

/-- The rows of device `d` in batch `b` of the partial-output buffer, holding `f`. -/
def pCh (c : Dev nD) (b : Fin 4) (d : Fin 8) (f : S1024x1024.Idx → Elt F .bf16) : sProp 𝕄 :=
  ((c : Thread nD τ).loc cc0_scratch0) ↦[(chunkR b d).set]{fullShare} f
/-- Batch `b` of the partial-output buffer, holding `f`. -/
def pBa (c : Dev nD) (b : Fin 4) (f : S1024x1024.Idx → Elt F .bf16) : sProp 𝕄 :=
  ((c : Thread nD τ).loc cc0_scratch0) ↦[(batchR b).set]{fullShare} f
/-- A slot of the reduce-scatter landing buffer, holding `f`. -/
def rSl (c : Dev nD) (b : Fin 4) (j : Fin 8) (f : S4x8x32x1024.Idx → Elt F .bf16) : sProp 𝕄 :=
  ((c : Thread nD τ).loc cc0_scratch1) ↦[(slotR b j).set]{fullShare} f
/-- A share of slot `b` of the all-gather source buffer, holding `f`. -/
def gSl (c : Dev nD) (b : Fin 4) (q : PosShare TreeShare) (f : S4x32x1024.Idx → Elt F .bf16) : sProp 𝕄 :=
  ((c : Thread nD τ).loc cc0_scratch2) ↦[(gbR b).set]{q} f
/-- A slot of the all-gather landing buffer, holding `f`. -/
def aSl (c : Dev nD) (b : Fin 4) (j : Fin 8) (f : S4x8x32x1024.Idx → Elt F .bf16) : sProp 𝕄 :=
  ((c : Thread nD τ).loc cc0_scratch3) ↦[(slotR b j).set]{fullShare} f
/-- The rows of device `e` in batch `b` of the result, holding `f`. -/
def oCh (c : Dev nD) (b : Fin 4) (e : Fin 8) (f : S1024x1024.Idx → Elt F .f32) : sProp 𝕄 :=
  ((c : Thread nD τ).loc cc0_stg5_0) ↦[(chunkR b e).set]{fullShare} f

/-- The `j`-th eighth of a slot's share. -/
def eighth (j : Fin 8) : PosShare TreeShare := ShareLeaves.leaf 3 fullShare j

/-! ## The schedule -/

/-- What device `p` hands over with its signal to `e`: the landing slots that `e` copies into. -/
def barPay (e p : Fin 8) : sProp 𝕄 :=
  bigSep Finset.univ fun b : Fin 4 => iprop((∃ f, rSl (F := F) p b (e - p) f) ∗ ∃ f, aSl (F := F) p b (e - p) f)

/-- What the copies onto device `c`'s semaphores hand over. -/
def dmaPay (c : Dev nD) (k : Fin 4) (b : Fin 4) (j : Fin 8) : sProp 𝕄 := match k with
  | 0 => pCh c b j (pF m ρ c)
  | 1 => rSl c b j (rF m ρ c)
  | 2 => gSl c b (eighth j) (gF m ρ c)
  | 3 => aSl c b j (aF m ρ c)

/-- Whether the element of an array is used: no device copies to itself. -/
def used (c : Dev nD) (k : Fin 4) (j : Fin 8) : Prop := if k = 0 then j ≠ c else j ≠ 0
instance (c : Dev nD) (k : Fin 4) (j : Fin 8) : Decidable (used c k j) := by unfold used; infer_instance

/-- One round: a barrier cell has one duty of one unit per other device, a used element of an array one of a copy's credit. -/
def sched : Rounds.Schedule (GSem nD τ sig) (Fin 8) 𝕄 where
  duties g r := if r = 0 ∧ g.1.2 = .tc then
      match g.2 with
      | .reg s => if s = barS then Finset.univ.erase g.1.1 else ∅
      | .dma q => if 6 ≤ q.val ∧ used g.1.1 (kOf q) (jOf q) then {0} else ∅
    else ∅
  unitless _ := False
  amount g _ _ := match g.2 with | .reg _ => 1 | .dma _ => N
  payload g _ p := match g.2 with
    | .reg _ => barPay g.1.1 p
    | .dma q => dmaPay m ρ g.1.1 (kOf q) (bOf q) (jOf q)
  amount_pos g _ _ _ := by
    rcases g with ⟨t, s | q⟩
    · exact Nat.one_pos
    · exact N_pos

/-- What a copy hands over can be kept in an invariant, -/
instance dmaPay_storable (c : Dev nD) (k b : Fin 4) (j : Fin 8) : BI.Storable (upEmb : UEmb _ 𝕄) (dmaPay m ρ c k b j) := by
  unfold dmaPay pCh rSl gSl aSl
  split <;> infer_instance
/-- so can what a signal hands over, -/
instance barPay_storable (e p : Fin 8) : BI.Storable (upEmb : UEmb _ 𝕄) (barPay (F := F) e p) := by
  unfold barPay rSl aSl
  infer_instance

/-- so can every payload of the schedule. -/
instance sched_payload_storable (g : GSem nD τ sig) (r : ℕ) (d : Fin 8) :
    BI.Storable (upEmb : UEmb _ 𝕄) ((sched (F := F) m ρ).payload g r d) := by
  rcases g with ⟨t, s | q⟩
  · exact barPay_storable (F := F) t.1 d
  · exact dmaPay_storable m ρ t.1 (kOf q) (bOf q) (jOf q)

section Sched
variable (c : Dev nD) (k b : Fin 4) (j : Fin 8)

/-- A barrier has one duty per other device. -/
theorem duties_bar : (sched (F := F) m ρ).duties (barCell c) 0 = Finset.univ.erase c := by
  dsimp only [sched]; rw [if_pos ⟨rfl, rfl⟩, if_pos rfl]
/-- A used element has one duty. -/
theorem duties_dma (h : used c k j) : (sched (F := F) m ρ).duties (dCell k c b j) 0 = {0} := by
  dsimp only [sched]
  rw [if_pos ⟨rfl, rfl⟩]
  exact if_pos ⟨six_le_semOf k b j, by rw [kOf_semOf, jOf_semOf]; exact h⟩
/-- An unused element has none. -/
theorem duties_idle (h : ¬ used c k j) (r : ℕ) : (sched (F := F) m ρ).duties (dCell k c b j) r = ∅ := by
  dsimp only [sched]
  split
  · exact if_neg (fun h' => h (by have := h'.2; rwa [kOf_semOf, jOf_semOf] at this))
  · rfl
/-- There is one round only. -/
theorem duties_later (g : GSem nD τ sig) : ∀ r, 1 ≤ r → (sched (F := F) m ρ).duties g r = ∅ :=
  fun r hr => by dsimp only [sched]; rw [if_neg fun h => by omega]

/-- A signal is one unit. -/
theorem amount_bar (p : Fin 8) : (sched (F := F) m ρ).amount (barCell c) 0 p = 1 := rfl
/-- A copy is one copy's credit. -/
theorem amount_dma (p : Fin 8) : (sched (F := F) m ρ).amount (dCell k c b j) 0 p = N := rfl

/-- A barrier expects seven units. -/
theorem expect_bar : (sched (F := F) m ρ).expect (barCell c) 0 = 7 := by
  unfold Schedule.expect Schedule.amountOf
  rw [duties_bar, Finset.sum_congr rfl fun d _ => amount_bar m ρ c d, Finset.sum_const, Finset.card_erase_of_mem (Finset.mem_univ _)]
  rfl
/-- A used element expects one copy's credit. -/
theorem expect_dma (h : used c k j) : (sched (F := F) m ρ).expect (dCell k c b j) 0 = N := by
  unfold Schedule.expect Schedule.amountOf; rw [duties_dma m ρ c k b j h, Finset.sum_singleton, amount_dma]

/-- What a signal hands over. -/
theorem payload_bar (p : Fin 8) : (sched (F := F) m ρ).payload (barCell c) 0 p = barPay c p := rfl
/-- What a copy hands over. -/
theorem payload_dma (p : Fin 8) : (sched (F := F) m ρ).payload (dCell k c b j) 0 p = dmaPay m ρ c k b j := by
  show dmaPay m ρ c (kOf (semOf k b j)) (bOf (semOf k b j)) (jOf (semOf k b j)) = _
  rw [kOf_semOf, bOf_semOf, jOf_semOf]

/-- What a wait on a used element of an array hands over. -/
theorem rest_dma (h : used c k j) : bigSep ((sched (F := F) m ρ).duties (dCell k c b j) 0 \ ∅) (fun d => (sched (F := F) m ρ).payload (dCell k c b j) 0 d)
    = dmaPay m ρ c k b j := by
  rw [Finset.sdiff_empty, duties_dma m ρ c k b j h, bigSep_singleton, payload_dma]
/-- What the barrier wait hands over. -/
theorem rest_bar : bigSep ((sched (F := F) m ρ).duties (barCell c) 0 \ ∅) (fun d => (sched (F := F) m ρ).payload (barCell c) 0 d)
    = bigSep (Finset.univ.erase c) fun p => barPay (F := F) c p := by
  rw [Finset.sdiff_empty, duties_bar]; rfl

end Sched

/-! ## What a device owes -/

/-- The place of `[b, j]` in program order. -/
abbrev ix (p : P) : ℕ := 8 * p.1.val + p.2.val

/-- What device `c` still owes when `nB` (signals), `nR` (reduce-scatter copies) and `nA` (all-gather copies) are the next ones. -/
def Owed (c : Dev nD) (nB nR nA : ℕ) : CellTallies nD τ sig Unit :=
  (∑ j : Fin 8, if nB ≤ j.val then (if j = 0 then 0 else tallyAt (barCell (c + j)) () 1) else 0)
  + (∑ p : P, if nR ≤ ix p then (if p.2 = c then 0 else tallyAt (dCell 1 p.2 p.1 (c - p.2)) () N) else 0)
  + (∑ p : P, if nA ≤ ix p then (if p.2 = 0 then 0 else tallyAt (dCell 3 (c - p.2) p.1 p.2) () N) else 0)

/-- A sum over what is left, the next one taken out. -/
theorem sum_left {I A : Type} [Fintype I] [DecidableEq I] [AddCommMonoid A] (pos : I → ℕ) (f : I → A) (n n' : ℕ) (i : I)
    (h : ∀ j, n ≤ pos j ↔ (n' ≤ pos j ∨ j = i)) (hi : ¬ n' ≤ pos i) :
    (∑ j, if n ≤ pos j then f j else 0) = (∑ j, if n' ≤ pos j then f j else 0) + f i := by
  rw [show f i = ∑ j, if j = i then f j else 0 by rw [Finset.sum_ite_eq' Finset.univ i f, if_pos (Finset.mem_univ i)],
    ← Finset.sum_add_distrib]
  refine Finset.sum_congr rfl fun j _ => ?_
  by_cases hj : j = i
  · subst hj; rw [if_pos ((h j).2 (Or.inr rfl)), if_neg hi, if_pos rfl, zero_add]
  · by_cases hn : n' ≤ pos j
    · rw [if_pos ((h j).2 (Or.inl hn)), if_pos hn, if_neg hj, add_zero]
    · rw [if_neg (fun h' => ((h j).1 h').elim hn hj), if_neg hn, if_neg hj, add_zero]

/-- What is owed before a signal: the signal, and the rest. -/
theorem Owed_bar (c : Dev nD) (j : Fin 8) (hj : j ≠ 0) (nR nA : ℕ) :
    Owed c j.val nR nA = Owed c (j.val + 1) nR nA + tallyAt (barCell (c + j)) () 1 := by
  unfold Owed
  rw [sum_left (fun j : Fin 8 => j.val) (fun j => if j = 0 then 0 else tallyAt (barCell (c + j)) () 1) j.val (j.val + 1) j
    (fun i => by rw [Fin.ext_iff]; omega) (by omega), if_neg hj]
  ac_rfl
/-- What is owed before a copy of the reduce-scatter: that copy, and the rest. -/
theorem Owed_rs (c : Dev nD) (b : Fin 4) (d : Fin 8) (hd : d ≠ c) (nB nA : ℕ) :
    Owed c nB (ix (b, d)) nA = Owed c nB (ix (b, d) + 1) nA + tallyAt (dCell 1 d b (c - d)) () N := by
  unfold Owed
  rw [sum_left ix (fun p : P => if p.2 = c then 0 else tallyAt (dCell 1 p.2 p.1 (c - p.2)) () N) (ix (b, d)) (ix (b, d) + 1) (b, d)
    (fun i => by rw [Prod.ext_iff, Fin.ext_iff, Fin.ext_iff]; have := i.2.isLt; have := d.isLt; dsimp only [ix]; omega) (by omega), if_neg hd]
  ac_rfl
/-- A copy that is not made (a device's own rows) owes nothing. -/
theorem Owed_rs_self (c : Dev nD) (b : Fin 4) (nB nA : ℕ) :
    Owed c nB (ix (b, c)) nA = Owed c nB (ix (b, c) + 1) nA := by
  unfold Owed
  rw [sum_left ix (fun p : P => if p.2 = c then 0 else tallyAt (dCell 1 p.2 p.1 (c - p.2)) () N) (ix (b, c)) (ix (b, c) + 1) (b, c)
    (fun i => by rw [Prod.ext_iff, Fin.ext_iff, Fin.ext_iff]; have := i.2.isLt; have : c.val < 8 := c.isLt; dsimp only [ix]; omega) (by omega), if_pos rfl,
    add_zero]

/-- The place after `[b, j]` in an order that skips column 0. -/
abbrev nx (b : Fin 4) (j : Fin 8) : ℕ := if j.val = 7 then 8 * b.val + 9 else 8 * b.val + j.val + 1

/-- From one place on: that place, or from the next place on. -/
theorem nx_iff (b : Fin 4) (j : Fin 8) (hj : j ≠ 0) (p : P) (hp : p.2 ≠ 0) :
    (ix (b, j) ≤ ix p ↔ (nx b j ≤ ix p ∨ p = (b, j))) := by
  have h1 := p.2.isLt; have h2 := j.isLt
  have h3 : p.2.val ≠ 0 := fun h => hp (Fin.ext h)
  have h4 : j.val ≠ 0 := fun h => hj (Fin.ext h)
  rw [Prod.ext_iff, Fin.ext_iff, Fin.ext_iff]
  dsimp only [ix, nx]
  split <;> omega
/-- A place comes before its next. -/
theorem nx_self (b : Fin 4) (j : Fin 8) : ¬ nx b j ≤ ix (b, j) := by
  dsimp only [ix, nx]; split <;> omega

/-- What is owed before a copy of the all-gather: that copy, and the rest. -/
theorem Owed_ag (c : Dev nD) (b : Fin 4) (j : Fin 8) (hj : j ≠ 0) (nB nR : ℕ) :
    Owed c nB nR (ix (b, j)) = Owed c nB nR (nx b j) + tallyAt (dCell 3 (c - j) b j) () N := by
  have key : (∑ p : P, if ix (b, j) ≤ ix p then (if p.2 = 0 then 0 else tallyAt (dCell 3 (c - p.2) p.1 p.2) () N) else (0 : CellTallies nD τ sig Unit))
      = (∑ p : P, if nx b j ≤ ix p then (if p.2 = 0 then 0 else tallyAt (dCell 3 (c - p.2) p.1 p.2) () N) else 0)
        + tallyAt (dCell 3 (c - j) b j) () N := by
    rw [show (tallyAt (dCell 3 (c - j) b j) () N : CellTallies nD τ sig Unit)
        = ∑ p : P, if p = (b, j) then tallyAt (dCell 3 (c - p.2) p.1 p.2) () N else 0 by
          rw [Finset.sum_ite_eq' Finset.univ (b, j) fun p : P => (tallyAt (dCell 3 (c - p.2) p.1 p.2) () N : CellTallies nD τ sig Unit),
            if_pos (Finset.mem_univ _)], ← Finset.sum_add_distrib]
    refine Finset.sum_congr rfl fun p _ => ?_
    by_cases hp : p.2 = 0
    · rw [if_pos hp, ite_self, ite_self, zero_add, if_neg (fun h => hj (by rw [h] at hp; exact hp))]
    · rw [if_neg hp]
      by_cases he : p = (b, j)
      · rw [if_pos ((nx_iff b j hj p hp).2 (Or.inr he)), if_neg (he ▸ nx_self b j), if_pos he, zero_add]
      · by_cases hn : nx b j ≤ ix p
        · rw [if_pos ((nx_iff b j hj p hp).2 (Or.inl hn)), if_pos hn, if_neg he, add_zero]
        · rw [if_neg (fun h => ((nx_iff b j hj p hp).1 h).elim hn he), if_neg hn, if_neg he, add_zero]
  unfold Owed
  rw [key]
  ac_rfl

/-- Whatever is owed is owed to a barrier or to a receive semaphore that is still to be copied onto. -/
theorem Owed_pos {c : Dev nD} {nB nR nA : ℕ} {g : GSem nD τ sig} {u : Unit} (h : 0 < Owed c nB nR nA g u) :
    (∃ j : Fin 8, nB ≤ j.val ∧ g = barCell (c + j)) ∨ (∃ p : P, nR ≤ ix p ∧ g = dCell 1 p.2 p.1 (c - p.2))
      ∨ (∃ p : P, nA ≤ ix p ∧ g = dCell 3 (c - p.2) p.1 p.2) := by
  have aux : ∀ {I : Type} [Fintype I] (f : I → CellTallies nD τ sig Unit), 0 < (∑ i, f i) g u → ∃ i, 0 < f i g u := by
    intro I _ f hf
    by_contra hn
    push Not at hn
    rw [Finset.sum_apply, Finsupp.finset_sum_apply, Finset.sum_eq_zero (fun i _ => Nat.le_zero.mp (hn i))] at hf
    exact Nat.lt_irrefl 0 hf
  have tal : ∀ {g' : GSem nD τ sig} {n : ℕ}, 0 < (tallyAt g' () n : CellTallies nD τ sig Unit) g u → g = g' := by
    intro g' n ht
    rw [tallyAt_apply] at ht
    by_contra hne
    rw [if_neg (fun h' => hne h'.1)] at ht
    exact Nat.lt_irrefl 0 ht
  have zer : ¬ 0 < (0 : CellTallies nD τ sig Unit) g u := Nat.lt_irrefl 0
  unfold Owed at h
  rw [Pi.add_apply, Finsupp.add_apply, Pi.add_apply, Finsupp.add_apply] at h
  rcases Nat.pos_iff_ne_zero.mp h |> fun hne => (by
    by_contra hcon
    push Not at hcon
    exact hne (by have := Nat.le_zero.mp hcon.1; have := Nat.le_zero.mp hcon.2.1; have := Nat.le_zero.mp hcon.2.2; omega) :
      0 < (∑ j : Fin 8, if nB ≤ j.val then (if j = 0 then 0 else tallyAt (barCell (c + j)) () 1) else (0 : CellTallies nD τ sig Unit)) g u
      ∨ 0 < (∑ p : P, if nR ≤ ix p then (if p.2 = c then 0 else tallyAt (dCell 1 p.2 p.1 (c - p.2)) () N) else (0 : CellTallies nD τ sig Unit)) g u
      ∨ 0 < (∑ p : P, if nA ≤ ix p then (if p.2 = 0 then 0 else tallyAt (dCell 3 (c - p.2) p.1 p.2) () N) else (0 : CellTallies nD τ sig Unit)) g u) with h1 | h1 | h1
  · obtain ⟨j, hj⟩ := aux _ h1
    refine Or.inl ⟨j, ?_⟩
    by_cases hn : nB ≤ j.val
    · rw [if_pos hn] at hj
      by_cases h0 : j = 0
      · rw [if_pos h0] at hj; exact absurd hj zer
      · rw [if_neg h0] at hj; exact ⟨hn, tal hj⟩
    · rw [if_neg hn] at hj; exact absurd hj zer
  · obtain ⟨p, hj⟩ := aux _ h1
    refine Or.inr (Or.inl ⟨p, ?_⟩)
    by_cases hn : nR ≤ ix p
    · rw [if_pos hn] at hj
      by_cases h0 : p.2 = c
      · rw [if_pos h0] at hj; exact absurd hj zer
      · rw [if_neg h0] at hj; exact ⟨hn, tal hj⟩
    · rw [if_neg hn] at hj; exact absurd hj zer
  · obtain ⟨p, hj⟩ := aux _ h1
    refine Or.inr (Or.inr ⟨p, ?_⟩)
    by_cases hn : nA ≤ ix p
    · rw [if_pos hn] at hj
      by_cases h0 : p.2 = 0
      · rw [if_pos h0] at hj; exact absurd hj zer
      · rw [if_neg h0] at hj; exact ⟨hn, tal hj⟩
    · rw [if_neg hn] at hj; exact absurd hj zer

/-! ## Levels -/

/-- The levels named at a counter: one on a core, none elsewhere. -/
def L (g : GSem nD τ sig) : Finset Unit := if g.1.2 = .tc then {()} else ∅
/-- Barrier cells at 1, `rs_recv` of batch `b` at `2 + b`, `ag_recv` of batch `b` at `10 + b`, all else at 0. -/
def lv (g : GSem nD τ sig) (_ : Unit) : ℕ := match g.2 with
  | .reg _ => 1
  | .dma q => if q.val < 6 then 0 else if kOf q = 1 then 2 + (bOf q).val else if kOf q = 3 then 10 + (bOf q).val else 0

/-- No level off a core, -/
theorem L_of_ne (g : GSem nD τ sig) (h : g.1.2 ≠ .tc) : L g = ∅ := if_neg h
/-- and one on a core. -/
theorem L_tc (c : Dev nD) (sm : SemLoc sig) : L ((c : Thread nD τ), sm) = {()} := if_pos rfl
/-- The barrier's level. -/
theorem lv_bar (c : Dev nD) : lv (barCell c) () = 1 := rfl
/-- The level of an element of the arrays. -/
theorem lv_dma (k : Fin 4) (c : Dev nD) (b : Fin 4) (j : Fin 8) :
    lv (dCell k c b j) () = if k = 1 then 2 + b.val else if k = 3 then 10 + b.val else 0 := by
  show (if (semOf k b j).val < 6 then 0 else if kOf (semOf k b j) = 1 then 2 + (bOf (semOf k b j)).val
    else if kOf (semOf k b j) = 3 then 10 + (bOf (semOf k b j)).val else 0) = _
  rw [if_neg (by have := six_le_semOf k b j; omega), kOf_semOf, bOf_semOf]

/-- A wait is allowed if what is still owed lies at higher levels. -/
theorem mayWait (c : Dev nD) (sm : SemLoc sig) (nB nR nA n : ℕ) (hsm : lv ((c : Thread nD τ), sm) () ≤ n)
    (hB : ∀ j : Fin 8, nB ≤ j.val → n < 1) (hR : ∀ p : P, nR ≤ ix p → n < 2 + p.1.val) (hA : ∀ p : P, nA ≤ ix p → n < 10 + p.1.val) :
    (levAts L lv : sProp 𝕄) ⊢ MayWait (c : Thread nD τ) sm () (Owed c nB nR nA) :=
  MayOwe.of_cut (L := L) (lev := lv) n (fun p hp => by rw [Finset.mem_singleton.mp hp, L_tc]; exact Finset.mem_singleton_self _)
    (fun g u hg => by
      rcases Owed_pos hg with ⟨j, _, rfl⟩ | ⟨p, _, rfl⟩ | ⟨p, _, rfl⟩ <;> exact Finset.mem_singleton_self _)
    (fun p hp => by rw [Finset.mem_singleton.mp hp]; exact hsm)
    (fun g u hg => by
      rcases Owed_pos hg with ⟨j, hj, rfl⟩ | ⟨p, hp, rfl⟩ | ⟨p, hp, rfl⟩
      · exact hB j hj
      · show n < lv (dCell 1 p.2 p.1 (c - p.2)) ()
        rw [lv_dma]; exact hR p hp
      · show n < lv (dCell 3 (c - p.2) p.1 p.2) ()
        rw [lv_dma]; exact hA p hp)

end Cert.Attn
-- ==== Proof.Contents.lean ====
/-
# What the copies and the stores leave

Each copy lands, and each store writes, exactly the part of the final contents at the piece it goes to.
-/
module

public import proofs.«01_k».proof.Proof.Base

@[expose] public section

noncomputable section

namespace Cert.Attn

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ) (ρ : Dev nD → PrngReg)

/-! ## The pieces' element sets -/

/-- The places of a chunk's source, -/
theorem set_chunkM (b : Fin 4) (j : Fin 8) : ((chunkM b j).view.set : Finset _) = (chunkR b j).set := View.set_slice_whole _ _
/-- of a slot of the reduce-scatter landing buffer, -/
theorem set_slotR (b : Fin 4) (j : Fin 8) : ((slotM rM b j).view.set : Finset _) = (slotR b j).set :=
  (View.set_reshape _ _).trans (View.set_slice_whole _ _)
/-- of a slot of the all-gather landing buffer, -/
theorem set_slotA (b : Fin 4) (j : Fin 8) : ((slotM aM b j).view.set : Finset _) = (slotR b j).set :=
  (View.set_reshape _ _).trans (View.set_slice_whole _ _)
/-- and of a slot of the all-gather source buffer. -/
theorem set_gbM (b : Fin 4) : ((gbM b).view.set : Finset _) = (gbR b).set :=
  (View.set_reshape _ _).trans (View.set_slice_whole _ _)

/-! ## Where the pieces' elements lie -/

/-- Where a slot's place lies in its buffer. -/
theorem slotR_emb (b : Fin 4) (j : Fin 8) (x : Fin 32) (y : Fin 1024) :
    (slotR b j).emb (ix4 (⟨0, Nat.one_pos⟩ : Fin 1) (⟨0, Nat.one_pos⟩ : Fin 1) x y) = ix4 b j x y := by
  funext a
  apply Fin.ext
  rw [ValueKit.rect_emb_unit_val]
  match a with
  | ⟨0, _⟩ => rfl
  | ⟨1, _⟩ => rfl
  | ⟨2, _⟩ => exact Nat.zero_add _
  | ⟨3, _⟩ => exact Nat.zero_add _
/-- Where a place of a batch's slot lies in the source buffer. -/
theorem gbR_emb (b : Fin 4) (x : Fin 32) (y : Fin 1024) :
    (gbR b).emb (ix3 (⟨0, Nat.one_pos⟩ : Fin 1) x y) = ix3 b x y := by
  funext a
  apply Fin.ext
  rw [ValueKit.rect_emb_unit_val]
  match a with
  | ⟨0, _⟩ => rfl
  | ⟨1, _⟩ => exact Nat.zero_add _
  | ⟨2, _⟩ => exact Nat.zero_add _
/-- Where a place of a device's rows lies in the array. -/
theorem chunkR_emb (b : Fin 4) (d : Fin 8) (x : Fin 32) (y : Fin 1024) :
    (chunkR b d).emb (ix2 x y) = ix2 (rowOf b d x) y := by
  funext a
  apply Fin.ext
  rw [ValueKit.rect_emb_unit_val]
  match a with
  | ⟨0, _⟩ => rfl
  | ⟨1, _⟩ => exact Nat.zero_add _
/-- Row `r` of batch `b`. -/
def brow (b : Fin 4) (r : Fin 256) : Fin 1024 := ⟨256 * b.val + r.val, by omega⟩
/-- Where a place of a batch's rows lies in the array. -/
theorem batchR_emb (b : Fin 4) (x : Fin 256) (y : Fin 1024) :
    (batchR b).emb (ix2 x y) = ix2 (brow b x) y := by
  funext a
  apply Fin.ext
  rw [ValueKit.rect_emb_unit_val]
  match a with
  | ⟨0, _⟩ => rfl
  | ⟨1, _⟩ => exact Nat.zero_add _

/-- The same for the reduce-scatter's slot as a copy names it, -/
theorem slotRM_emb (b : Fin 4) (j : Fin 8) (x : Fin 32) (y : Fin 1024) : (slotM rM b j).view.emb (ix2 x y) = ix4 b j x y := by
  rw [← slotR_emb, ← reshapeEquiv_ix2_11ab squeezes_S1x1x32x1024_S32x1024.numel_eq x y]; rfl
/-- for the all-gather's, -/
theorem slotAM_emb (b : Fin 4) (j : Fin 8) (x : Fin 32) (y : Fin 1024) : (slotM aM b j).view.emb (ix2 x y) = ix4 b j x y := by
  rw [← slotR_emb, ← reshapeEquiv_ix2_11ab squeezes_S1x1x32x1024_S32x1024.numel_eq x y]; rfl
/-- and for its source. -/
theorem gbM_emb (b : Fin 4) (x : Fin 32) (y : Fin 1024) : (gbM b).view.emb (ix2 x y) = ix3 b x y := by
  rw [← gbR_emb, ← reshapeEquiv_ix2_1ab squeezes_S1x32x1024_S32x1024.numel_eq x y]; rfl

/-! ## The final contents at those elements -/

/-- The partial-output buffer at a row of a batch. -/
theorem pF_brow (c : Dev nD) (b : Fin 4) (x : Fin 256) (y : Fin 1024) : pF m ρ c (ix2 (brow b x) y) = att m ρ c b (ix2 x y) := by
  have h1 : (⟨(brow b x).val / 256, Nat.div_lt_of_lt_mul (brow b x).isLt⟩ : Fin 4) = b := Fin.ext (by show (256 * b.val + x.val) / 256 = _; omega)
  have h2 : (⟨(brow b x).val % 256, Nat.mod_lt _ (by decide)⟩ : Fin 256) = x := Fin.ext (by show (256 * b.val + x.val) % 256 = _; omega)
  show att m ρ c (⟨(brow b x).val / 256, Nat.div_lt_of_lt_mul (brow b x).isLt⟩ : Fin 4) (ix2 (⟨(brow b x).val % 256, Nat.mod_lt _ (by decide)⟩ : Fin 256) y) = _
  rw [h1, h2]
/-- The result at a row of a device in a batch. -/
theorem oF_row (c : Dev nD) (b : Fin 4) (e : Fin 8) (x : Fin 32) (y : Fin 1024) : oF m ρ c (ix2 (rowOf b e x) y) = outC m ρ c b e (ix2 x y) := by
  have h1 : (⟨(rowOf b e x).val / 256, Nat.div_lt_of_lt_mul (rowOf b e x).isLt⟩ : Fin 4) = b :=
    Fin.ext (by show (256 * b.val + 32 * e.val + x.val) / 256 = _; omega)
  have h2 : (⟨(rowOf b e x).val % 256 / 32, by have := Nat.mod_lt (rowOf b e x).val (show 0 < 256 by decide); omega⟩ : Fin 8) = e :=
    Fin.ext (by show (256 * b.val + 32 * e.val + x.val) % 256 / 32 = _; omega)
  have h3 : (⟨(rowOf b e x).val % 32, Nat.mod_lt _ (by decide)⟩ : Fin 32) = x :=
    Fin.ext (by show (256 * b.val + 32 * e.val + x.val) % 32 = _; omega)
  show outC m ρ c (⟨(rowOf b e x).val / 256, Nat.div_lt_of_lt_mul (rowOf b e x).isLt⟩ : Fin 4)
    (⟨(rowOf b e x).val % 256 / 32, by have := Nat.mod_lt (rowOf b e x).val (show 0 < 256 by decide); omega⟩ : Fin 8)
    (ix2 (⟨(rowOf b e x).val % 32, Nat.mod_lt _ (by decide)⟩ : Fin 32) y) = _
  rw [h1, h2, h3]

/-- The all-gather source buffer at a place. -/
theorem gF_at (c : Dev nD) (b : Fin 4) (x : Fin 32) (y : Fin 1024) : gF m ρ c (ix3 b x y) = redG m ρ c b (ix3 (⟨0, Nat.one_pos⟩ : Fin 1) x y) := rfl

/-! ## Landings and stores -/

/-- A device and its distance. -/
theorem add_rel : ∀ c d : Fin 8, d + (c - d) = c := by decide
/-- A device, its distance taken away and added back. -/
theorem rel_add : ∀ c j : Fin 8, c - j + j = c := by decide
/-- A distance's distance. -/
theorem rel_rel : ∀ c j : Fin 8, c - (c - j) = j := by decide
/-- The distance of a device some places on. -/
theorem add_sub_left : ∀ c j : Fin 8, c + j - c = j := by decide

/-- A reduce-scatter copy from `c` to `d` leaves the slot at its final contents. -/
theorem rs_lands (c d : Fin 8) (b : Fin 4) (fd : S4x8x32x1024.Idx → Elt F .bf16) :
    ∀ i ∈ ((slotM rM b (c - d)).view.set : Finset _),
      (slotM rM b (c - d)).view.write (Elt F) fd ((chunkM b d).view.read (Elt F) (pF m ρ c)) Finset.univ i = rF m ρ d i := by
  intro i hi
  obtain ⟨y, -, rfl⟩ := Finset.mem_map.mp hi
  rw [View.write_emb_of_mem _ _ (Finset.mem_univ _), View.read_apply, eq_ix2 y]
  erw [slotRM_emb b (c - d) (y 0) (y 1)]
  have h1 : (chunkM b d).view.emb (ix2 (y 0) (y 1)) = ix2 (rowOf b d (y 0)) (y 1) := chunkR_emb b d (y 0) (y 1)
  erw [h1]
  show pF m ρ c _ = pF m ρ (d + (c - d)) _
  exact (congrArg (fun e : Fin 8 => pF m ρ e (ix2 (rowOf b d (y 0)) (y 1))) (add_rel c d)).symm
/-- An all-gather copy from `c` to `c - j` leaves the slot at its final contents. -/
theorem ag_lands (c : Fin 8) (b : Fin 4) (j : Fin 8) (fd : S4x8x32x1024.Idx → Elt F .bf16) :
    ∀ i ∈ ((slotM aM b j).view.set : Finset _),
      (slotM aM b j).view.write (Elt F) fd ((gbM b).view.read (Elt F) (gF m ρ c)) Finset.univ i = aF m ρ (c - j) i := by
  intro i hi
  obtain ⟨y, -, rfl⟩ := Finset.mem_map.mp hi
  rw [View.write_emb_of_mem _ _ (Finset.mem_univ _), View.read_apply, eq_ix2 y]
  erw [slotAM_emb b j (y 0) (y 1), gbM_emb b (y 0) (y 1)]
  show gF m ρ c _ = gF m ρ (c - j + j) _
  exact (congrArg (fun e : Fin 8 => gF m ρ e (ix3 b (y 0) (y 1))) (rel_add c j)).symm
/-- The store of batch `b`'s partial output. -/
theorem p_stored (c : Dev nD) (b : Fin 4) (f : S1024x1024.Idx → Elt F .bf16) :
    ∀ i ∈ (batchR b).set, (pM.access (batchR b)).write (Elt F) f (att m ρ c b) Finset.univ i = pF m ρ c i := by
  intro i hi
  rw [← View.set_slice_whole cc0_scratch0 (batchR b)] at hi
  obtain ⟨y, -, rfl⟩ := Finset.mem_map.mp hi
  refine ((pM.access (batchR b)).write_emb_of_mem f (att m ρ c b) (Finset.mem_univ y)).trans ?_
  rw [eq_ix2 y]
  exact (pF_brow m ρ c b (y 0) (y 1)).symm.trans (congrArg _ (batchR_emb b (y 0) (y 1)).symm)
/-- The store of the sum into the all-gather's source slot. -/
theorem g_stored (c : Dev nD) (b : Fin 4) (f : S4x32x1024.Idx → Elt F .bf16) :
    ∀ i ∈ (gbR b).set, (gM.access (gbR b)).write (Elt F) f (redG m ρ c b) Finset.univ i = gF m ρ c i := by
  intro i hi
  rw [← View.set_slice_whole cc0_scratch2 (gbR b)] at hi
  obtain ⟨y, -, rfl⟩ := Finset.mem_map.mp hi
  refine ((gM.access (gbR b)).write_emb_of_mem f (redG m ρ c b) (Finset.mem_univ y)).trans ?_
  have hy : y = ix3 (⟨0, Nat.one_pos⟩ : Fin 1) (y 1) (y 2) :=
    (eq_ix3 y).trans (congrArg (fun z : Fin 1 => ix3 z (y 1) (y 2)) (@Subsingleton.elim (Fin 1) _ (y 0) _))
  rw [hy]
  refine Eq.trans ?_ (congrArg (gF m ρ c) (gbR_emb b (y 1) (y 2)).symm)
  exact (gF_at m ρ c b (y 1) (y 2)).symm
/-- The stores into the result. -/
theorem o_stored (c : Dev nD) (b : Fin 4) (e : Fin 8) (f : S1024x1024.Idx → Elt F .f32) :
    ∀ i ∈ (chunkR b e).set, (oM.access (chunkR b e)).write (Elt F) f (outC m ρ c b e) Finset.univ i = oF m ρ c i := by
  intro i hi
  rw [← View.set_slice_whole cc0_stg5_0 (chunkR b e)] at hi
  obtain ⟨y, -, rfl⟩ := Finset.mem_map.mp hi
  refine ((oM.access (chunkR b e)).write_emb_of_mem f (outC m ρ c b e) (Finset.mem_univ y)).trans ?_
  rw [eq_ix2 y]
  exact (oF_row m ρ c b e (y 0) (y 1)).symm.trans (congrArg _ (chunkR_emb b e (y 0) (y 1)).symm)

/-! ## The pieces make up the buffers -/

/-- Which places a device's rows are. -/
theorem mem_chunkR (b : Fin 4) (d : Fin 8) (i : S1024x1024.Idx) :
    i ∈ (chunkR b d).set ↔ (256 * b.val + 32 * d.val ≤ (i 0).val ∧ (i 0).val < 256 * b.val + 32 * d.val + 32) := by
  rw [Rect.mem_set_unit, Fin.forall_fin_two]
  have h1 : (i 1).val < 1024 := (i 1).isLt
  constructor
  · intro h; exact h.1
  · intro h; exact ⟨h, Nat.zero_le _, by show _ < 0 + 1024; omega⟩
/-- Which places a batch's rows are. -/
theorem mem_batchR (b : Fin 4) (i : S1024x1024.Idx) :
    i ∈ (batchR b).set ↔ (256 * b.val ≤ (i 0).val ∧ (i 0).val < 256 * b.val + 256) := by
  rw [Rect.mem_set_unit, Fin.forall_fin_two]
  have h1 : (i 1).val < 1024 := (i 1).isLt
  constructor
  · intro h; exact h.1
  · intro h; exact ⟨h, Nat.zero_le _, by show _ < 0 + 1024; omega⟩
/-- Which places a slot is. -/
theorem mem_slotR (b : Fin 4) (j : Fin 8) (i : S4x8x32x1024.Idx) :
    i ∈ (slotR b j).set ↔ ((i 0).val = b.val ∧ (i 1).val = j.val) := by
  rw [Rect.mem_set_unit]
  have h2 : (i 2).val < 32 := (i 2).isLt
  have h3 : (i 3).val < 1024 := (i 3).isLt
  constructor
  · intro h
    have h0 : b.val ≤ (i 0).val ∧ (i 0).val < b.val + 1 := h 0
    have h1 : j.val ≤ (i 1).val ∧ (i 1).val < j.val + 1 := h 1
    omega
  · rintro ⟨h0, h1⟩ a
    match a with
    | ⟨0, _⟩ => exact ⟨h0.ge, show (i 0).val < b.val + 1 by omega⟩
    | ⟨1, _⟩ => exact ⟨h1.ge, show (i 1).val < j.val + 1 by omega⟩
    | ⟨2, _⟩ => exact ⟨Nat.zero_le _, show (i 2).val < 0 + 32 by omega⟩
    | ⟨3, _⟩ => exact ⟨Nat.zero_le _, show (i 3).val < 0 + 1024 by omega⟩
/-- Which places a batch's slot is. -/
theorem mem_gbR (b : Fin 4) (i : S4x32x1024.Idx) : i ∈ (gbR b).set ↔ (i 0).val = b.val := by
  rw [Rect.mem_set_unit]
  have h2 : (i 1).val < 32 := (i 1).isLt
  have h3 : (i 2).val < 1024 := (i 2).isLt
  constructor
  · intro h
    have h0 : b.val ≤ (i 0).val ∧ (i 0).val < b.val + 1 := h 0
    omega
  · rintro h0 a
    match a with
    | ⟨0, _⟩ => exact ⟨h0.ge, show (i 0).val < b.val + 1 by omega⟩
    | ⟨1, _⟩ => exact ⟨Nat.zero_le _, show (i 1).val < 0 + 32 by omega⟩
    | ⟨2, _⟩ => exact ⟨Nat.zero_le _, show (i 2).val < 0 + 1024 by omega⟩

/-- A batch's rows are the eight devices' rows, -/
theorem batch_chunks (b : Fin 4) : (batchR b).set = Finset.univ.biUnion fun d : Fin 8 => (chunkR b d).set := by
  ext i
  rw [Finset.mem_biUnion]
  constructor
  · intro h
    have hb := (mem_batchR b i).1 h
    exact ⟨⟨((i 0).val - 256 * b.val) / 32, by omega⟩, Finset.mem_univ _, (mem_chunkR b _ i).2 (by dsimp only; omega)⟩
  · rintro ⟨d, -, h⟩
    have hd := (mem_chunkR b d i).1 h
    exact (mem_batchR b i).2 (by omega)
/-- which are apart. -/
theorem chunks_disj (b : Fin 4) : ∀ d ∈ (Finset.univ : Finset (Fin 8)), ∀ d' ∈ (Finset.univ : Finset (Fin 8)), d ≠ d' →
    Disjoint (chunkR b d).set (chunkR b d').set := by
  intro d _ d' _ hne
  refine Finset.disjoint_left.mpr fun i h h' => hne (Fin.ext ?_)
  have h1 := (mem_chunkR b d i).1 h
  have h2 := (mem_chunkR b d' i).1 h'
  omega
/-- An array's rows are the four batches', -/
theorem all_batches : (Finset.univ : Finset S1024x1024.Idx) = Finset.univ.biUnion fun b : Fin 4 => (batchR b).set := by
  ext i
  rw [Finset.mem_biUnion]
  have h0 : (i 0).val < 1024 := (i 0).isLt
  exact ⟨fun _ => ⟨⟨(i 0).val / 256, by omega⟩, Finset.mem_univ _, (mem_batchR _ i).2 (by dsimp only; omega)⟩, fun _ => Finset.mem_univ _⟩
/-- which are apart. -/
theorem batches_disj : ∀ b ∈ (Finset.univ : Finset (Fin 4)), ∀ b' ∈ (Finset.univ : Finset (Fin 4)), b ≠ b' →
    Disjoint (batchR b).set (batchR b').set := by
  intro b _ b' _ hne
  refine Finset.disjoint_left.mpr fun i h h' => hne (Fin.ext ?_)
  have h1 := (mem_batchR b i).1 h
  have h2 := (mem_batchR b' i).1 h'
  omega
/-- An array's rows are all batches' and devices' rows, -/
theorem all_chunks : (Finset.univ : Finset S1024x1024.Idx) = Finset.univ.biUnion fun p : P => (chunkR p.1 p.2).set := by
  ext i
  rw [Finset.mem_biUnion]
  have h0 : (i 0).val < 1024 := (i 0).isLt
  exact ⟨fun _ => ⟨(⟨(i 0).val / 256, by omega⟩, ⟨(i 0).val % 256 / 32, by omega⟩), Finset.mem_univ _, (mem_chunkR _ _ i).2 (by dsimp only; omega)⟩,
    fun _ => Finset.mem_univ _⟩
/-- which are apart. -/
theorem all_chunks_disj : ∀ p ∈ (Finset.univ : Finset P), ∀ p' ∈ (Finset.univ : Finset P), p ≠ p' →
    Disjoint (chunkR p.1 p.2).set (chunkR p'.1 p'.2).set := by
  intro p _ p' _ hne
  refine Finset.disjoint_left.mpr fun i h h' => hne ?_
  have h1 := (mem_chunkR _ _ i).1 h
  have h2 := (mem_chunkR _ _ i).1 h'
  exact Prod.ext (Fin.ext (by omega)) (Fin.ext (by omega))
/-- A landing buffer is all its slots, -/
theorem all_slots : (Finset.univ : Finset S4x8x32x1024.Idx) = Finset.univ.biUnion fun p : P => (slotR p.1 p.2).set := by
  ext i
  rw [Finset.mem_biUnion]
  exact ⟨fun _ => ⟨(i 0, i 1), Finset.mem_univ _, (mem_slotR _ _ i).2 ⟨rfl, rfl⟩⟩, fun _ => Finset.mem_univ _⟩
/-- which are apart. -/
theorem slots_disj : ∀ p ∈ (Finset.univ : Finset P), ∀ p' ∈ (Finset.univ : Finset P), p ≠ p' →
    Disjoint (slotR p.1 p.2).set (slotR p'.1 p'.2).set := by
  intro p _ p' _ hne
  refine Finset.disjoint_left.mpr fun i h h' => hne ?_
  have h1 := (mem_slotR _ _ i).1 h
  have h2 := (mem_slotR _ _ i).1 h'
  exact Prod.ext (Fin.ext (by omega)) (Fin.ext (by omega))
/-- The source buffer is its four slots, -/
theorem all_gb : (Finset.univ : Finset S4x32x1024.Idx) = Finset.univ.biUnion fun b : Fin 4 => (gbR b).set := by
  ext i
  rw [Finset.mem_biUnion]
  exact ⟨fun _ => ⟨i 0, Finset.mem_univ _, (mem_gbR _ i).2 rfl⟩, fun _ => Finset.mem_univ _⟩
/-- which are apart. -/
theorem gb_disj : ∀ b ∈ (Finset.univ : Finset (Fin 4)), ∀ b' ∈ (Finset.univ : Finset (Fin 4)), b ≠ b' →
    Disjoint (gbR b).set (gbR b').set := by
  intro b _ b' _ hne
  refine Finset.disjoint_left.mpr fun i h h' => hne (Fin.ext ?_)
  rw [← (mem_gbR b i).1 h, (mem_gbR b' i).1 h']

end Cert.Attn
-- ==== Proof.State.lean ====
/-
# What one device holds as its program runs

The state of a device is a handful of counters: how many signals it has sent, how many copies of each kind it has
started or waited for, how many blocks it has stored. `ST` says what it then holds; the lemmas below take out what one
operation needs and put back what it leaves.
-/
module

public import proofs.«01_k».proof.Proof.Contents

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The counters: next signal, barrier waited for, partial outputs stored, next reduce-scatter copy and receive wait,
    own rows stored, sums stored, next all-gather copy and receive wait, next store of others' rows, next send waits. -/
structure St where
  nB : ℕ
  w : Bool
  nP : ℕ
  nR : ℕ
  nW : ℕ
  nO : ℕ
  nG : ℕ
  nA : ℕ
  nV : ℕ
  nD : ℕ
  nF : ℕ
  nE : ℕ

/-! ## The parts of the state -/

/-- What a device still owes. -/
def OW (c : Dev nD) (nB nR nA : ℕ) : sProp 𝕄 := iprop(∃ W, owes (c : Thread nD τ) (Owed c nB nR nA) W)

/-- What device `c` gives with its `j`-th signal. -/
def BSi (c : Dev nD) (nB : ℕ) (j : Fin 8) : sProp 𝕄 :=
  if nB ≤ j.val then iprop(dutyTok ER (barCell (c + j)) 0 (c : Fin 8) ∗ barPay (F := F) (c + j) c) else iprop(emp)
/-- The barrier's signals, `nB` of them sent. -/
abbrev BS (c : Dev nD) (nB : ℕ) : sProp 𝕄 := bigSep Finset.univ (BSi (F := F) c nB)

/-- The barrier's wait, before and after. -/
def BC (c : Dev nD) (w : Bool) : sProp 𝕄 :=
  if w then atPos ER (barCell c) 1 ∅ 0 else iprop(atPos ER (barCell c) 0 ∅ 0 ∗ cred (tallyAt (barCell c) () 7))

/-- The staged inputs. -/
def INS (c : Dev nD) : sProp 𝕄 :=
  iprop((((c : Thread nD τ).loc cc0_stg0_0) ↦{fullShare} (xV m ρ c)) ∗ (((c : Thread nD τ).loc cc0_stg1_0) ↦{fullShare} (wqV m ρ c))
    ∗ (((c : Thread nD τ).loc cc0_stg2_0) ↦{fullShare} (woV m ρ c)) ∗ (((c : Thread nD τ).loc cc0_stg3_0) ↦{fullShare} (wkV m ρ c))
    ∗ (((c : Thread nD τ).loc cc0_stg4_0) ↦{fullShare} (wvV m ρ c)))

/-- A chunk of the partial output: there, unless its copy is in flight. -/
def PBd (c : Dev nD) (nR nF : ℕ) (b : Fin 4) (d : Fin 8) : sProp 𝕄 :=
  if d = c ∨ ix (b, d) < nF ∨ nR ≤ ix (b, d) then pCh c b d (pF m ρ c) else iprop(emp)
/-- One batch of the partial output. -/
def PBi (c : Dev nD) (nP nR nF : ℕ) (b : Fin 4) : sProp 𝕄 :=
  if nP ≤ b.val then iprop(∃ f, pBa (F := F) c b f) else bigSep Finset.univ (PBd m ρ c nR nF b)
/-- The partial-output buffer. -/
abbrev PB (c : Dev nD) (nP nR nF : ℕ) : sProp 𝕄 := bigSep Finset.univ (PBi m ρ c nP nR nF)

/-- A reduce-scatter send cell. -/
def RSSi (c : Dev nD) (nR nF : ℕ) (p : P) : sProp 𝕄 :=
  if p.2 = c then atPos ER (dCell 0 c p.1 p.2) 0 ∅ 0
  else if ix p < nF then atPos ER (dCell 0 c p.1 p.2) 1 ∅ 0
  else if ix p < nR then iprop(atPos ER (dCell 0 c p.1 p.2) 0 ∅ 0 ∗ cred (tallyAt (dCell 0 c p.1 p.2) () N))
  else iprop(atPos ER (dCell 0 c p.1 p.2) 0 ∅ 0 ∗ dutyTok ER (dCell 0 c p.1 p.2) 0 (0 : Fin 8)
    ∗ dutyTok ER (dCell 1 p.2 p.1 (c - p.2)) 0 (0 : Fin 8))
/-- The reduce-scatter's send side. -/
abbrev RSS (c : Dev nD) (nR nF : ℕ) : sProp 𝕄 := bigSep Finset.univ (RSSi (F := F) c nR nF)

/-- The slot that a reduce-scatter copy lands in. -/
def RSDi (c : Dev nD) (w : Bool) (nR : ℕ) (p : P) : sProp 𝕄 :=
  if p.2 ≠ c ∧ w = true ∧ nR ≤ ix p then iprop(∃ f, rSl (F := F) p.2 p.1 (c - p.2) f) else iprop(emp)
/-- The reduce-scatter's destinations that are held. -/
abbrev RSD (c : Dev nD) (w : Bool) (nR : ℕ) : sProp 𝕄 := bigSep Finset.univ (RSDi (F := F) c w nR)

/-- A reduce-scatter receive cell, with its slot once received. -/
def RRi (c : Dev nD) (nW : ℕ) (p : P) : sProp 𝕄 :=
  if p.2 = 0 then iprop(atPos ER (dCell 1 c p.1 p.2) 0 ∅ 0 ∗ ∃ f, rSl (F := F) c p.1 p.2 f)
  else if ix p < nW then iprop(atPos ER (dCell 1 c p.1 p.2) 1 ∅ 0 ∗ rSl c p.1 p.2 (rF m ρ c))
  else iprop(atPos ER (dCell 1 c p.1 p.2) 0 ∅ 0 ∗ cred (tallyAt (dCell 1 c p.1 p.2) () N))
/-- The reduce-scatter's receive side. -/
abbrev RR (c : Dev nD) (nW : ℕ) : sProp 𝕄 := bigSep Finset.univ (RRi m ρ c nW)

/-- An eighth of an all-gather source slot: there, unless its copy is in flight. -/
def GBd (c : Dev nD) (nA nE : ℕ) (b : Fin 4) (j : Fin 8) : sProp 𝕄 :=
  if j = 0 ∨ ix (b, j) < nE ∨ nA ≤ ix (b, j) then gSl c b (eighth j) (gF m ρ c) else iprop(emp)
/-- One batch's slot of the all-gather source buffer. -/
def GBi (c : Dev nD) (nG nA nE : ℕ) (b : Fin 4) : sProp 𝕄 :=
  if nG ≤ b.val then iprop(∃ f, gSl (F := F) c b fullShare f) else bigSep Finset.univ (GBd m ρ c nA nE b)
/-- The all-gather source buffer. -/
abbrev GB (c : Dev nD) (nG nA nE : ℕ) : sProp 𝕄 := bigSep Finset.univ (GBi m ρ c nG nA nE)

/-- An all-gather send cell. -/
def ASSi (c : Dev nD) (nA nE : ℕ) (p : P) : sProp 𝕄 :=
  if p.2 = 0 then atPos ER (dCell 2 c p.1 p.2) 0 ∅ 0
  else if ix p < nE then atPos ER (dCell 2 c p.1 p.2) 1 ∅ 0
  else if ix p < nA then iprop(atPos ER (dCell 2 c p.1 p.2) 0 ∅ 0 ∗ cred (tallyAt (dCell 2 c p.1 p.2) () N))
  else iprop(atPos ER (dCell 2 c p.1 p.2) 0 ∅ 0 ∗ dutyTok ER (dCell 2 c p.1 p.2) 0 (0 : Fin 8)
    ∗ dutyTok ER (dCell 3 (c - p.2) p.1 p.2) 0 (0 : Fin 8))
/-- The all-gather's send side. -/
abbrev ASS (c : Dev nD) (nA nE : ℕ) : sProp 𝕄 := bigSep Finset.univ (ASSi (F := F) c nA nE)

/-- The slot that an all-gather copy lands in. -/
def ASDi (c : Dev nD) (w : Bool) (nA : ℕ) (p : P) : sProp 𝕄 :=
  if p.2 ≠ 0 ∧ w = true ∧ nA ≤ ix p then iprop(∃ f, aSl (F := F) (c - p.2) p.1 p.2 f) else iprop(emp)
/-- The all-gather's destinations that are held. -/
abbrev ASD (c : Dev nD) (w : Bool) (nA : ℕ) : sProp 𝕄 := bigSep Finset.univ (ASDi (F := F) c w nA)

/-- An all-gather receive cell, with its slot once received. -/
def ARi (c : Dev nD) (nV : ℕ) (p : P) : sProp 𝕄 :=
  if p.2 = 0 then iprop(atPos ER (dCell 3 c p.1 p.2) 0 ∅ 0 ∗ ∃ f, aSl (F := F) c p.1 p.2 f)
  else if ix p < nV then iprop(atPos ER (dCell 3 c p.1 p.2) 1 ∅ 0 ∗ aSl c p.1 p.2 (aF m ρ c))
  else iprop(atPos ER (dCell 3 c p.1 p.2) 0 ∅ 0 ∗ cred (tallyAt (dCell 3 c p.1 p.2) () N))
/-- The all-gather's receive side. -/
abbrev AR (c : Dev nD) (nV : ℕ) : sProp 𝕄 := bigSep Finset.univ (ARi m ρ c nV)

/-- The 32 rows of a device in the result: stored or not. -/
def OUTi (c : Dev nD) (nO nD' : ℕ) (p : P) : sProp 𝕄 :=
  if (p.2 = c ∧ p.1.val < nO) ∨ (p.2 ≠ c ∧ ix (p.1, p.2 - c) < nD') then oCh c p.1 p.2 (oF m ρ c) else iprop(∃ f, oCh (F := F) c p.1 p.2 f)
/-- The result. -/
abbrev OUT (c : Dev nD) (nO nD' : ℕ) : sProp 𝕄 := bigSep Finset.univ (OUTi m ρ c nO nD')

/-- What device `c` holds at the counters `st`. -/
def ST (c : Dev nD) (st : St) : sProp 𝕄 :=
  iprop(OW (F := F) c st.nB st.nR st.nA ∗ BS (F := F) c st.nB ∗ BC (F := F) c st.w ∗ INS m ρ c ∗ PB m ρ c st.nP st.nR st.nF
    ∗ RSS (F := F) c st.nR st.nF ∗ RSD (F := F) c st.w st.nR ∗ RR m ρ c st.nW ∗ GB m ρ c st.nG st.nA st.nE
    ∗ ASS (F := F) c st.nA st.nE ∗ ASD (F := F) c st.w st.nA ∗ AR m ρ c st.nV ∗ OUT m ρ c st.nO st.nD)

/-! ## Taking one piece out -/

/-- One summand taken out; the others do not change. -/
theorem bigSep_upd {I : Type} [Fintype I] [DecidableEq I] (i : I) (f g : I → sProp 𝕄) (h : ∀ j, j ≠ i → f j = g j) :
    bigSep Finset.univ f ⊢ iprop(f i ∗ (g i -∗ bigSep Finset.univ g)) := by
  have e1 : bigSep Finset.univ f = iprop(f i ∗ bigSep (Finset.univ.erase i) g) :=
    (bigSep_univ_split i).trans (by rw [bigSep_congr (Φ := f) (Ψ := g) fun j hj => h j (Finset.ne_of_mem_erase hj)]; rfl)
  have e2 : bigSep Finset.univ g = iprop(g i ∗ bigSep (Finset.univ.erase i) g) := bigSep_univ_split i
  rw [e1, e2]
  iintro ⟨Hi, Hr⟩
  isplitl [Hi]; · iexact Hi
  iintro Hg
  isplitl [Hg]; · iexact Hg
  iexact Hr

/-- Two places have two numbers. -/
theorem ne_ix {b : Fin 4} {d : Fin 8} {p : P} (h : p ≠ (b, d)) : ix p ≠ ix (b, d) := by
  intro he
  have h1 := p.2.isLt; have h2 := d.isLt
  refine h (Prod.ext (Fin.ext ?_) (Fin.ext ?_)) <;> dsimp only [ix] at * <;> omega
/-- Elsewhere, from one place on is from the next number on, -/
theorem le_step {b : Fin 4} {d : Fin 8} {p : P} (h : p ≠ (b, d)) : (ix (b, d) ≤ ix p) = (ix (b, d) + 1 ≤ ix p) :=
  propext (by have := ne_ix h; dsimp only [ix] at *; omega)
/-- and before it is before the next number. -/
theorem lt_step {b : Fin 4} {d : Fin 8} {p : P} (h : p ≠ (b, d)) : (ix p < ix (b, d)) = (ix p < ix (b, d) + 1) :=
  propext (by have := ne_ix h; dsimp only [ix] at *; omega)
/-- The same up to the next place of another device, -/
theorem le_nx {b : Fin 4} {j : Fin 8} (hj : j ≠ 0) {p : P} (hp : p.2 ≠ 0) (h : p ≠ (b, j)) : (ix (b, j) ≤ ix p) = (nx b j ≤ ix p) :=
  propext ⟨fun h' => ((nx_iff b j hj p hp).1 h').elim id (fun e => absurd e h), fun h' => (nx_iff b j hj p hp).2 (Or.inl h')⟩
/-- and before it. -/
theorem lt_nx {b : Fin 4} {j : Fin 8} (hj : j ≠ 0) {p : P} (hp : p.2 ≠ 0) (h : p ≠ (b, j)) : (ix p < ix (b, j)) = (ix p < nx b j) := by
  have := le_nx hj hp h
  rw [← Nat.not_le, ← Nat.not_le, this]
/-- A place comes before its next. -/
theorem self_lt_nx (b : Fin 4) (j : Fin 8) : ix (b, j) < nx b j := Nat.lt_of_not_le (nx_self b j)

/-- The signal's piece. -/
theorem BS_take (c : Dev nD) (j : Fin 8) :
    BS (F := F) c j.val ⊢ iprop((dutyTok ER (barCell (c + j)) 0 (c : Fin 8) ∗ barPay (F := F) (c + j) c) ∗ BS (F := F) c (j.val + 1)) := by
  refine (bigSep_upd j _ (BSi (F := F) c (j.val + 1)) fun i hi => ?_).trans ?_
  · have : (j.val ≤ i.val) = (j.val + 1 ≤ i.val) := propext (by have : i.val ≠ j.val := fun h => hi (Fin.ext h); omega)
    unfold BSi; simp only [this]
  · have h1 : BSi (F := F) c j.val j = iprop(dutyTok ER (barCell (c + j)) 0 (c : Fin 8) ∗ barPay (F := F) (c + j) c) := if_pos le_rfl
    have h2 : BSi (F := F) c (j.val + 1) j = iprop(emp) := if_neg (by omega)
    rw [h1, h2]
    iintro ⟨H, Hk⟩
    isplitl [H]; · iexact H
    iapply Hk; iempintro

/-- A batch of the partial output before its store. -/
theorem PB_store (c : Dev nD) (b : Fin 4) (nR nF : ℕ) (hR : nR ≤ 8 * b.val) :
    PB m ρ c b.val nR nF ⊢ iprop((∃ f, pBa (F := F) c b f) ∗ (pBa c b (pF m ρ c) -∗ PB m ρ c (b.val + 1) nR nF)) := by
  refine (bigSep_upd b _ (PBi m ρ c (b.val + 1) nR nF) fun i hi => ?_).trans ?_
  · have : (b.val ≤ i.val) = (b.val + 1 ≤ i.val) := propext (by have : i.val ≠ b.val := fun h => hi (Fin.ext h); omega)
    unfold PBi; simp only [this]
  · have h1 : PBi m ρ c b.val nR nF b = iprop(∃ f, pBa (F := F) c b f) := if_pos le_rfl
    have h2 : PBi m ρ c (b.val + 1) nR nF b = pBa c b (pF m ρ c) := by
      unfold PBi
      rw [if_neg (by omega)]
      unfold pBa
      rw [batch_chunks, pointsTo_biUnion _ _ (chunks_disj b)]
      refine bigSep_congr fun d _ => if_pos (Or.inr (Or.inr (by dsimp only [ix]; omega)))
    rw [h1, h2]
/-- Loading before the store changes nothing. -/
theorem PB_peek (c : Dev nD) (b : Fin 4) (nP nR nF : ℕ) (hP : nP ≤ b.val) :
    PB m ρ c nP nR nF ⊢ iprop((∃ f, pBa (F := F) c b f) ∗ ((∃ f, pBa (F := F) c b f) -∗ PB m ρ c nP nR nF)) := by
  refine (bigSep_upd b _ (PBi m ρ c nP nR nF) fun i hi => rfl).trans ?_
  have h1 : PBi m ρ c nP nR nF b = iprop(∃ f, pBa (F := F) c b f) := if_pos hP
  rw [h1]

/-- A chunk that is about to be copied. -/
theorem PB_send (c : Dev nD) (b : Fin 4) (d : Fin 8) (nP nF : ℕ) (hP : b.val < nP) (hd : d ≠ c) (hF : nF ≤ ix (b, d)) :
    PB m ρ c nP (ix (b, d)) nF ⊢ iprop(pCh c b d (pF m ρ c) ∗ PB m ρ c nP (ix (b, d) + 1) nF) := by
  refine (bigSep_upd b _ (PBi m ρ c nP (ix (b, d) + 1) nF) fun i hi => ?_).trans ?_
  · unfold PBi
    congr 1
    refine bigSep_congr fun e _ => ?_
    unfold PBd
    simp only [le_step (p := (i, e)) (fun h => hi (congrArg Prod.fst h))]
  · have h1 : PBi m ρ c nP (ix (b, d)) nF b = bigSep Finset.univ (PBd m ρ c (ix (b, d)) nF b) := if_neg (by omega)
    have h2 : PBi m ρ c nP (ix (b, d) + 1) nF b = bigSep Finset.univ (PBd m ρ c (ix (b, d) + 1) nF b) := if_neg (by omega)
    rw [h1, h2]
    have h3 := bigSep_upd d (PBd m ρ c (ix (b, d)) nF b) (PBd m ρ c (ix (b, d) + 1) nF b) fun e he => by
      unfold PBd; simp only [le_step (p := (b, e)) (fun h => he (congrArg Prod.snd h))]
    have h4 : PBd m ρ c (ix (b, d)) nF b d = pCh c b d (pF m ρ c) := if_pos (Or.inr (Or.inr le_rfl))
    have h5 : PBd m ρ c (ix (b, d) + 1) nF b d = iprop(emp) := if_neg (by rintro (h | h | h); exacts [hd h, by omega, by omega])
    rw [h4, h5] at h3
    iintro ⟨H, Hk⟩
    ihave H' := h3 $$ H
    icases H' with ⟨Hc, Hk'⟩
    isplitl [Hc]; · iexact Hc
    iapply Hk
    iapply Hk'
    iempintro
/-- No copy to oneself: nothing changes. -/
theorem PB_self (c : Dev nD) (b : Fin 4) (nP nF : ℕ) : PB m ρ c nP (ix (b, c)) nF = PB m ρ c nP (ix (b, c) + 1) nF := by
  refine bigSep_congr fun i _ => ?_
  unfold PBi
  congr 1
  refine bigSep_congr fun e _ => ?_
  unfold PBd
  by_cases h : (i, e) = (b, c)
  · have he : e = c := congrArg Prod.snd h
    rw [if_pos (Or.inl he), if_pos (Or.inl he)]
  · simp only [le_step (p := (i, e)) h]
/-- A chunk comes back. -/
theorem PB_back (c : Dev nD) (b : Fin 4) (d : Fin 8) (nP nR : ℕ) (hP : b.val < nP) (hd : d ≠ c) (hR : ix (b, d) < nR) :
    iprop(PB m ρ c nP nR (ix (b, d)) ∗ pCh c b d (pF m ρ c)) ⊢ PB m ρ c nP nR (ix (b, d) + 1) := by
  have h0 := bigSep_upd b (PBi m ρ c nP nR (ix (b, d))) (PBi m ρ c nP nR (ix (b, d) + 1)) fun i hi => by
    unfold PBi
    congr 1
    refine bigSep_congr fun e _ => ?_
    unfold PBd
    simp only [lt_step (p := (i, e)) (fun h => hi (congrArg Prod.fst h))]
  have h1 : PBi m ρ c nP nR (ix (b, d)) b = bigSep Finset.univ (PBd m ρ c nR (ix (b, d)) b) := if_neg (by omega)
  have h2 : PBi m ρ c nP nR (ix (b, d) + 1) b = bigSep Finset.univ (PBd m ρ c nR (ix (b, d) + 1) b) := if_neg (by omega)
  rw [h1, h2] at h0
  have h3 := bigSep_upd d (PBd m ρ c nR (ix (b, d)) b) (PBd m ρ c nR (ix (b, d) + 1) b) fun e he => by
    unfold PBd; simp only [lt_step (p := (b, e)) (fun h => he (congrArg Prod.snd h))]
  have h5 : PBd m ρ c nR (ix (b, d) + 1) b d = pCh c b d (pF m ρ c) := if_pos (Or.inr (Or.inl (by omega)))
  rw [h5] at h3
  iintro ⟨H, Hc⟩
  ihave H' := h0 $$ H
  icases H' with ⟨Hb, Hk⟩
  iapply Hk
  ihave H'' := h3 $$ Hb
  icases H'' with ⟨-, Hk'⟩
  iapply Hk'
  iexact Hc
/-- No wait for a copy to oneself: nothing changes. -/
theorem PB_self' (c : Dev nD) (b : Fin 4) (nP nR : ℕ) : PB m ρ c nP nR (ix (b, c)) = PB m ρ c nP nR (ix (b, c) + 1) := by
  refine bigSep_congr fun i _ => ?_
  unfold PBi
  congr 1
  refine bigSep_congr fun e _ => ?_
  unfold PBd
  by_cases h : (i, e) = (b, c)
  · have he : e = c := congrArg Prod.snd h
    rw [if_pos (Or.inl he), if_pos (Or.inl he)]
  · simp only [lt_step (p := (i, e)) h]
/-- The own chunk is always there. -/
theorem PB_own (c : Dev nD) (b : Fin 4) (nP nR nF : ℕ) (hP : b.val < nP) :
    PB m ρ c nP nR nF ⊢ iprop(pCh c b c (pF m ρ c) ∗ (pCh c b c (pF m ρ c) -∗ PB m ρ c nP nR nF)) := by
  have h0 := bigSep_upd b (PBi m ρ c nP nR nF) (PBi m ρ c nP nR nF) fun i hi => rfl
  have h1 : PBi m ρ c nP nR nF b = bigSep Finset.univ (PBd m ρ c nR nF b) := if_neg (by omega)
  rw [h1] at h0
  have h3 := bigSep_upd c (PBd m ρ c nR nF b) (PBd m ρ c nR nF b) fun e he => rfl
  have h4 : PBd m ρ c nR nF b c = pCh c b c (pF m ρ c) := if_pos (Or.inl rfl)
  rw [h4] at h3
  iintro H
  ihave H' := h0 $$ H
  icases H' with ⟨Hb, Hk⟩
  ihave H'' := h3 $$ Hb
  icases H'' with ⟨Hc, Hk'⟩
  isplitl [Hc]; · iexact Hc
  iintro Hc
  iapply Hk
  iapply Hk'
  iexact Hc

/-- A send cell before its copy. -/
theorem RSS_send (c : Dev nD) (b : Fin 4) (d : Fin 8) (nF : ℕ) (hd : d ≠ c) (hF : nF ≤ ix (b, d)) :
    RSS (F := F) c (ix (b, d)) nF ⊢ iprop((dutyTok ER (dCell 0 c b d) 0 (0 : Fin 8) ∗ dutyTok ER (dCell 1 d b (c - d)) 0 (0 : Fin 8))
      ∗ (cred (tallyAt (dCell 0 c b d) () N) -∗ RSS (F := F) c (ix (b, d) + 1) nF)) := by
  refine (bigSep_upd (b, d) _ (RSSi (F := F) c (ix (b, d) + 1) nF) fun p hp => ?_).trans ?_
  · unfold RSSi; simp only [lt_step hp]
  · have h1 : RSSi (F := F) c (ix (b, d)) nF (b, d) = iprop(atPos ER (dCell 0 c b d) 0 ∅ 0 ∗ dutyTok ER (dCell 0 c b d) 0 (0 : Fin 8)
        ∗ dutyTok ER (dCell 1 d b (c - d)) 0 (0 : Fin 8)) := by
      unfold RSSi; rw [if_neg hd, if_neg (by omega), if_neg (by omega)]
    have h2 : RSSi (F := F) c (ix (b, d) + 1) nF (b, d) = iprop(atPos ER (dCell 0 c b d) 0 ∅ 0 ∗ cred (tallyAt (dCell 0 c b d) () N)) := by
      unfold RSSi; rw [if_neg hd, if_neg (by omega), if_pos (by omega)]
    rw [h1, h2]
    iintro ⟨⟨Ha, Ht1, Ht2⟩, Hk⟩
    isplitl [Ht1 Ht2]
    · isplitl [Ht1]; · iexact Ht1
      iexact Ht2
    iintro Hc
    iapply Hk
    isplitl [Ha]; · iexact Ha
    iexact Hc
/-- No copy to oneself: nothing changes. -/
theorem RSS_self (c : Dev nD) (b : Fin 4) (nF : ℕ) : RSS (F := F) c (ix (b, c)) nF = RSS (F := F) c (ix (b, c) + 1) nF := by
  refine bigSep_congr fun p _ => ?_
  unfold RSSi
  by_cases h : p = (b, c)
  · have he : p.2 = c := congrArg Prod.snd h
    rw [if_pos he, if_pos he]
  · simp only [lt_step h]
/-- A send cell before its wait. -/
theorem RSS_wait (c : Dev nD) (b : Fin 4) (d : Fin 8) (nR : ℕ) (hd : d ≠ c) (hR : ix (b, d) < nR) :
    RSS (F := F) c nR (ix (b, d)) ⊢ iprop((atPos ER (dCell 0 c b d) 0 ∅ 0 ∗ cred (tallyAt (dCell 0 c b d) () N))
      ∗ (atPos ER (dCell 0 c b d) 1 ∅ 0 -∗ RSS (F := F) c nR (ix (b, d) + 1))) := by
  refine (bigSep_upd (b, d) _ (RSSi (F := F) c nR (ix (b, d) + 1)) fun p hp => ?_).trans ?_
  · unfold RSSi; simp only [lt_step hp]
  · have h1 : RSSi (F := F) c nR (ix (b, d)) (b, d) = iprop(atPos ER (dCell 0 c b d) 0 ∅ 0 ∗ cred (tallyAt (dCell 0 c b d) () N)) := by
      unfold RSSi; rw [if_neg hd, if_neg (by omega), if_pos hR]
    have h2 : RSSi (F := F) c nR (ix (b, d) + 1) (b, d) = atPos ER (dCell 0 c b d) 1 ∅ 0 := by
      unfold RSSi; rw [if_neg hd, if_pos (by omega)]
    rw [h1, h2]
/-- No wait for a copy to oneself: nothing changes. -/
theorem RSS_self' (c : Dev nD) (b : Fin 4) (nR : ℕ) : RSS (F := F) c nR (ix (b, c)) = RSS (F := F) c nR (ix (b, c) + 1) := by
  refine bigSep_congr fun p _ => ?_
  unfold RSSi
  by_cases h : p = (b, c)
  · have he : p.2 = c := congrArg Prod.snd h
    rw [if_pos he, if_pos he]
  · simp only [lt_step h]

/-- A destination that is about to be copied to. -/
theorem RSD_send (c : Dev nD) (b : Fin 4) (d : Fin 8) (hd : d ≠ c) :
    RSD (F := F) c true (ix (b, d)) ⊢ iprop((∃ f, rSl (F := F) d b (c - d) f) ∗ RSD (F := F) c true (ix (b, d) + 1)) := by
  refine (bigSep_upd (b, d) _ (RSDi (F := F) c true (ix (b, d) + 1)) fun p hp => ?_).trans ?_
  · unfold RSDi; simp only [le_step hp]
  · have h1 : RSDi (F := F) c true (ix (b, d)) (b, d) = iprop(∃ f, rSl (F := F) d b (c - d) f) := if_pos ⟨hd, rfl, le_rfl⟩
    have h2 : RSDi (F := F) c true (ix (b, d) + 1) (b, d) = iprop(emp) := if_neg fun h => by have := h.2.2; omega
    rw [h1, h2]
    iintro ⟨H, Hk⟩
    isplitl [H]; · iexact H
    iapply Hk; iempintro
/-- No copy to oneself: nothing changes. -/
theorem RSD_self (c : Dev nD) (b : Fin 4) (w : Bool) : RSD (F := F) c w (ix (b, c)) = RSD (F := F) c w (ix (b, c) + 1) := by
  refine bigSep_congr fun p _ => ?_
  unfold RSDi
  by_cases h : p = (b, c)
  · have he : p.2 = c := congrArg Prod.snd h
    rw [if_neg (fun h => h.1 he), if_neg (fun h => h.1 he)]
  · simp only [le_step h]

/-- A receive cell before its wait. -/
theorem RR_wait (c : Dev nD) (b : Fin 4) (j : Fin 8) (hj : j ≠ 0) :
    RR m ρ c (ix (b, j)) ⊢ iprop((atPos ER (dCell 1 c b j) 0 ∅ 0 ∗ cred (tallyAt (dCell 1 c b j) () N))
      ∗ ((atPos ER (dCell 1 c b j) 1 ∅ 0 ∗ rSl c b j (rF m ρ c)) -∗ RR m ρ c (nx b j))) := by
  refine (bigSep_upd (b, j) _ (RRi m ρ c (nx b j)) fun p hp => ?_).trans ?_
  · unfold RRi
    by_cases h0 : p.2 = 0
    · rw [if_pos h0, if_pos h0]
    · simp only [lt_nx hj h0 hp]
  · have h1 : RRi m ρ c (ix (b, j)) (b, j) = iprop(atPos ER (dCell 1 c b j) 0 ∅ 0 ∗ cred (tallyAt (dCell 1 c b j) () N)) := by
      unfold RRi; rw [if_neg hj, if_neg (by omega)]
    have h2 : RRi m ρ c (nx b j) (b, j) = iprop(atPos ER (dCell 1 c b j) 1 ∅ 0 ∗ rSl c b j (rF m ρ c)) := by
      unfold RRi; rw [if_neg hj, if_pos (self_lt_nx b j)]
    rw [h1, h2]
/-- A received slot, to be read. -/
theorem RR_read (c : Dev nD) (b : Fin 4) (j : Fin 8) (hj : j ≠ 0) (nW : ℕ) (hW : ix (b, j) < nW) :
    RR m ρ c nW ⊢ iprop(rSl c b j (rF m ρ c) ∗ (rSl c b j (rF m ρ c) -∗ RR m ρ c nW)) := by
  refine (bigSep_upd (b, j) _ (RRi m ρ c nW) fun p hp => rfl).trans ?_
  have h1 : RRi m ρ c nW (b, j) = iprop(atPos ER (dCell 1 c b j) 1 ∅ 0 ∗ rSl c b j (rF m ρ c)) := by
    unfold RRi; rw [if_neg hj, if_pos hW]
  rw [h1]
  iintro ⟨⟨Ha, Hs⟩, Hk⟩
  isplitl [Hs]; · iexact Hs
  iintro Hs
  iapply Hk
  isplitl [Ha]; · iexact Ha
  iexact Hs

/-- A receive cell of the all-gather before its wait. -/
theorem AR_wait (c : Dev nD) (b : Fin 4) (j : Fin 8) (hj : j ≠ 0) :
    AR m ρ c (ix (b, j)) ⊢ iprop((atPos ER (dCell 3 c b j) 0 ∅ 0 ∗ cred (tallyAt (dCell 3 c b j) () N))
      ∗ ((atPos ER (dCell 3 c b j) 1 ∅ 0 ∗ aSl c b j (aF m ρ c)) -∗ AR m ρ c (nx b j))) := by
  refine (bigSep_upd (b, j) _ (ARi m ρ c (nx b j)) fun p hp => ?_).trans ?_
  · unfold ARi
    by_cases h0 : p.2 = 0
    · rw [if_pos h0, if_pos h0]
    · simp only [lt_nx hj h0 hp]
  · have h1 : ARi m ρ c (ix (b, j)) (b, j) = iprop(atPos ER (dCell 3 c b j) 0 ∅ 0 ∗ cred (tallyAt (dCell 3 c b j) () N)) := by
      unfold ARi; rw [if_neg hj, if_neg (by omega)]
    have h2 : ARi m ρ c (nx b j) (b, j) = iprop(atPos ER (dCell 3 c b j) 1 ∅ 0 ∗ aSl c b j (aF m ρ c)) := by
      unfold ARi; rw [if_neg hj, if_pos (self_lt_nx b j)]
    rw [h1, h2]
/-- A gathered slot, to be read. -/
theorem AR_read (c : Dev nD) (b : Fin 4) (j : Fin 8) (hj : j ≠ 0) (nV : ℕ) (hV : ix (b, j) < nV) :
    AR m ρ c nV ⊢ iprop(aSl c b j (aF m ρ c) ∗ (aSl c b j (aF m ρ c) -∗ AR m ρ c nV)) := by
  refine (bigSep_upd (b, j) _ (ARi m ρ c nV) fun p hp => rfl).trans ?_
  have h1 : ARi m ρ c nV (b, j) = iprop(atPos ER (dCell 3 c b j) 1 ∅ 0 ∗ aSl c b j (aF m ρ c)) := by
    unfold ARi; rw [if_neg hj, if_pos hV]
  rw [h1]
  iintro ⟨⟨Ha, Hs⟩, Hk⟩
  isplitl [Hs]; · iexact Hs
  iintro Hs
  iapply Hk
  isplitl [Ha]; · iexact Ha
  iexact Hs

/-- A source slot before its store. -/
theorem GB_store (c : Dev nD) (b : Fin 4) (nA nE : ℕ) (hA : nA ≤ 8 * b.val + 1) :
    GB m ρ c b.val nA nE ⊢ iprop((∃ f, gSl (F := F) c b fullShare f) ∗ (gSl c b fullShare (gF m ρ c) -∗ GB m ρ c (b.val + 1) nA nE)) := by
  refine (bigSep_upd b _ (GBi m ρ c (b.val + 1) nA nE) fun i hi => ?_).trans ?_
  · have : (b.val ≤ i.val) = (b.val + 1 ≤ i.val) := propext (by have : i.val ≠ b.val := fun h => hi (Fin.ext h); omega)
    unfold GBi; simp only [this]
  · have h1 : GBi m ρ c b.val nA nE b = iprop(∃ f, gSl (F := F) c b fullShare f) := if_pos le_rfl
    have h2 : GBi m ρ c (b.val + 1) nA nE b = gSl c b fullShare (gF m ρ c) := by
      unfold GBi
      rw [if_neg (by omega)]
      unfold gSl
      refine Eq.symm ((ShareLeaves.pointsTo_leaves (ℓ := (c : Thread nD τ).loc cc0_scratch2) (gbR b).set (gF m ρ c) 3 fullShare).trans
        (bigSep_congr fun j _ => Eq.symm ?_))
      by_cases hj : j = 0
      · exact if_pos (Or.inl hj)
      · exact if_pos (Or.inr (Or.inr (by have : j.val ≠ 0 := fun h => hj (Fin.ext h); dsimp only [ix]; omega)))
    rw [h1, h2]
/-- A slot of the source before its store, to be read. -/
theorem GB_peek (c : Dev nD) (b : Fin 4) (nG nA nE : ℕ) (hG : nG ≤ b.val) :
    GB m ρ c nG nA nE ⊢ iprop((∃ f, gSl (F := F) c b fullShare f) ∗ ((∃ f, gSl (F := F) c b fullShare f) -∗ GB m ρ c nG nA nE)) := by
  refine (bigSep_upd b _ (GBi m ρ c nG nA nE) fun i hi => rfl).trans ?_
  have h1 : GBi m ρ c nG nA nE b = iprop(∃ f, gSl (F := F) c b fullShare f) := if_pos hG
  rw [h1]
/-- An eighth that is about to be copied. -/
theorem GB_send (c : Dev nD) (b : Fin 4) (j : Fin 8) (nG nE : ℕ) (hG : b.val < nG) (hj : j ≠ 0) (hE : nE ≤ ix (b, j)) :
    GB m ρ c nG (ix (b, j)) nE ⊢ iprop(gSl c b (eighth j) (gF m ρ c) ∗ GB m ρ c nG (nx b j) nE) := by
  have hrest : ∀ i e, (i, e) ≠ (b, j) → GBd m ρ c (ix (b, j)) nE i e = GBd m ρ c (nx b j) nE i e := by
    intro i e hne
    unfold GBd
    by_cases h0 : e = 0
    · rw [if_pos (Or.inl h0), if_pos (Or.inl h0)]
    · simp only [le_nx hj (p := (i, e)) h0 hne]
  refine (bigSep_upd b _ (GBi m ρ c nG (nx b j) nE) fun i hi => ?_).trans ?_
  · unfold GBi
    congr 1
    exact bigSep_congr fun e _ => hrest i e fun h => hi (congrArg Prod.fst h)
  · have h1 : GBi m ρ c nG (ix (b, j)) nE b = bigSep Finset.univ (GBd m ρ c (ix (b, j)) nE b) := if_neg (by omega)
    have h2 : GBi m ρ c nG (nx b j) nE b = bigSep Finset.univ (GBd m ρ c (nx b j) nE b) := if_neg (by omega)
    rw [h1, h2]
    have h3 := bigSep_upd j (GBd m ρ c (ix (b, j)) nE b) (GBd m ρ c (nx b j) nE b) fun e he => hrest b e fun h => he (congrArg Prod.snd h)
    have h4 : GBd m ρ c (ix (b, j)) nE b j = gSl c b (eighth j) (gF m ρ c) := if_pos (Or.inr (Or.inr le_rfl))
    have h5 : GBd m ρ c (nx b j) nE b j = iprop(emp) := if_neg (by rintro (h | h | h); exacts [hj h, by omega, nx_self b j h])
    rw [h4, h5] at h3
    iintro ⟨H, Hk⟩
    ihave H' := h3 $$ H
    icases H' with ⟨Hc, Hk'⟩
    isplitl [Hc]; · iexact Hc
    iapply Hk
    iapply Hk'
    iempintro
/-- An eighth comes back. -/
theorem GB_back (c : Dev nD) (b : Fin 4) (j : Fin 8) (nG nA : ℕ) (hG : b.val < nG) (hj : j ≠ 0) :
    iprop(GB m ρ c nG nA (ix (b, j)) ∗ gSl c b (eighth j) (gF m ρ c)) ⊢ GB m ρ c nG nA (nx b j) := by
  have hrest : ∀ i e, (i, e) ≠ (b, j) → GBd m ρ c nA (ix (b, j)) i e = GBd m ρ c nA (nx b j) i e := by
    intro i e hne
    unfold GBd
    by_cases h0 : e = 0
    · rw [if_pos (Or.inl h0), if_pos (Or.inl h0)]
    · simp only [lt_nx hj (p := (i, e)) h0 hne]
  have h0 := bigSep_upd b (GBi m ρ c nG nA (ix (b, j))) (GBi m ρ c nG nA (nx b j)) fun i hi => by
    unfold GBi
    congr 1
    exact bigSep_congr fun e _ => hrest i e fun h => hi (congrArg Prod.fst h)
  have h1 : GBi m ρ c nG nA (ix (b, j)) b = bigSep Finset.univ (GBd m ρ c nA (ix (b, j)) b) := if_neg (by omega)
  have h2 : GBi m ρ c nG nA (nx b j) b = bigSep Finset.univ (GBd m ρ c nA (nx b j) b) := if_neg (by omega)
  rw [h1, h2] at h0
  have h3 := bigSep_upd j (GBd m ρ c nA (ix (b, j)) b) (GBd m ρ c nA (nx b j) b) fun e he => hrest b e fun h => he (congrArg Prod.snd h)
  have h5 : GBd m ρ c nA (nx b j) b j = gSl c b (eighth j) (gF m ρ c) := if_pos (Or.inr (Or.inl (self_lt_nx b j)))
  rw [h5] at h3
  iintro ⟨H, Hc⟩
  ihave H' := h0 $$ H
  icases H' with ⟨Hb, Hk⟩
  iapply Hk
  ihave H'' := h3 $$ Hb
  icases H'' with ⟨-, Hk'⟩
  iapply Hk'
  iexact Hc

/-- A send cell of the all-gather before its copy. -/
theorem ASS_send (c : Dev nD) (b : Fin 4) (j : Fin 8) (nE : ℕ) (hj : j ≠ 0) (hE : nE ≤ ix (b, j)) :
    ASS (F := F) c (ix (b, j)) nE ⊢ iprop((dutyTok ER (dCell 2 c b j) 0 (0 : Fin 8) ∗ dutyTok ER (dCell 3 (c - j) b j) 0 (0 : Fin 8))
      ∗ (cred (tallyAt (dCell 2 c b j) () N) -∗ ASS (F := F) c (nx b j) nE)) := by
  refine (bigSep_upd (b, j) _ (ASSi (F := F) c (nx b j) nE) fun p hp => ?_).trans ?_
  · unfold ASSi
    by_cases h0 : p.2 = 0
    · rw [if_pos h0, if_pos h0]
    · simp only [lt_nx hj h0 hp]
  · have h1 : ASSi (F := F) c (ix (b, j)) nE (b, j) = iprop(atPos ER (dCell 2 c b j) 0 ∅ 0 ∗ dutyTok ER (dCell 2 c b j) 0 (0 : Fin 8)
        ∗ dutyTok ER (dCell 3 (c - j) b j) 0 (0 : Fin 8)) := by
      unfold ASSi; rw [if_neg hj, if_neg (by omega), if_neg (by omega)]
    have h2 : ASSi (F := F) c (nx b j) nE (b, j) = iprop(atPos ER (dCell 2 c b j) 0 ∅ 0 ∗ cred (tallyAt (dCell 2 c b j) () N)) := by
      unfold ASSi; rw [if_neg hj, if_neg (by omega), if_pos (self_lt_nx b j)]
    rw [h1, h2]
    iintro ⟨⟨Ha, Ht1, Ht2⟩, Hk⟩
    isplitl [Ht1 Ht2]
    · isplitl [Ht1]; · iexact Ht1
      iexact Ht2
    iintro Hc
    iapply Hk
    isplitl [Ha]; · iexact Ha
    iexact Hc
/-- A send cell of the all-gather before its wait. -/
theorem ASS_wait (c : Dev nD) (b : Fin 4) (j : Fin 8) (nA : ℕ) (hj : j ≠ 0) (hA : ix (b, j) < nA) :
    ASS (F := F) c nA (ix (b, j)) ⊢ iprop((atPos ER (dCell 2 c b j) 0 ∅ 0 ∗ cred (tallyAt (dCell 2 c b j) () N))
      ∗ (atPos ER (dCell 2 c b j) 1 ∅ 0 -∗ ASS (F := F) c nA (nx b j))) := by
  refine (bigSep_upd (b, j) _ (ASSi (F := F) c nA (nx b j)) fun p hp => ?_).trans ?_
  · unfold ASSi
    by_cases h0 : p.2 = 0
    · rw [if_pos h0, if_pos h0]
    · simp only [lt_nx hj h0 hp]
  · have h1 : ASSi (F := F) c nA (ix (b, j)) (b, j) = iprop(atPos ER (dCell 2 c b j) 0 ∅ 0 ∗ cred (tallyAt (dCell 2 c b j) () N)) := by
      unfold ASSi; rw [if_neg hj, if_neg (by omega), if_pos hA]
    have h2 : ASSi (F := F) c nA (nx b j) (b, j) = atPos ER (dCell 2 c b j) 1 ∅ 0 := by
      unfold ASSi; rw [if_neg hj, if_pos (self_lt_nx b j)]
    rw [h1, h2]
/-- A destination of the all-gather that is about to be copied to. -/
theorem ASD_send (c : Dev nD) (b : Fin 4) (j : Fin 8) (hj : j ≠ 0) :
    ASD (F := F) c true (ix (b, j)) ⊢ iprop((∃ f, aSl (F := F) (c - j) b j f) ∗ ASD (F := F) c true (nx b j)) := by
  refine (bigSep_upd (b, j) _ (ASDi (F := F) c true (nx b j)) fun p hp => ?_).trans ?_
  · unfold ASDi
    by_cases h0 : p.2 = 0
    · rw [if_neg (fun h => h.1 h0), if_neg (fun h => h.1 h0)]
    · simp only [le_nx hj h0 hp]
  · have h1 : ASDi (F := F) c true (ix (b, j)) (b, j) = iprop(∃ f, aSl (F := F) (c - j) b j f) := if_pos ⟨hj, rfl, le_rfl⟩
    have h2 : ASDi (F := F) c true (nx b j) (b, j) = iprop(emp) := if_neg fun h => nx_self b j h.2.2
    rw [h1, h2]
    iintro ⟨H, Hk⟩
    isplitl [H]; · iexact H
    iapply Hk; iempintro

/-- The rows of a device in the result, whatever they hold. -/
theorem OUT_peek (c : Dev nD) (b : Fin 4) (e : Fin 8) (nO nD' : ℕ) :
    OUT m ρ c nO nD' ⊢ iprop(∃ f, oCh (F := F) c b e f ∗ (oCh (F := F) c b e f -∗ OUT m ρ c nO nD')) := by
  refine (bigSep_upd (b, e) _ (OUTi m ρ c nO nD') fun p hp => rfl).trans ?_
  by_cases h : ((b, e).2 = c ∧ (b, e).1.val < nO) ∨ ((b, e).2 ≠ c ∧ ix ((b, e).1, (b, e).2 - c) < nD')
  · have h1 : OUTi m ρ c nO nD' (b, e) = oCh c b e (oF m ρ c) := if_pos h
    rw [h1]
    iintro H
    iexists (oF m ρ c)
    iexact H
  · have h1 : OUTi m ρ c nO nD' (b, e) = iprop(∃ f, oCh (F := F) c b e f) := if_neg h
    rw [h1]
    iintro ⟨⟨%f, Hf⟩, Hk⟩
    iexists f
    isplitl [Hf]; · iexact Hf
    iintro Hf
    iapply Hk
    iexists f
    iexact Hf
/-- The own rows are stored. -/
theorem OUT_own (c : Dev nD) (b : Fin 4) (nD' : ℕ) :
    OUT m ρ c b.val nD' ⊢ iprop((∃ f, oCh (F := F) c b c f) ∗ (oCh c b c (oF m ρ c) -∗ OUT m ρ c (b.val + 1) nD')) := by
  refine (bigSep_upd (b, c) _ (OUTi m ρ c (b.val + 1) nD') fun p hp => ?_).trans ?_
  · unfold OUTi
    have hc : ((p.2 = c ∧ p.1.val < b.val) ∨ (p.2 ≠ c ∧ ix (p.1, p.2 - c) < nD')) = ((p.2 = c ∧ p.1.val < b.val + 1) ∨ (p.2 ≠ c ∧ ix (p.1, p.2 - c) < nD')) := by
      refine propext (or_congr (and_congr_right fun he => ?_) Iff.rfl)
      have : p.1.val ≠ b.val := fun h => hp (Prod.ext (Fin.ext h) he)
      omega
    simp only [hc]
  · have h1 : OUTi m ρ c b.val nD' (b, c) = iprop(∃ f, oCh (F := F) c b c f) :=
      if_neg (by rintro (h | h); exacts [Nat.lt_irrefl _ h.2, h.1 rfl])
    have h2 : OUTi m ρ c (b.val + 1) nD' (b, c) = oCh c b c (oF m ρ c) := if_pos (Or.inl ⟨rfl, Nat.lt_succ_self _⟩)
    rw [h1, h2]
/-- The rows of device `c + j` are stored. -/
theorem OUT_other (c : Dev nD) (b : Fin 4) (j : Fin 8) (hj : j ≠ 0) (nO : ℕ) :
    OUT m ρ c nO (ix (b, j)) ⊢ iprop((∃ f, oCh (F := F) c b (c + j) f) ∗ (oCh c b (c + j) (oF m ρ c) -∗ OUT m ρ c nO (nx b j))) := by
  have hne : c + j ≠ c := fun h => hj (by have := add_sub_left c j; rw [h] at this; rw [← this]; exact (by decide : ∀ c : Fin 8, c - c = 0) c)
  refine (bigSep_upd (b, c + j) _ (OUTi m ρ c nO (nx b j)) fun p hp => ?_).trans ?_
  · unfold OUTi
    have hc : ((p.2 = c ∧ p.1.val < nO) ∨ (p.2 ≠ c ∧ ix (p.1, p.2 - c) < ix (b, j))) = ((p.2 = c ∧ p.1.val < nO) ∨ (p.2 ≠ c ∧ ix (p.1, p.2 - c) < nx b j)) := by
      refine propext (or_congr Iff.rfl (and_congr_right fun he => ?_))
      have h0 : p.2 - c ≠ 0 := fun h => he ((by decide : ∀ e c : Fin 8, e - c = 0 → e = c) p.2 c h)
      have h1 : ((p.1, p.2 - c) : P) ≠ (b, j) := fun h => hp (Prod.ext ((Prod.ext_iff.mp h).1) (by
        have h2 : p.2 - c = j := (Prod.ext_iff.mp h).2
        show p.2 = c + j
        rw [← h2]; exact (by decide : ∀ e c : Fin 8, e = c + (e - c)) p.2 c))
      simp only [lt_nx hj (p := (p.1, p.2 - c)) h0 h1]
    simp only [hc]
  · have e1 : ((b, c + j).2 - c : Fin 8) = j := add_sub_left c j
    have h1 : OUTi m ρ c nO (ix (b, j)) (b, c + j) = iprop(∃ f, oCh (F := F) c b (c + j) f) :=
      if_neg (by rintro (h | h); exacts [hne h.1, by have := h.2; rw [e1] at this; exact Nat.lt_irrefl _ this])
    have h2 : OUTi m ρ c nO (nx b j) (b, c + j) = oCh c b (c + j) (oF m ρ c) :=
      if_pos (Or.inr ⟨hne, by rw [e1]; exact self_lt_nx b j⟩)
    rw [h1, h2]

end Cert.Attn
-- ==== Proof.Steps.lean ====
/-
# One operation at a time

`Tri K c st p R st'`: from the state at the counters `st`, the program `p` runs on device `c` to a result of which `R`
holds, at the counters `st'`. One lemma per kind of operation, at any batch and any device.
-/
module

public import proofs.«01_k».proof.Proof.State

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-! ## The cells' invariants -/

/-- A device's cells: the barrier, and the elements of the four arrays. -/
abbrev CI : Type := Option (Fin 4 × P)
/-- The counter that a name stands for. -/
def cellAt (q : Dev nD × CI) : GSem nD τ sig := match q.2 with
  | none => barCell q.1
  | some (k, p) => dCell k q.1 p.1 p.2

/-- Every cell's invariant, that every cell has reached its first round, and the levels. -/
def Recs (K : Dev nD × CI → ℕ) : sProp 𝕄 :=
  iprop((bigSep Finset.univ fun q : Dev nD × CI => cellInv ER (sched m ρ) (K q) (cellAt q))
    ∗ (bigSep Finset.univ fun q : Dev nD × CI => reached ER (cellAt q) 0) ∗ levAts L lv)

/-- What every device knows stays known. -/
instance Recs_persistent (K : Dev nD × CI → ℕ) : BI.Persistent (Recs m ρ K) := by unfold Recs; infer_instance

variable (K : Dev nD × CI → ℕ)

/-- Every counter's invariant is known, -/
theorem Recs_inv (q : Dev nD × CI) : Recs m ρ K ⊢ cellInv ER (sched m ρ) (K q) (cellAt q) := by
  unfold Recs
  exact sep_elim_left.trans (bigSep_elim (Finset.mem_univ q) (Φ := fun q : Dev nD × CI => cellInv ER (sched m ρ) (K q) (cellAt q)))
/-- its round is reached, -/
theorem Recs_reached (q : Dev nD × CI) : Recs m ρ K ⊢ reached ER (cellAt q) 0 := by
  unfold Recs
  exact sep_elim_right.trans (sep_elim_left.trans
    (bigSep_elim (Finset.mem_univ q) (Φ := fun q : Dev nD × CI => (reached ER (cellAt q) 0 : sProp 𝕄))))
/-- and the levels are known. -/
theorem Recs_lev : Recs m ρ K ⊢ levAts L lv := by
  unfold Recs
  iintro ⟨-, -, H⟩
  iexact H
/-- The barrier's invariant, -/
theorem Recs_bar (c : Dev nD) : Recs m ρ K ⊢ cellInv ER (sched m ρ) (K (c, none)) (barCell c) := Recs_inv m ρ K (c, none)
/-- an element's, -/
theorem Recs_dma (k : Fin 4) (c : Dev nD) (b : Fin 4) (j : Fin 8) :
    Recs m ρ K ⊢ cellInv ER (sched m ρ) (K (c, some (k, (b, j)))) (dCell k c b j) := Recs_inv m ρ K (c, some (k, (b, j)))
/-- the barrier's round, -/
theorem Recs_rbar (c : Dev nD) : Recs m ρ K ⊢ reached ER (barCell c) 0 := Recs_reached m ρ K (c, none)
/-- and an element's. -/
theorem Recs_rdma (k : Fin 4) (c : Dev nD) (b : Fin 4) (j : Fin 8) :
    Recs m ρ K ⊢ reached ER (dCell k c b j) 0 := Recs_reached m ρ K (c, some (k, (b, j)))

/-! ## Triples -/

/-- The programs of a core. -/
abbrev TP (F : FTy → Type) (α : Type) : Type 1 := Prog (TpuEff nD τ sig (Elt F) Λ₀ .tc) α

/-- What a program on device `c` needs for `Q` to hold at its end. -/
abbrev WP (c : Dev nD) {α : Type} (p : TP F α) (Q : α → sProp 𝕄) : sProp 𝕄 :=
  wp frame (wpE (defs₀ (F := F)) 𝒱₀ (c : Thread nD τ) none) Set.univ p Q

/-- From state `st`, the program ends in state `st'` with a value in `R`. -/
def Tri (c : Dev nD) {α : Type} (st : St) (p : TP F α) (R : α → Prop) (st' : St) : Prop :=
  ∀ Q : α → sProp 𝕄, iprop(Recs m ρ K ∗ ST m ρ c st ∗ (∀ r, ⌜R r⌝ -∗ ST m ρ c st' -∗ Q r)) ⊢ WP c p Q

variable {m ρ K}
variable {c : Dev nD} {α β : Type} {st st₁ st' : St} {R : α → Prop}

/-- A value. -/
theorem Tri.ret (a : α) (h : R a) : Tri m ρ K c st (pure a) R st := by
  intro Q
  show _ ⊢ WP c (Prog.ret a) Q
  unfold WP
  rw [wp_ret]
  iintro ⟨-, HS, Hk⟩
  imodintro
  iapply Hk $$ [] HS
  ipureintro
  exact h

/-- One program after another. -/
theorem Tri.bind {p : TP F β} {k : β → TP F α} {R₁ : β → Prop} (h₁ : Tri m ρ K c st p R₁ st₁)
    (h₂ : ∀ r, R₁ r → Tri m ρ K c st₁ (k r) R st') : Tri m ρ K c st (p >>= k) R st' := by
  intro Q
  show _ ⊢ wp frame _ Set.univ (p >>= k) Q
  rw [Idealize.SL.Sem.wp_bind]
  iintro ⟨#HR, HS, Hk⟩
  iapply (h₁ _)
  isplitr; · iexact HR
  isplitl [HS]; · iexact HS
  iintro %r %hr HS
  iapply (h₂ r hr Q)
  isplitr; · iexact HR
  isplitl [HS]; · iexact HS
  iexact Hk

/-- An operation that takes `A` out of the state, returns `v` and puts `B` back. -/
theorem Tri.mk {A B : sProp 𝕄} {e : TpuEff nD τ sig (Elt F) Λ₀ .tc β} {k : β → TP F α} {v : β}
    (hST : ST m ρ c st ⊢ iprop(A ∗ (B -∗ ST m ρ c st₁)))
    (hop : ∀ Q : α → sProp 𝕄, iprop(Recs m ρ K ∗ A ∗ (B -∗ WP c (k v) Q)) ⊢ WP c (.op e k) Q)
    (h : Tri m ρ K c st₁ (k v) R st') : Tri m ρ K c st (Prog.lift e >>= k) R st' := by
  intro Q
  rw [Prog.bind_lift]
  iintro ⟨#HR, HS, Hk⟩
  ihave HS' := hST $$ HS
  icases HS' with ⟨HA, HB⟩
  iapply (hop Q)
  isplitr; · iexact HR
  isplitl [HA]; · iexact HA
  iintro HBB
  iapply (h Q)
  isplitr; · iexact HR
  isplitl [HB HBB]
  · iapply HB; iexact HBB
  iexact Hk

/-- The device's own number. -/
theorem Tri.deviceId {k : Dev nD → TP F α} (h : Tri m ρ K c st (k c) R st') : Tri m ρ K c st (Prog.lift .deviceId >>= k) R st' := by
  intro Q
  rw [Prog.bind_lift]
  unfold WP
  rw [wp_deviceId]
  exact h Q

/-- A load of known contents. -/
theorem Tri.load {s : Shape} {e : EltTy} {M : Memref sig .tc .vmem s e} {r : LoadRect s} {hl : M.view.LoadsAt r} {k : (r.shape.Idx → Elt F e) → TP F α}
    {S : Finset (Idx (M.view.loc (c : Thread nD τ)))} (f : Buf (Elt F) (M.view.loc (c : Thread nD τ))) (hS : M.view.setOn r.set ⊆ S)
    (hST : ST m ρ c st ⊢ iprop((M.view.loc (c : Thread nD τ) ↦[S]{fullShare} f) ∗ ((M.view.loc (c : Thread nD τ) ↦[S]{fullShare} f) -∗ ST m ρ c st)))
    (h : Tri m ρ K c st (k (M.view.readAt (Elt F) r f)) R st') : Tri m ρ K c st (Prog.lift (.load M r hl) >>= k) R st' :=
  Tri.mk (v := M.view.readAt (Elt F) r f) hST (fun Q => by
    iintro ⟨-, HA, Hk⟩
    iapply (wp_load 𝒱₀ (c : Thread nD τ) none Set.univ (m := M) (r := r) (f := f) hS) $$ HA
    iexact Hk) h

/-- A load of whatever is there. -/
theorem Tri.loadAny {s : Shape} {e : EltTy} {M : Memref sig .tc .vmem s e} {r : LoadRect s} {hl : M.view.LoadsAt r} {k : (r.shape.Idx → Elt F e) → TP F α}
    {S : Finset (Idx (M.view.loc (c : Thread nD τ)))} (hS : M.view.setOn r.set ⊆ S)
    (hST : ST m ρ c st ⊢ iprop(∃ f, (M.view.loc (c : Thread nD τ) ↦[S]{fullShare} f) ∗ ((M.view.loc (c : Thread nD τ) ↦[S]{fullShare} f) -∗ ST m ρ c st)))
    (h : ∀ v, Tri m ρ K c st (k v) R st') : Tri m ρ K c st (Prog.lift (.load M r hl) >>= k) R st' := by
  intro Q
  rw [Prog.bind_lift]
  iintro ⟨#HR, HS, Hk⟩
  ihave HS' := hST $$ HS
  icases HS' with ⟨%f, HA, HB⟩
  iapply (wp_load 𝒱₀ (c : Thread nD τ) none Set.univ (m := M) (r := r) (f := f) hS) $$ HA
  iintro HA
  iapply (h _ Q)
  isplitr; · iexact HR
  isplitl [HA HB]
  · iapply HB; iexact HA
  iexact Hk

/-- A store of a whole piece whose new contents are `f`. -/
theorem Tri.store {s : Shape} {e : EltTy} {M : Memref sig .tc .vmem s e} {r : Rect s} {w : r.shape.Idx → Elt F e} {hx : (M.access r).Stores Finset.univ}
    {hm : (Finset.univ : Finset r.shape.Idx) = Finset.univ ∨ ∀ a, r.stride a = 1}
    {k : PUnit → TP F α} {S : Finset (Idx ((M.access r).loc (c : Thread nD τ)))} (f : Buf (Elt F) ((M.access r).loc (c : Thread nD τ)))
    (hS : (M.access r).setOn Finset.univ ⊆ S)
    (hf : ∀ g, ∀ i ∈ S, (M.access r).write (Elt F) g w Finset.univ i = f i)
    (hST : ST m ρ c st ⊢ iprop((∃ g, (M.access r).loc (c : Thread nD τ) ↦[S]{fullShare} g) ∗ (((M.access r).loc (c : Thread nD τ) ↦[S]{fullShare} f) -∗ ST m ρ c st₁)))
    (h : Tri m ρ K c st₁ (k ⟨⟩) R st') : Tri m ρ K c st (Prog.lift (.store M r w Finset.univ hx hm) >>= k) R st' :=
  Tri.mk (v := ⟨⟩) hST (fun Q => by
    iintro ⟨-, ⟨%g, HA⟩, Hk⟩
    iapply (wp_store 𝒱₀ (c : Thread nD τ) none Set.univ (m := M) (r := r) (w := w) (Mk := Finset.univ) (f := g) hS) $$ HA
    rw [pointsTo_congr (hf g)]
    iexact Hk) h

/-- A wait on a used element of an array. -/
theorem Tri.wait (q b : Fin 4) (j : Fin 8) (hu : used c q j) {sm : DmaSem sig} (hs : sm = semOf q b j) {s s' : Shape} {e e' : EltTy} {sp sp' : Space}
    {src : Memref sig .tc sp s e} {dst : Memref sig .tc sp' s' e'} (hN : dst.view.dmaCredit = N) {h1 : src.view.WordExact} {h2 : dst.view.WordExact}
    {k : PUnit → TP F α} {nB nR nA : ℕ}
    (hmay : (levAts L lv : sProp 𝕄) ⊢ MayWait (c : Thread nD τ) (.dma (semOf q b j)) () (Owed c nB nR nA))
    (hST : ST m ρ c st ⊢ iprop((OW (F := F) c nB nR nA ∗ atPos ER (dCell q c b j) 0 ∅ 0 ∗ cred (tallyAt (dCell q c b j) () N))
      ∗ ((OW (F := F) c nB nR nA ∗ atPos ER (dCell q c b j) 1 ∅ 0 ∗ dmaPay m ρ c q b j) -∗ ST m ρ c st₁)))
    (h : Tri m ρ K c st₁ (k ⟨⟩) R st') : Tri m ρ K c st (Prog.lift (.waitDma2 sm src dst h1 h2) >>= k) R st' := by
  subst hs
  refine Tri.mk (v := ⟨⟩) hST (fun Q => ?_) h
  unfold OW
  iintro ⟨#HR, ⟨⟨%W, HO⟩, Ha, Hc⟩, Hk⟩
  ihave #HI := (Recs_dma m ρ K q c b j) $$ HR
  ihave #HL := (Recs_lev m ρ K) $$ HR
  iapply (Rounds.wp_wait_rest_token 𝒱₀ ER (sched m ρ) (c : Thread nD τ) none (κ := K (c, some (q, (b, j))))
      (wpE_waitDma2_eq 𝒱₀ (c : Thread nD τ) none Set.univ) (Set.mem_univ _) () (O := Owed c nB nR nA) (W := W) (R := 0) (m := 0) (T := ∅)
      (by rw [Nat.zero_add, expect_dma m ρ c q b j hu, hN])) $$ [Hc HO Ha]
  · isplitr; · iexact HI
    isplitl [Hc]; · rw [hN]; iexact Hc
    isplitl [HO]; · iexact HO
    isplitr; · iapply hmay; iexact HL
    iexact Ha
  iintro ⟨HO, Ha, -, Hp⟩
  ihave Hp' := (Entails.of_eq (rest_dma m ρ c q b j hu)) $$ Hp
  iapply Hk
  isplitl [HO]; · iexists _; iexact HO
  isplitl [Ha]; · iexact Ha
  iexact Hp'

/-- A copy between used elements of two arrays. -/
theorem Tri.copy (q q' b : Fin 4) (j j' : Fin 8) (e : Dev nD) (hu : used c q j) (hu' : used e q' j') {sS sR : DmaSem sig}
    (hsS : sS = semOf q b j) (hsR : sR = semOf q' b j') {n : Dev nD} (hn : n = e)
    {s : Shape} {ty : EltTy} {src : Memref sig .tc .vmem s ty} {dst : Memref sig .tc .vmem s ty}
    {hsc : dst.view.ref.isScScratch = false} {h1 : src.view.WordExact} {h2 : dst.view.WordExact}
    {h3 : DmaTarget.Typed .vmem (.dma sR) (.remote (Dev.tc n : Thread nD τ) dst (.dma sS) hsc)}
    (hN : dst.view.amount (.dma (semOf q' b j') : SemLoc sig) = N)
    {k : PUnit → TP F α} {O₀ O : CellTallies nD τ sig Unit} (hO : O₀ = O + tallyAt (dCell q' e b j') () N) {qs : PosShare TreeShare}
    {fs : Buf (Elt F) (src.view.loc (c : Thread nD τ))} {fd : Buf (Elt F) (dst.view.loc (e : Thread nD τ))}
    (hp1 : (src.view.loc (c : Thread nD τ) ↦[src.view.set]{qs} fs) ⊢ dmaPay m ρ c q b j)
    (hp2 : (dst.view.loc (e : Thread nD τ) ↦[dst.view.set]{fullShare} (dst.view.write (Elt F) fd (src.view.read (Elt F) fs) Finset.univ)) ⊢ dmaPay m ρ e q' b j')
    (W : Waits sig Unit) (Q : α → sProp 𝕄) :
    iprop(Recs m ρ K ∗ (owes (c : Thread nD τ) O₀ W ∗ (src.view.loc (c : Thread nD τ) ↦[src.view.set]{qs} fs)
        ∗ (dst.view.loc (e : Thread nD τ) ↦[dst.view.set]{fullShare} fd) ∗ dutyTok ER (dCell q c b j) 0 (0 : Fin 8) ∗ dutyTok ER (dCell q' e b j') 0 (0 : Fin 8))
        ∗ ((owes (c : Thread nD τ) O W ∗ cred (tallyAt (dCell q c b j) () N)) -∗ WP c (k ⟨⟩) Q))
      ⊢ WP c (.op (.enqueueDma src (.remote (Dev.tc n : Thread nD τ) dst (.dma sS) hsc) (.dma sR) h1 h2 h3) k) Q := by
  subst hsS hsR hn
  iintro ⟨#HR, ⟨HO, Hs, Hd, Ht, Ht'⟩, Hk⟩
  ihave #HI := (Recs_dma m ρ K q c b j) $$ HR
  ihave #HI' := (Recs_dma m ρ K q' n b j') $$ HR
  ihave #Hr := (Recs_rdma m ρ K q c b j) $$ HR
  ihave #Hr' := (Recs_rdma m ρ K q' n b j') $$ HR
  iapply (Rounds.wp_send_pointsTo 𝒱₀ ER (sched m ρ) (c : Thread nD τ) none (κ₁ := K (c, some (q, (b, j)))) (κ₂ := K (n, some (q', (b, j'))))
    (r₁ := 0) (r₂ := 0) (d₁ := (0 : Fin 8)) (d₂ := (0 : Fin 8)) (fd := fd)
    (by rw [duties_dma m ρ c q b j hu]; exact Finset.mem_singleton_self _) (by rw [duties_dma m ρ n q' b j' hu']; exact Finset.mem_singleton_self _)
    () () N hN (amount_dma m ρ c q b j 0) (amount_dma m ρ n q' b j' 0) O hO (W := W)
    (by rw [payload_dma]; exact hp1) (by rw [payload_dma]; exact hp2)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexact HO
  iexact Hc

end Cert.Attn
-- ==== Proof.Init.lean ====
/-
# What a device starts with

The launch hands out the cells' positions, the tokens of all their duties and the credit of what the devices owe one
another. Dealt to the devices that pay, they are, with the launch's arrays, the state that the program starts from.
-/
module

public import proofs.«01_k».proof.Proof.Steps
public import Idealize.ShloMosaic.Lib.Pipeline.Launch
public import Idealize.ShloMosaic.Lib.Pipeline.Kit

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties are told apart -/

/-- Two elements with one semaphore are one. -/
theorem semOf_inj {k k' b b' : Fin 4} {j j' : Fin 8} (h : semOf k b j = semOf k' b' j') : k = k' ∧ b = b' ∧ j = j' :=
  ⟨by rw [← kOf_semOf k b j, h, kOf_semOf], by rw [← bOf_semOf k b j, h, bOf_semOf], by rw [← jOf_semOf k b j, h, jOf_semOf]⟩

/-- The semaphore of a cell. -/
def locOf : CI → SemLoc sig
  | none => .reg barS
  | some (k, p) => .dma (semOf k p.1 p.2)
/-- A counter is a device and a place on it. -/
theorem cellAt_eq (q : Dev nD × CI) : cellAt q = ((q.1 : Thread nD τ), locOf q.2) := by
  obtain ⟨c, _ | ⟨k, p⟩⟩ := q <;> rfl
/-- Two names of one place are one, -/
theorem locOf_inj : Function.Injective locOf := by
  rintro (_ | ⟨k, b, j⟩) (_ | ⟨k', b', j'⟩) h
  · rfl
  · cases h
  · cases h
  · obtain ⟨h1, h2, h3⟩ := semOf_inj (SemLoc.dma.inj h)
    dsimp only at h2 h3
    rw [h1, h2, h3]
/-- so two names of one counter are one. -/
theorem cellAt_inj : Function.Injective cellAt := by
  rintro ⟨c, q⟩ ⟨c', q'⟩ h
  rw [cellAt_eq, cellAt_eq] at h
  have h1 : c = c' := congrArg (fun g : GSem nD τ sig => g.1.1) h
  have h2 : q = q' := locOf_inj (congrArg Prod.snd h)
  rw [h1, h2]
/-- When two elements' counters are one. -/
theorem dCell_eq_iff {k k' : Fin 4} {c c' : Dev nD} {b b' : Fin 4} {j j' : Fin 8} :
    dCell k c b j = dCell k' c' b' j' ↔ k = k' ∧ c = c' ∧ b = b' ∧ j = j' := by
  constructor
  · intro h
    have h1 : c = c' := congrArg (fun g : GSem nD τ sig => g.1.1) h
    obtain ⟨h2, h3, h4⟩ := semOf_inj (SemLoc.dma.inj (congrArg Prod.snd h))
    exact ⟨h2, h1, h3, h4⟩
  · rintro ⟨rfl, rfl, rfl, rfl⟩; rfl
/-- When two barriers' counters are one. -/
theorem barCell_eq_iff {c c' : Dev nD} : barCell c = barCell c' ↔ c = c' :=
  ⟨fun h => congrArg (fun g : GSem nD τ sig => g.1.1) h, fun h => h ▸ rfl⟩
/-- A barrier's counter is no element's. -/
theorem barCell_ne (c c' : Dev nD) (k b : Fin 4) (j : Fin 8) : barCell c ≠ dCell k c' b j :=
  fun h => by cases congrArg Prod.snd h

/-- A device's duties: one per device at its barrier, one at each element of the arrays. -/
abbrev TI : Type := Fin 8 ⊕ (Fin 4 × P)
/-- The duty that a name stands for. -/
def tokAt (x : Dev nD × TI) : GSem nD τ sig × ℕ × Fin 8 := match x.2 with
  | .inl j => (barCell x.1, 0, j)
  | .inr (k, p) => (dCell k x.1 p.1 p.2, 0, 0)
/-- Two names of one duty are one. -/
theorem tokAt_inj : Function.Injective tokAt := by
  rintro ⟨c, j | ⟨k, b, j⟩⟩ ⟨c', j' | ⟨k', b', j'⟩⟩ h
  · have h1 := barCell_eq_iff.1 (congrArg Prod.fst h)
    have h2 : j = j' := congrArg (fun x : GSem nD τ sig × ℕ × Fin 8 => x.2.2) h
    dsimp only at h1
    rw [h1, h2]
  · exact absurd (congrArg Prod.fst h) (barCell_ne _ _ _ _ _)
  · exact absurd (congrArg Prod.fst h).symm (barCell_ne _ _ _ _ _)
  · obtain ⟨h1, h2, h3, h4⟩ := dCell_eq_iff.1 (congrArg Prod.fst h)
    subst h1 h2 h3 h4; rfl

/-- Every counter of the protocol. -/
def allCells : Finset (GSem nD τ sig) := Finset.univ.map ⟨cellAt, cellAt_inj⟩
/-- Every duty of the protocol. -/
def allToks : Finset (GSem nD τ sig × ℕ × Fin 8) := Finset.univ.map ⟨tokAt, tokAt_inj⟩

/-! ## Small facts of iterated conjunctions -/

/-- A product over the four arrays, written out. -/
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Over the cells of a device: the barrier, then the four arrays. -/
theorem bigSepCI (Φ : CI → sProp 𝕄) :
    bigSep Finset.univ Φ = iprop(Φ none ∗ bigSep Finset.univ fun kp : Fin 4 × P => Φ (some kp)) := by
  rw [bigSep_univ_equiv (Equiv.optionEquivSumPUnit.{0} (Fin 4 × P)).symm Φ, bigSep_univ_sum]
  have h1 : (bigSep Finset.univ fun a : PUnit => Φ ((Equiv.optionEquivSumPUnit.{0} (Fin 4 × P)).symm (Sum.inr a))) = Φ none := by
    rw [show (Finset.univ : Finset PUnit) = {PUnit.unit} from rfl, bigSep_singleton]; rfl
  rw [h1]
  exact BI.Entails.antisymm BI.sep_comm BI.sep_comm
/-- A summand holds where a condition does and where it does not. -/
theorem bigSep_cut {I : Type} [Fintype I] (p : I → Prop) [DecidablePred p] (Φ : I → sProp 𝕄) :
    bigSep Finset.univ Φ = iprop((bigSep Finset.univ fun i => if p i then Φ i else iprop(emp))
      ∗ bigSep Finset.univ fun i => if p i then iprop(emp) else Φ i) := by
  rw [← bigSep_sep']
  refine bigSep_congr fun i _ => ?_
  by_cases h : p i
  · rw [if_pos h, if_pos h]; exact BI.Entails.antisymm BI.sep_emp.2 BI.sep_emp.1
  · rw [if_neg h, if_neg h]; exact BI.Entails.antisymm BI.emp_sep.2 BI.emp_sep.1
/-- Anything may be dropped. -/
theorem to_emp (A : sProp 𝕄) : A ⊢ iprop(emp) := by
  iintro HA
  iempintro
/-- A persistent fact at hand for each summand. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The ghost state, dealt -/

/-- The tokens of a device's own duties. -/
def toks (c : Dev nD) : sProp 𝕄 :=
  iprop((bigSep Finset.univ fun j : Fin 8 => dutyTok ER (barCell c) 0 j)
    ∗ bigSep Finset.univ fun kp : Fin 4 × P => dutyTok ER (dCell kp.1 c kp.2.1 kp.2.2) 0 (0 : Fin 8))
/-- The tokens of the duties that a device pays. -/
def payToks (c : Dev nD) : sProp 𝕄 :=
  iprop((bigSep Finset.univ fun j : Fin 8 => dutyTok ER (barCell (c + j)) 0 (c : Fin 8))
    ∗ (bigSep Finset.univ fun p : P => dutyTok ER (dCell 0 c p.1 p.2) 0 (0 : Fin 8))
    ∗ (bigSep Finset.univ fun p : P => dutyTok ER (dCell 1 p.2 p.1 (c - p.2)) 0 (0 : Fin 8))
    ∗ (bigSep Finset.univ fun p : P => dutyTok ER (dCell 2 c p.1 p.2) 0 (0 : Fin 8))
    ∗ (bigSep Finset.univ fun p : P => dutyTok ER (dCell 3 (c - p.2) p.1 p.2) 0 (0 : Fin 8)))
/-- A device's positions, none past its first round. -/
def poss (c : Dev nD) : sProp 𝕄 := bigSep Finset.univ fun q : CI => atPos ER (cellAt (c, q)) 0 ∅ 0
/-- What stays with a device. -/
def linear (c : Dev nD) : sProp 𝕄 := iprop(poss (F := F) c ∗ payToks (F := F) c)

/-- Some places on and back, -/
theorem addSub (c j : Fin 8) : c + j - j = c := by revert c j; decide
/-- back and on, -/
theorem subAdd (c j : Fin 8) : c - j + j = c := by revert c j; decide
/-- a device and its distance, -/
theorem subSub (c d : Fin 8) : d + (c - d) = c := by revert c d; decide
/-- and the distance of a device some places on. -/
theorem addSubL (c j : Fin 8) : c + j - c = j := by revert c j; decide

/-- Device `c`'s signal to `c + j` is paid at the barrier of `c + j`. -/
def eB : Dev nD × Fin 8 ≃ Dev nD × Fin 8 where
  toFun x := ((x.1 + x.2 : Fin 8), x.1)
  invFun x := (x.2, (x.1 - x.2 : Fin 8))
  left_inv x := Prod.ext rfl (addSubL x.1 x.2)
  right_inv x := Prod.ext (subSub x.1 x.2) rfl
/-- Device `c`'s reduce-scatter copy to `d` is paid at `[b, c - d]` of `d`. -/
def eR : Dev nD × P ≃ Dev nD × P where
  toFun x := (x.2.2, (x.2.1, (x.1 - x.2.2 : Fin 8)))
  invFun x := ((x.1 + x.2.2 : Fin 8), (x.2.1, x.1))
  left_inv x := Prod.ext (subSub x.1 x.2.2) rfl
  right_inv x := Prod.ext rfl (Prod.ext rfl (addSubL x.1 x.2.2))
/-- Device `c`'s all-gather copy to `c - j` is paid at `[b, j]` of `c - j`. -/
def eA : Dev nD × P ≃ Dev nD × P where
  toFun x := ((x.1 - x.2.2 : Fin 8), x.2)
  invFun x := ((x.1 + x.2.2 : Fin 8), x.2)
  left_inv x := Prod.ext (subAdd x.1 x.2.2) rfl
  right_inv x := Prod.ext (addSub x.1 x.2.2) rfl

/-- Dealing along a permutation of the devices' places. -/
theorem deal {J : Type} [Fintype J] (e : Dev nD × J ≃ Dev nD × J) (Φ : Dev nD × J → sProp 𝕄) :
    (bigSep Finset.univ fun c : Dev nD => bigSep Finset.univ fun j : J => Φ (c, j))
      = bigSep Finset.univ fun c : Dev nD => bigSep Finset.univ fun j : J => Φ (e (c, j)) := by
  rw [← bigSep_univ_prod, ← bigSep_univ_prod (fun x => Φ (e x))]
  exact bigSep_univ_equiv e Φ

/-- The duties of all counters, dealt to the devices that pay them. -/
theorem toks_dealt : (bigSep Finset.univ fun c : Dev nD => toks (F := F) c) ⊢ bigSep Finset.univ fun c : Dev nD => payToks (F := F) c := by
  have h : ∀ c : Dev nD, toks (F := F) c = iprop((bigSep Finset.univ fun j : Fin 8 => dutyTok ER (barCell c) 0 j)
      ∗ (bigSep Finset.univ fun p : P => dutyTok ER (dCell 0 c p.1 p.2) 0 (0 : Fin 8))
      ∗ (bigSep Finset.univ fun p : P => dutyTok ER (dCell 1 c p.1 p.2) 0 (0 : Fin 8))
      ∗ (bigSep Finset.univ fun p : P => dutyTok ER (dCell 2 c p.1 p.2) 0 (0 : Fin 8))
      ∗ (bigSep Finset.univ fun p : P => dutyTok ER (dCell 3 c p.1 p.2) 0 (0 : Fin 8))) := by
    intro c
    unfold toks
    rw [bigSep_univ_prod, bigSep4]
  simp only [h]
  unfold payToks
  rw [bigSep_sep', bigSep_sep', bigSep_sep', bigSep_sep', bigSep_sep', bigSep_sep', bigSep_sep', bigSep_sep',
    deal eB fun x : Dev nD × Fin 8 => (dutyTok ER (barCell x.1) 0 x.2 : sProp 𝕄),
    deal eR fun x : Dev nD × P => (dutyTok ER (dCell 1 x.1 x.2.1 x.2.2) 0 (0 : Fin 8) : sProp 𝕄),
    deal eA fun x : Dev nD × P => (dutyTok ER (dCell 3 x.1 x.2.1 x.2.2) 0 (0 : Fin 8) : sProp 𝕄)]
  exact BI.Entails.refl _

/-- What the launch hands device `c`, before any invariant is made. -/
def G (c : Dev nD) : sProp 𝕄 :=
  iprop((bigSep Finset.univ fun q : CI => roundState ER (sched m ρ) (cellAt (c, q)) 0)
    ∗ (bigSep Finset.univ fun q : CI => reached ER (cellAt (c, q)) 0) ∗ poss (F := F) c ∗ toks (F := F) c)

/-- The launch's resources make every counter's account. -/
theorem fund_cells : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun q : CI => Φ (cellAt (c, q)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by rw [bigSep_univ_sum]; rfl
  iintro H
  imod (Rounds.fund ER (sched m ρ) allCells allToks) $$ H with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat']; · iexact Hat'
  iexact Htok'

/-! ## The semaphores of the launch -/

/-- The program's own scoped semaphores: the four arrays. -/
abbrev osem : Fin 4 × P → SemLoc sig := fun kp => .dma (semOf kp.1 kp.2.1 kp.2.2)
/-- The kernel's own semaphores are those of the four arrays. -/
theorem ownSemFacts : Pipeline.OwnSemFacts cfg0.spec osem where
  isScoped := by decide +kernel
  inj := fun kp kp' h => by
    obtain ⟨h1, h2, h3⟩ := semOf_inj (SemLoc.dma.inj h)
    exact Prod.ext h1 (Prod.ext h2 h3)
  disj := fun kp w s h => by
    have h1 := six_le_semOf kp.1 kp.2.1 kp.2.2
    have h2 : ∀ w s, ((cfg0.spec w).sem s).val < 6 := by decide
    have h2 := h2 w s
    have h3 : semOf kp.1 kp.2.1 kp.2.2 = (cfg0.spec w).sem s := SemLoc.dma.inj h
    rw [h3] at h1
    omega

/-- The semaphore that outlives the launch is the barrier's. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

/-- All semaphores of a device: the barrier's and the arrays'. -/
theorem sems_eq (c : Dev nD) :
    (bigSep Finset.univ fun q : CI => semVal (cellAt (c, q)) 0 : sProp 𝕄)
      = iprop(unscopedSems0 c ∗ Pipeline.ownSems0 (Ix := Unit) (Name := ℕ) (U := UU) (Lvl := ℕ) (Val := Elt F) (τ := τ) osem c) := by
  rw [bigSepCI, unscoped_eq]; rfl

/-! ## Every device's cells at once -/

/-- A device's accounts become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun q : CI => iprop(∃ κ : ℕ, cellInv ER (sched m ρ) κ (cellAt (c, q))))
          ∗ (bigSep Finset.univ fun q : CI => reached ER (cellAt (c, q)) 0) ∗ poss (F := F) c ∗ toks (F := F) c) := by
  unfold G
  iintro ⟨Hos, Hus, Hst, Hr, Hat, Htok⟩
  ihave Hv := (Entails.of_eq (sems_eq (F := F) c).symm) $$ [Hos Hus]
  · isplitl [Hus] <;> iassumption
  imod (show iprop((bigSep Finset.univ fun q : CI => semVal (cellAt (c, q)) 0) ∗ bigSep Finset.univ fun q : CI => roundState ER (sched m ρ) (cellAt (c, q)) 0)
      ⊢ (|={Set.univ}=> bigSep Finset.univ fun q : CI => iprop(∃ κ : ℕ, cellInv ER (sched m ρ) κ (cellAt (c, q))) : sProp 𝕄) from by
        rw [← bigSep_sep']
        exact (bigSep_mono fun q _ => (Rounds.body_intro ER (sched m ρ) (cellAt (c, q))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The shared facts but the levels. -/
def Pers (K : Dev nD × CI → ℕ) : sProp 𝕄 :=
  iprop((bigSep Finset.univ fun q : Dev nD × CI => cellInv ER (sched m ρ) (K q) (cellAt q))
    ∗ bigSep Finset.univ fun q : Dev nD × CI => reached ER (cellAt q) 0)
/-- What every device knows stays known. -/
instance Pers_persistent (K : Dev nD × CI → ℕ) : BI.Persistent (Pers m ρ K) := by unfold Pers; infer_instance

/-- What device `c` gets of it. -/
def G' (c : Dev nD) : sProp 𝕄 := iprop(∃ K, Pers m ρ K ∗ linear (F := F) c)

/-- All devices' accounts at once. -/
theorem regroup :
    (bigSep Finset.univ fun c : Dev nD => iprop((bigSep Finset.univ fun q : CI => iprop(∃ κ : ℕ, cellInv ER (sched m ρ) κ (cellAt (c, q))))
          ∗ (bigSep Finset.univ fun q : CI => reached ER (cellAt (c, q)) 0) ∗ poss (F := F) c ∗ toks (F := F) c) : sProp 𝕄)
      ⊢ bigSep Finset.univ (G' m ρ) := by
  rw [bigSep_sep', bigSep_sep', bigSep_sep',
    ← bigSep_univ_prod (fun q : Dev nD × CI => iprop(∃ κ : ℕ, cellInv ER (sched m ρ) κ (cellAt q))),
    ← bigSep_univ_prod (fun q : Dev nD × CI => (reached ER (cellAt q) 0 : sProp 𝕄))]
  iintro ⟨HI, #HR, Hat, Htok⟩
  ihave HK := (BI.bigSep_exists_pi Finset.univ (fun (q : Dev nD × CI) (κ : ℕ) => (cellInv ER (sched m ρ) κ (cellAt q) : sProp 𝕄))) $$ HI
  icases HK with ⟨%K, #HI⟩
  ihave Htk := (toks_dealt (F := F)) $$ Htok
  iapply (bigSep_using (R := Pers m ρ K) (Φ := fun c => linear (F := F) c) (Ψ := G' m ρ) fun c _ => by
    unfold G'
    iintro ⟨HP, HL⟩
    iexists K
    isplitl [HP]; · iexact HP
    iexact HL)
  isplitr
  · unfold Pers; isplitl; · iexact HI
    iexact HR
  · unfold linear
    rw [bigSep_sep']
    isplitl [Hat]; · iexact Hat
    iexact Htk

/-- Every device's semaphores become cells, under one update. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What the devices owe at launch: everything but the signal to themselves and the copies to themselves. -/
abbrev O₀ (c : Dev nD) : CellTallies nD τ sig Unit := Owed c 1 0 1

/-- A tally counts nothing at another counter. -/
theorem tallyAt_zero_of_ne {g g' : GSem nD τ sig} {n : ℕ} (h : g' ≠ g) : (tallyAt g' () n : CellTallies nD τ sig Unit) g () = 0 := by
  rw [tallyAt_apply, if_neg fun h' => h h'.1.symm]

/-- A sum of tallies at a cell that one place meets. -/
theorem sum_meet {I : Type} [Fintype I] [DecidableEq I] (f : I → CellTallies nD τ sig Unit) (g : GSem nD τ sig) (i : I)
    (h : ∀ j, j ≠ i → f j g () = 0) : (∑ j, f j) g () = f i g () := by
  rw [Finset.sum_apply, Finsupp.finset_sum_apply]
  exact Finset.sum_eq_single i (fun j _ hj => h j hj) fun hi => absurd (Finset.mem_univ i) hi
/-- A sum of tallies, none of them at a counter, counts nothing there. -/
theorem sum_miss {I : Type} [Fintype I] (f : I → CellTallies nD τ sig Unit) (g : GSem nD τ sig)
    (h : ∀ j, f j g () = 0) : (∑ j, f j) g () = 0 := by
  rw [Finset.sum_apply, Finsupp.finset_sum_apply]
  exact Finset.sum_eq_zero fun j _ => h j

/-- Tallies add counter by counter. -/
theorem add_at (A B C : CellTallies nD τ sig Unit) (g : GSem nD τ sig) : (A + B + C) g () = A g () + B g () + C g () := by
  rw [Pi.add_apply, Finsupp.add_apply, Pi.add_apply, Finsupp.add_apply]

/-- Who owes a barrier a unit: every other device, one. -/
theorem owed_bar (d c : Dev nD) : O₀ d (barCell c) () = if d = c then 0 else 1 := by
  unfold O₀ Owed
  rw [add_at]
  rw [sum_meet _ (barCell c) (c - d : Fin 8) fun j hj => by
      split
      · split
        · rfl
        · exact tallyAt_zero_of_ne fun h => hj (by rw [← barCell_eq_iff.1 h]; exact (addSubL d j).symm)
      · rfl,
    sum_miss _ _ fun p => by
      split
      · split
        · rfl
        · exact tallyAt_zero_of_ne fun h => barCell_ne _ _ _ _ _ h.symm
      · rfl,
    sum_miss _ _ fun p => by
      split
      · split
        · rfl
        · exact tallyAt_zero_of_ne fun h => barCell_ne _ _ _ _ _ h.symm
      · rfl]
  by_cases h : d = c
  · subst h
    have h0 : (d - d : Fin 8) = 0 := by revert d; decide
    rw [if_pos rfl, h0]; rfl
  · have h0 : (c - d : Fin 8) ≠ 0 := by revert c d; decide
    have h1 : 1 ≤ (c - d : Fin 8).val := Nat.one_le_iff_ne_zero.2 fun h' => h0 (Fin.ext h')
    rw [if_neg h, if_pos h1, if_neg h0, subSub c d, tallyAt_apply, if_pos ⟨rfl, rfl⟩]

/-- Who owes an element of the reduce-scatter's receive side a copy: one device. -/
theorem owed_rs (d c : Dev nD) (b : Fin 4) (j : Fin 8) (hj : j ≠ 0) : O₀ d (dCell 1 c b j) () = if d = (c + j : Fin 8) then N else 0 := by
  unfold O₀ Owed
  rw [add_at]
  rw [sum_miss _ _ fun i => by
      split
      · split
        · rfl
        · exact tallyAt_zero_of_ne (barCell_ne _ _ _ _ _)
      · rfl,
    sum_meet _ (dCell 1 c b j) (b, c) fun p hp => by
      split
      · split
        · rfl
        · exact tallyAt_zero_of_ne fun h => hp (Prod.ext (dCell_eq_iff.1 h).2.2.1 (dCell_eq_iff.1 h).2.1)
      · rfl,
    sum_miss _ _ fun p => by
      split
      · split
        · rfl
        · exact tallyAt_zero_of_ne fun h => absurd (dCell_eq_iff.1 h).1 (by decide)
      · rfl]
  rw [if_pos (Nat.zero_le _)]
  by_cases h : d = (c + j : Fin 8)
  · subst h
    have h0 : (c : Fin 8) ≠ c + j := by revert c j; decide
    rw [if_neg h0, if_pos rfl, addSubL c j, tallyAt_apply, if_pos ⟨rfl, rfl⟩, Nat.zero_add, Nat.add_zero]
  · rw [if_neg h]
    split
    · rfl
    · rw [tallyAt_zero_of_ne fun h' => h (by rw [← (dCell_eq_iff.1 h').2.2.2]; exact (subSub d c).symm)]

/-- Who owes an element of the all-gather's receive side a copy: one device. -/
theorem owed_ag (d c : Dev nD) (b : Fin 4) (j : Fin 8) (hj : j ≠ 0) : O₀ d (dCell 3 c b j) () = if d = (c + j : Fin 8) then N else 0 := by
  unfold O₀ Owed
  rw [add_at]
  rw [sum_miss _ _ fun i => by
      split
      · split
        · rfl
        · exact tallyAt_zero_of_ne (barCell_ne _ _ _ _ _)
      · rfl,
    sum_miss _ _ fun p => by
      split
      · split
        · rfl
        · exact tallyAt_zero_of_ne fun h => absurd (dCell_eq_iff.1 h).1 (by decide)
      · rfl,
    sum_meet _ (dCell 3 c b j) (b, j) fun p hp => by
      split
      · split
        · rfl
        · exact tallyAt_zero_of_ne fun h => hp (Prod.ext (dCell_eq_iff.1 h).2.2.1 (dCell_eq_iff.1 h).2.2.2)
      · rfl]
  have h1 : 1 ≤ ix (b, j) := by
    have : j.val ≠ 0 := fun h' => hj (Fin.ext h')
    dsimp only [ix]; omega
  rw [if_pos h1, if_neg hj, Nat.zero_add]
  by_cases h : d = (c + j : Fin 8)
  · subst h
    rw [if_pos rfl, addSub c j, tallyAt_apply, if_pos ⟨rfl, rfl⟩]
  · rw [if_neg h, tallyAt_zero_of_ne fun h' => h (by rw [← (dCell_eq_iff.1 h').2.1]; exact (subAdd d j).symm)]

/-- The barrier's credit is there, -/
theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
/-- and that of the reduce-scatter's receive side, -/
theorem credit_rs (c : Dev nD) (b : Fin 4) (j : Fin 8) (hj : j ≠ 0) :
    tallyOn (dCell 1 c b j) (launchCredit (Pipeline.owing O₀) 0 (dCell 1 c b j)) = (tallyAt (dCell 1 c b j) () N : CellTallies nD τ sig Unit) := by
  unfold tallyAt; refine congrArg _ (Finsupp.ext fun u => ?_); cases u
  rw [Pipeline.launchCredit_owing, Finsupp.single_eq_same, Finset.sum_congr rfl fun d _ => owed_rs d c b j hj,
    Finset.sum_ite_eq' Finset.univ (c + j : Fin 8) fun _ => N, if_pos (Finset.mem_univ _)]
/-- and that of the all-gather's. -/
theorem credit_ag (c : Dev nD) (b : Fin 4) (j : Fin 8) (hj : j ≠ 0) :
    tallyOn (dCell 3 c b j) (launchCredit (Pipeline.owing O₀) 0 (dCell 3 c b j)) = (tallyAt (dCell 3 c b j) () N : CellTallies nD τ sig Unit) := by
  unfold tallyAt; refine congrArg _ (Finsupp.ext fun u => ?_); cases u
  rw [Pipeline.launchCredit_owing, Finsupp.single_eq_same, Finset.sum_congr rfl fun d _ => owed_ag d c b j hj,
    Finset.sum_ite_eq' Finset.univ (c + j : Fin 8) fun _ => N, if_pos (Finset.mem_univ _)]

/-- The credit that device `c` starts with: its barrier's, and that of the elements copied onto. -/
def creds (c : Dev nD) : sProp 𝕄 :=
  iprop(cred (tallyAt (barCell c) () 7)
    ∗ (bigSep Finset.univ fun p : P => if p.2 = 0 then iprop(emp) else cred (tallyAt (dCell 1 c p.1 p.2) () N))
    ∗ bigSep Finset.univ fun p : P => if p.2 = 0 then iprop(emp) else cred (tallyAt (dCell 3 c p.1 p.2) () N))

/-- All credits that a device waits on. -/
theorem creds_intro (c : Dev nD) : (Pipeline.launchCred O₀ c : sProp 𝕄) ⊢ creds (F := F) c := by
  unfold Pipeline.launchCred
  refine (bigSep_subset (t := Finset.univ.map ⟨locOf, locOf_inj⟩) (Finset.subset_univ _)).trans ?_
  rw [bigSep_map, bigSepCI, bigSep_univ_prod, bigSep4]
  unfold creds
  have h0 : ∀ {A B C D E A' B' D' : sProp 𝕄}, (A ⊢ A') → (C ⊢ B') → (E ⊢ D') → iprop(A ∗ B ∗ C ∗ D ∗ E) ⊢ iprop(A' ∗ B' ∗ D') := by
    intro A B C D E A' B' D' h1 h2 h3
    iintro ⟨HA, -, HC, -, HE⟩
    isplitl [HA]; · iapply h1; iexact HA
    isplitl [HC]; · iapply h2; iexact HC
    iapply h3; iexact HE
  refine h0 (Entails.of_eq (congrArg cred (credit_bar c))) (bigSep_mono fun p _ => ?_) (bigSep_mono fun p _ => ?_)
  · by_cases h : p.2 = 0
    · rw [if_pos h]; exact to_emp _
    · rw [if_neg h]; exact Entails.of_eq (congrArg cred (credit_rs c p.1 p.2 h))
  · by_cases h : p.2 = 0
    · rw [if_pos h]; exact to_emp _
    · rw [if_neg h]; exact Entails.of_eq (congrArg cred (credit_ag c p.1 p.2 h))

end Cert.Attn
-- ==== Proof.Ends.lean ====
/-
# The state at the two ends of the program

What the launch hands out makes up the first state; the last state gives the whole arrays back, and its positions close
every cell, so that every counter is zero.
-/
module

public import proofs.«01_k».proof.Proof.Init

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The state before the first statement. -/
abbrev st0 : St := ⟨1, false, 0, 0, 1, 0, 0, 1, 1, 1, 0, 1⟩
/-- The state after the last. -/
abbrev st1 : St := ⟨8, true, 4, 32, 33, 4, 4, 33, 33, 33, 32, 33⟩

/-- There are 32 places. -/
theorem ix_lt (p : P) : ix p < 32 := by have := p.1.isLt; have := p.2.isLt; dsimp only [ix]; omega
/-- A place of another device is not the first. -/
theorem one_le_ix {p : P} (h : p.2 ≠ 0) : 1 ≤ ix p := by
  have : p.2.val ≠ 0 := fun h' => h (Fin.ext h'); dsimp only [ix]; omega

/-- Product by product. -/
theorem bigMono {I : Type} [Fintype I] {Φ Ψ : I → sProp 𝕄} (h : ∀ i, Φ i ⊢ Ψ i) : bigSep Finset.univ Φ ⊢ bigSep Finset.univ Ψ :=
  bigSep_mono fun i _ => h i
/-- A product of nothing is nothing. -/
theorem emp_all {I : Type} [Fintype I] : (iprop(emp) : sProp 𝕄) ⊢ bigSep Finset.univ fun _ : I => iprop(emp) :=
  Entails.of_eq (bigSep_emp_const _).symm

/-! ## The first state -/

/-- The landing slots that a device gives with its signals. -/
abbrev rGive (c : Dev nD) : sProp 𝕄 := bigSep Finset.univ fun p : P => if p.2 = 0 then iprop(emp) else iprop(∃ f, rSl (F := F) c p.1 p.2 f)
/-- The all-gather slots that go to the other devices. -/
abbrev aGive (c : Dev nD) : sProp 𝕄 := bigSep Finset.univ fun p : P => if p.2 = 0 then iprop(emp) else iprop(∃ f, aSl (F := F) c p.1 p.2 f)
/-- The reduce-scatter slots that stay: a device's own. -/
abbrev rKeep (c : Dev nD) : sProp 𝕄 := bigSep Finset.univ fun p : P => if p.2 = 0 then iprop(∃ f, rSl (F := F) c p.1 p.2 f) else iprop(emp)
/-- The all-gather slots that stay. -/
abbrev aKeep (c : Dev nD) : sProp 𝕄 := bigSep Finset.univ fun p : P => if p.2 = 0 then iprop(∃ f, aSl (F := F) c p.1 p.2 f) else iprop(emp)
/-- Every element of an array at its first round. -/
abbrev pos (k : Fin 4) (c : Dev nD) : sProp 𝕄 := bigSep Finset.univ fun p : P => atPos ER (dCell k c p.1 p.2) 0 ∅ 0

/-- A conjunction over the slots, column by column. -/
theorem byColumn (Φ : P → sProp 𝕄) : bigSep Finset.univ Φ = bigSep Finset.univ fun j : Fin 8 => bigSep Finset.univ fun b : Fin 4 => Φ (b, j) := by
  rw [bigSep_univ_equiv (Equiv.prodComm (Fin 8) (Fin 4)) Φ, bigSep_univ_prod]; rfl

/-- The barrier's signals at the start. -/
theorem BS_init (c : Dev nD) :
    iprop((bigSep Finset.univ fun j : Fin 8 => dutyTok ER (barCell (c + j)) 0 (c : Fin 8)) ∗ rGive (F := F) c ∗ aGive (F := F) c) ⊢ BS (F := F) c 1 := by
  unfold rGive aGive
  rw [byColumn, byColumn, ← bigSep_sep', ← bigSep_sep']
  refine bigMono fun j => ?_
  unfold BSi
  by_cases h : j = 0
  · rw [if_neg (by rw [h]; decide)]; exact to_emp _
  · rw [if_pos (Nat.one_le_iff_ne_zero.2 fun h' => h (Fin.ext h'))]
    refine sep_mono_right ?_
    unfold barPay
    rw [addSubL c j, bigSep_sep']
    refine BI.sep_mono (bigMono fun b => Entails.of_eq ?_) (bigMono fun b => Entails.of_eq ?_) <;> exact if_neg h

/-- The reduce-scatter's send side at the start. -/
theorem RSS_init (c : Dev nD) :
    iprop(pos (F := F) 0 c ∗ (bigSep Finset.univ fun p : P => dutyTok ER (dCell 0 c p.1 p.2) 0 (0 : Fin 8))
      ∗ (bigSep Finset.univ fun p : P => dutyTok ER (dCell 1 p.2 p.1 (c - p.2)) 0 (0 : Fin 8))) ⊢ RSS (F := F) c 0 0 := by
  rw [← bigSep_sep', ← bigSep_sep']
  refine bigMono fun p => ?_
  unfold RSSi
  by_cases h : p.2 = c
  · rw [if_pos h]
    iintro ⟨H, -, -⟩
    iexact H
  · rw [if_neg h, if_neg (Nat.not_lt_zero _), if_neg (Nat.not_lt_zero _)]

/-- The all-gather's send side at the start. -/
theorem ASS_init (c : Dev nD) :
    iprop(pos (F := F) 2 c ∗ (bigSep Finset.univ fun p : P => dutyTok ER (dCell 2 c p.1 p.2) 0 (0 : Fin 8))
      ∗ (bigSep Finset.univ fun p : P => dutyTok ER (dCell 3 (c - p.2) p.1 p.2) 0 (0 : Fin 8))) ⊢ ASS (F := F) c 1 1 := by
  rw [← bigSep_sep', ← bigSep_sep']
  refine bigMono fun p => ?_
  unfold ASSi
  by_cases h : p.2 = 0
  · rw [if_pos h]
    iintro ⟨H, -, -⟩
    iexact H
  · rw [if_neg h, if_neg (Nat.not_lt.2 (one_le_ix h)), if_neg (Nat.not_lt.2 (one_le_ix h))]

/-- The reduce-scatter's receive side at the start. -/
theorem RR_init (c : Dev nD) :
    iprop(pos (F := F) 1 c ∗ rKeep (F := F) c
      ∗ (bigSep Finset.univ fun p : P => if p.2 = 0 then iprop(emp) else cred (tallyAt (dCell 1 c p.1 p.2) () N))) ⊢ RR m ρ c 1 := by
  rw [← bigSep_sep', ← bigSep_sep']
  refine bigMono fun p => ?_
  unfold RRi
  by_cases h : p.2 = 0
  · rw [if_pos h, if_pos h, if_pos h]
    iintro ⟨H, H', -⟩
    isplitl [H]; · iexact H
    iexact H'
  · rw [if_neg h, if_neg h, if_neg h, if_neg (Nat.not_lt.2 (one_le_ix h))]
    iintro ⟨H, -, H'⟩
    isplitl [H]; · iexact H
    iexact H'
/-- The all-gather's receive side at the start. -/
theorem AR_init (c : Dev nD) :
    iprop(pos (F := F) 3 c ∗ aKeep (F := F) c
      ∗ (bigSep Finset.univ fun p : P => if p.2 = 0 then iprop(emp) else cred (tallyAt (dCell 3 c p.1 p.2) () N))) ⊢ AR m ρ c 1 := by
  rw [← bigSep_sep', ← bigSep_sep']
  refine bigMono fun p => ?_
  unfold ARi
  by_cases h : p.2 = 0
  · rw [if_pos h, if_pos h, if_pos h]
    iintro ⟨H, H', -⟩
    isplitl [H]; · iexact H
    iexact H'
  · rw [if_neg h, if_neg h, if_neg h, if_neg (Nat.not_lt.2 (one_le_ix h))]
    iintro ⟨H, -, H'⟩
    isplitl [H]; · iexact H
    iexact H'

/-- No destination of the reduce-scatter is held before the barrier, -/
theorem RSD_init (c : Dev nD) (n : ℕ) : (iprop(emp) : sProp 𝕄) ⊢ RSD (F := F) c false n := by
  rw [show RSD (F := F) c false n = bigSep Finset.univ fun _ : P => iprop(emp) from
    bigSep_congr fun p _ => if_neg fun h => Bool.noConfusion h.2.1]
  exact emp_all
/-- nor one of the all-gather. -/
theorem ASD_init (c : Dev nD) (n : ℕ) : (iprop(emp) : sProp 𝕄) ⊢ ASD (F := F) c false n := by
  rw [show ASD (F := F) c false n = bigSep Finset.univ fun _ : P => iprop(emp) from
    bigSep_congr fun p _ => if_neg fun h => Bool.noConfusion h.2.1]
  exact emp_all

/-- A whole landing buffer, cut. -/
theorem cutR (c : Dev nD) (f : S4x8x32x1024.Idx → Elt F .bf16) :
    (((c : Thread nD τ).loc cc0_scratch1) ↦{fullShare} f : sProp 𝕄) ⊢ iprop(rKeep (F := F) c ∗ rGive (F := F) c) := by
  show (((c : Thread nD τ).loc cc0_scratch1) ↦[Finset.univ]{fullShare} f : sProp 𝕄) ⊢ _
  rw [all_slots, pointsTo_biUnion _ _ slots_disj, ← bigSep_cut]
  refine bigMono fun p => ?_
  unfold rSl
  iintro H
  iexists f
  iexact H
/-- The all-gather landing buffer cut in slots. -/
theorem cutA (c : Dev nD) (f : S4x8x32x1024.Idx → Elt F .bf16) :
    (((c : Thread nD τ).loc cc0_scratch3) ↦{fullShare} f : sProp 𝕄) ⊢ iprop(aKeep (F := F) c ∗ aGive (F := F) c) := by
  show (((c : Thread nD τ).loc cc0_scratch3) ↦[Finset.univ]{fullShare} f : sProp 𝕄) ⊢ _
  rw [all_slots, pointsTo_biUnion _ _ slots_disj, ← bigSep_cut]
  refine bigMono fun p => ?_
  unfold aSl
  iintro H
  iexists f
  iexact H
/-- The partial-output buffer at the start. -/
theorem PB_init (c : Dev nD) (f : S1024x1024.Idx → Elt F .bf16) :
    (((c : Thread nD τ).loc cc0_scratch0) ↦{fullShare} f : sProp 𝕄) ⊢ PB m ρ c 0 0 0 := by
  show (((c : Thread nD τ).loc cc0_scratch0) ↦[Finset.univ]{fullShare} f : sProp 𝕄) ⊢ _
  rw [all_batches, pointsTo_biUnion _ _ batches_disj]
  refine bigMono fun b => ?_
  unfold PBi
  rw [if_pos (Nat.zero_le _)]
  unfold pBa
  iintro H
  iexists f
  iexact H
/-- The all-gather source buffer at the start. -/
theorem GB_init (c : Dev nD) (f : S4x32x1024.Idx → Elt F .bf16) :
    (((c : Thread nD τ).loc cc0_scratch2) ↦{fullShare} f : sProp 𝕄) ⊢ GB m ρ c 0 1 1 := by
  show (((c : Thread nD τ).loc cc0_scratch2) ↦[Finset.univ]{fullShare} f : sProp 𝕄) ⊢ _
  rw [all_gb, pointsTo_biUnion _ _ gb_disj]
  refine bigMono fun b => ?_
  unfold GBi
  rw [if_pos (Nat.zero_le _)]
  unfold gSl
  iintro H
  iexists f
  iexact H
/-- The result at the start. -/
theorem OUT_init (c : Dev nD) (f : S1024x1024.Idx → Elt F .f32) :
    (((c : Thread nD τ).loc cc0_stg5_0) ↦{fullShare} f : sProp 𝕄) ⊢ OUT m ρ c 0 1 := by
  show (((c : Thread nD τ).loc cc0_stg5_0) ↦[Finset.univ]{fullShare} f : sProp 𝕄) ⊢ _
  rw [all_chunks, pointsTo_biUnion _ _ all_chunks_disj]
  refine bigMono fun p => ?_
  unfold OUTi
  rw [if_neg (by
    rintro (⟨_, h⟩ | ⟨h, h'⟩)
    · exact Nat.not_lt_zero _ h
    · have h0 : (p.2 - c : Fin 8) ≠ 0 := fun e => h (by rw [← subAdd p.2 c, e]; exact Fin.zero_add _)
      exact absurd h' (Nat.not_lt.2 (one_le_ix (p := (p.1, p.2 - c)) h0)))]
  unfold oCh
  iintro H
  iexists f
  iexact H

/-- The first state. -/
theorem ST_init (c : Dev nD) (W : Waits sig Unit) :
    iprop(owes (c : Thread nD τ) (O₀ c) W ∗ linear (F := F) c ∗ creds (F := F) c ∗ INS m ρ c
      ∗ Pipeline.scopedRest cfg0.spec c ∗ ∃ f, ((c : Thread nD τ).loc cc0_stg5_0) ↦{fullShare} f) ⊢ ST m ρ c st0 := by
  rw [scopedRest0_eq]
  unfold linear poss payToks creds ST
  rw [bigSepCI, bigSep_univ_prod, bigSep4]
  iintro ⟨HO, ⟨⟨Hp, H0, H1, H2, H3⟩, TB, T0, T1, T2, T3⟩, ⟨CB, CR, CA⟩, HI, ⟨⟨%f0, S0⟩, ⟨%f1, S1⟩, ⟨%f2, S2⟩, ⟨%f3, S3⟩⟩, ⟨%f5, S5⟩⟩
  ihave HR := (cutR (F := F) c f1) $$ S1
  icases HR with ⟨RK, RG⟩
  ihave HA := (cutA (F := F) c f3) $$ S3
  icases HA with ⟨AK, AG⟩
  isplitl [HO]; · unfold OW; iexists W; iexact HO
  isplitl [TB RG AG]
  · iapply (BS_init (F := F) c)
    isplitl [TB]; · iexact TB
    isplitl [RG]; · iexact RG
    iexact AG
  isplitl [Hp CB]
  · iapply (show iprop(atPos ER (barCell c) 0 ∅ 0 ∗ cred (tallyAt (barCell c) () 7)) ⊢ BC (F := F) c false from BI.Entails.refl _)
    isplitl [Hp]; · iexact Hp
    iexact CB
  isplitl [HI]; · iexact HI
  isplitl [S0]; · iapply (PB_init m ρ c f0); iexact S0
  isplitl [H0 T0 T1]
  · iapply (RSS_init (F := F) c)
    isplitl [H0]; · iexact H0
    isplitl [T0]; · iexact T0
    iexact T1
  isplitr; · iapply (RSD_init (F := F) c 0); iempintro
  isplitl [H1 RK CR]
  · iapply (RR_init m ρ c)
    isplitl [H1]; · iexact H1
    isplitl [RK]; · iexact RK
    iexact CR
  isplitl [S2]; · iapply (GB_init m ρ c f2); iexact S2
  isplitl [H2 T2 T3]
  · iapply (ASS_init (F := F) c)
    isplitl [H2]; · iexact H2
    isplitl [T2]; · iexact T2
    iexact T3
  isplitr; · iapply (ASD_init (F := F) c 1); iempintro
  isplitl [H3 AK CA]
  · iapply (AR_init m ρ c)
    isplitl [H3]; · iexact H3
    isplitl [AK]; · iexact AK
    iexact CA
  iapply (OUT_init m ρ c f5); iexact S5

/-! ## The last state -/

/-- At the end nothing is owed. -/
theorem Owed_none (c : Dev nD) : Owed c 8 32 33 = 0 := by
  unfold Owed
  rw [Finset.sum_eq_zero fun j _ => if_neg (by have := j.isLt; omega), Finset.sum_eq_zero fun p _ => if_neg (Nat.not_le.2 (ix_lt p)),
    Finset.sum_eq_zero fun p _ => if_neg (by have := ix_lt p; omega), add_zero, add_zero]

/-- Where a cell of the arrays stands at the end: past its round if it is used. -/
abbrev posF (k : Fin 4) (c : Dev nD) : sProp 𝕄 := bigSep Finset.univ fun p : P => atPos ER (dCell k c p.1 p.2) (if used c k p.2 then 1 else 0) ∅ 0

/-- Which elements the reduce-scatter's send side uses, -/
theorem used_zero (c : Dev nD) (j : Fin 8) : used c 0 j ↔ j ≠ c := by unfold used; rw [if_pos rfl]
/-- and which the other arrays. -/
theorem used_pos (c : Dev nD) (k : Fin 4) (j : Fin 8) (hk : k ≠ 0) : used c k j ↔ j ≠ 0 := by unfold used; rw [if_neg hk]

/-- The reduce-scatter's send side at the end. -/
theorem RSS_fin (c : Dev nD) : RSS (F := F) c 32 32 ⊢ posF (F := F) 0 c := by
  refine bigMono fun p => ?_
  unfold RSSi
  simp only [used_zero]
  by_cases h : p.2 = c
  · rw [if_pos h, if_neg (not_not.2 h)]
  · rw [if_neg h, if_pos (ix_lt p), if_pos h]
/-- The all-gather's send side at the end. -/
theorem ASS_fin (c : Dev nD) : ASS (F := F) c 33 33 ⊢ posF (F := F) 2 c := by
  refine bigMono fun p => ?_
  unfold ASSi
  simp only [used_pos c 2 p.2 (by decide)]
  by_cases h : p.2 = 0
  · rw [if_pos h, if_neg (not_not.2 h)]
  · rw [if_neg h, if_pos (Nat.lt_succ_of_lt (ix_lt p)), if_pos h]
/-- The reduce-scatter's receive side at the end: its slots come back. -/
theorem RR_fin (c : Dev nD) : RR m ρ c 33 ⊢ iprop(posF (F := F) 1 c ∗ bigSep Finset.univ fun p : P => iprop(∃ f, rSl (F := F) c p.1 p.2 f)) := by
  rw [← bigSep_sep']
  refine bigMono fun p => ?_
  unfold RRi
  simp only [used_pos c 1 p.2 (by decide)]
  by_cases h : p.2 = 0
  · rw [if_pos h, if_neg (not_not.2 h)]
  · rw [if_neg h, if_pos (Nat.lt_succ_of_lt (ix_lt p)), if_pos h]
    iintro ⟨H, H'⟩
    isplitl [H]; · iexact H
    iexists _; iexact H'
/-- The all-gather's receive side at the end: its slots come back. -/
theorem AR_fin (c : Dev nD) : AR m ρ c 33 ⊢ iprop(posF (F := F) 3 c ∗ bigSep Finset.univ fun p : P => iprop(∃ f, aSl (F := F) c p.1 p.2 f)) := by
  rw [← bigSep_sep']
  refine bigMono fun p => ?_
  unfold ARi
  simp only [used_pos c 3 p.2 (by decide)]
  by_cases h : p.2 = 0
  · rw [if_pos h, if_neg (not_not.2 h)]
  · rw [if_neg h, if_pos (Nat.lt_succ_of_lt (ix_lt p)), if_pos h]
    iintro ⟨H, H'⟩
    isplitl [H]; · iexact H
    iexists _; iexact H'

/-- The reduce-scatter landing buffer joined from its slots. -/
theorem joinR (c : Dev nD) (f : S4x8x32x1024.Idx → Elt F .bf16) :
    (bigSep Finset.univ fun p : P => iprop(∃ f, rSl (F := F) c p.1 p.2 f)) ⊢ iprop(∃ f, ((c : Thread nD τ).loc cc0_scratch1) ↦{fullShare} f) := by
  haveI : Nonempty (S4x8x32x1024.Idx → Elt F .bf16) := ⟨f⟩
  iintro H
  ihave H' := (BI.bigSep_exists_pi Finset.univ (fun (p : P) (f : S4x8x32x1024.Idx → Elt F .bf16) => rSl (F := F) c p.1 p.2 f)) $$ H
  icases H' with ⟨%fs, H⟩
  unfold rSl
  ihave H' := (pointsTo_biUnion_join (ℓ := (c : Thread nD τ).loc cc0_scratch1) (q := fullShare) Finset.univ (fun p : P => (slotR p.1 p.2).set) fs f slots_disj) $$ H
  icases H' with ⟨%g, -, H⟩
  rw [← all_slots]
  iexists g; iexact H
/-- The all-gather landing buffer joined from its slots. -/
theorem joinA (c : Dev nD) (f : S4x8x32x1024.Idx → Elt F .bf16) :
    (bigSep Finset.univ fun p : P => iprop(∃ f, aSl (F := F) c p.1 p.2 f)) ⊢ iprop(∃ f, ((c : Thread nD τ).loc cc0_scratch3) ↦{fullShare} f) := by
  haveI : Nonempty (S4x8x32x1024.Idx → Elt F .bf16) := ⟨f⟩
  iintro H
  ihave H' := (BI.bigSep_exists_pi Finset.univ (fun (p : P) (f : S4x8x32x1024.Idx → Elt F .bf16) => aSl (F := F) c p.1 p.2 f)) $$ H
  icases H' with ⟨%fs, H⟩
  unfold aSl
  ihave H' := (pointsTo_biUnion_join (ℓ := (c : Thread nD τ).loc cc0_scratch3) (q := fullShare) Finset.univ (fun p : P => (slotR p.1 p.2).set) fs f slots_disj) $$ H
  icases H' with ⟨%g, -, H⟩
  rw [← all_slots]
  iexists g; iexact H

/-- The partial-output buffer is whole at the end. -/
theorem PB_fin (c : Dev nD) : PB m ρ c 4 32 32 ⊢ iprop(∃ f, ((c : Thread nD τ).loc cc0_scratch0) ↦{fullShare} f) := by
  have h : PB m ρ c 4 32 32 = (((c : Thread nD τ).loc cc0_scratch0) ↦{fullShare} (pF m ρ c) : sProp 𝕄) := by
    show _ = (((c : Thread nD τ).loc cc0_scratch0) ↦[Finset.univ]{fullShare} (pF m ρ c) : sProp 𝕄)
    rw [all_chunks, pointsTo_biUnion _ _ all_chunks_disj, bigSep_univ_prod]
    refine bigSep_congr fun b _ => ?_
    unfold PBi
    rw [if_neg (Nat.not_le.2 b.isLt)]
    refine bigSep_congr fun d _ => ?_
    unfold PBd
    rw [if_pos (Or.inr (Or.inl (ix_lt (b, d))))]
    rfl
  rw [h]
  iintro H
  iexists _; iexact H
/-- The all-gather source buffer is whole at the end. -/
theorem GB_fin (c : Dev nD) : GB m ρ c 4 33 33 ⊢ iprop(∃ f, ((c : Thread nD τ).loc cc0_scratch2) ↦{fullShare} f) := by
  have h : GB m ρ c 4 33 33 = (((c : Thread nD τ).loc cc0_scratch2) ↦{fullShare} (gF m ρ c) : sProp 𝕄) := by
    show _ = (((c : Thread nD τ).loc cc0_scratch2) ↦[Finset.univ]{fullShare} (gF m ρ c) : sProp 𝕄)
    rw [all_gb, pointsTo_biUnion _ _ gb_disj]
    refine bigSep_congr fun b _ => ?_
    unfold GBi
    rw [if_neg (Nat.not_le.2 b.isLt)]
    refine Eq.symm ((ShareLeaves.pointsTo_leaves (ℓ := (c : Thread nD τ).loc cc0_scratch2) (gbR b).set (gF m ρ c) 3 fullShare).trans
      (bigSep_congr fun j _ => Eq.symm ?_))
    exact if_pos (Or.inr (Or.inl (Nat.lt_succ_of_lt (ix_lt (b, j)))))
  rw [h]
  iintro H
  iexists _; iexact H
/-- The result at the end. -/
theorem OUT_fin (c : Dev nD) : OUT m ρ c 4 33 = (((c : Thread nD τ).loc cc0_stg5_0) ↦{fullShare} (oF m ρ c) : sProp 𝕄) := by
  show _ = (((c : Thread nD τ).loc cc0_stg5_0) ↦[Finset.univ]{fullShare} (oF m ρ c) : sProp 𝕄)
  rw [all_chunks, pointsTo_biUnion _ _ all_chunks_disj]
  refine bigSep_congr fun p _ => ?_
  unfold OUTi
  rw [if_pos (by
    by_cases h : p.2 = c
    · exact Or.inl ⟨h, p.1.isLt⟩
    · exact Or.inr ⟨h, Nat.lt_succ_of_lt (ix_lt (p.1, p.2 - c))⟩)]
  rfl

/-- A cell past its last round closes, its counter at zero. -/
theorem close_dma (K : Dev nD × CI → ℕ) (c : Dev nD) (k : Fin 4) (p : P) :
    iprop(Recs m ρ K ∗ atPos ER (dCell k c p.1 p.2) (if used c k p.2 then 1 else 0) ∅ 0) ⊢ |={Set.univ}=> (semVal (dCell k c p.1 p.2) 0 : sProp 𝕄) := by
  iintro ⟨#HR, H⟩
  imod (Rounds.cell_close ER (sched m ρ) (Set.mem_univ (K (c, some (k, p)))) (fun h => h) (g := dCell k c p.1 p.2) (R := if used c k p.2 then 1 else 0) (fun r hr => by
      by_cases h : used c k p.2
      · rw [if_pos h] at hr; exact duties_later m ρ _ r hr
      · exact duties_idle m ρ c k p.1 p.2 h r)) $$ [H] with Hz
  · isplitr; · iapply (Recs_dma m ρ K k c p.1 p.2); iexact HR
    iexact H
  imodintro
  iexact Hz
/-- The barrier's counter is back at the end. -/
theorem close_bar (K : Dev nD × CI → ℕ) (c : Dev nD) :
    iprop(Recs m ρ K ∗ atPos ER (barCell c) 1 ∅ 0) ⊢ |={Set.univ}=> (semVal (barCell c) 0 : sProp 𝕄) := by
  iintro ⟨#HR, H⟩
  imod (Rounds.cell_close ER (sched m ρ) (Set.mem_univ (K (c, none))) (fun h => h) (g := barCell c) (R := 1) (duties_later m ρ _)) $$ [H] with Hz
  · isplitr; · iapply (Recs_bar m ρ K c); iexact HR
    iexact H
  imodintro
  iexact Hz
/-- So is every element of the arrays. -/
theorem close_all (K : Dev nD × CI → ℕ) (c : Dev nD) :
    iprop(Recs m ρ K ∗ BC (F := F) c true ∗ posF (F := F) 0 c ∗ posF (F := F) 1 c ∗ posF (F := F) 2 c ∗ posF (F := F) 3 c)
      ⊢ |={Set.univ}=> (bigSep Finset.univ fun q : CI => semVal (cellAt (c, q)) 0 : sProp 𝕄) := by
  have h : ∀ k : Fin 4, iprop(Recs m ρ K ∗ posF (F := F) k c) ⊢ |={Set.univ}=> (bigSep Finset.univ fun p : P => semVal (dCell k c p.1 p.2) 0 : sProp 𝕄) :=
    fun k => (bigSep_using (Ψ := fun p : P => iprop(|={Set.univ}=> semVal (dCell k c p.1 p.2) 0)) fun p _ => close_dma m ρ K c k p).trans (bigSep_fupd _ _)
  rw [bigSepCI, bigSep_univ_prod, bigSep4]
  iintro ⟨#HR, HB, H0, H1, H2, H3⟩
  imod (close_bar m ρ K c) $$ [HB] with HB
  · isplitr; · iexact HR
    iapply (show BC (F := F) c true ⊢ atPos ER (barCell c) 1 ∅ 0 from BI.Entails.refl _); iexact HB
  imod (h 0) $$ [H0] with H0
  · isplitr; · iexact HR
    iexact H0
  imod (h 1) $$ [H1] with H1
  · isplitr; · iexact HR
    iexact H1
  imod (h 2) $$ [H2] with H2
  · isplitr; · iexact HR
    iexact H2
  imod (h 3) $$ [H3] with H3
  · isplitr; · iexact HR
    iexact H3
  imodintro
  isplitl [HB]; · iexact HB
  isplitl [H0]; · iexact H0
  isplitl [H1]; · iexact H1
  isplitl [H2]; · iexact H2
  iexact H3

/-- The last state gives everything back. -/
theorem ST_fin (K : Dev nD × CI → ℕ) (c : Dev nD) :
    iprop(Recs m ρ K ∗ ST m ρ c st1) ⊢ |={Set.univ}=> iprop((∃ W, owes (c : Thread nD τ) 0 W) ∗ INS m ρ c ∗ Pipeline.scopedRest cfg0.spec c
      ∗ (((c : Thread nD τ).loc cc0_stg5_0) ↦{fullShare} (oF m ρ c)) ∗ bigSep Finset.univ fun q : CI => semVal (cellAt (c, q)) 0) := by
  rw [scopedRest0_eq, ← OUT_fin]
  unfold ST
  iintro ⟨#HR, HO, -, HB, HI, HP, H0, -, H1, HG, H2, -, H3, HOUT⟩
  ihave H1 := (RR_fin m ρ c) $$ H1
  icases H1 with ⟨H1, S1⟩
  ihave H3 := (AR_fin m ρ c) $$ H3
  icases H3 with ⟨H3, S3⟩
  imod (close_all m ρ K c) $$ [HB H0 H1 H2 H3] with HZ
  · isplitr; · iexact HR
    isplitl [HB]; · iexact HB
    isplitl [H0]; · iapply (RSS_fin (F := F) c); iexact H0
    isplitl [H1]; · iexact H1
    isplitl [H2]; · iapply (ASS_fin (F := F) c); iexact H2
    iexact H3
  imodintro
  isplitl [HO]; · unfold OW; rw [Owed_none]; iexact HO
  isplitl [HI]; · iexact HI
  isplitl [HP S1 HG S3]
  · isplitl [HP]; · iapply (PB_fin m ρ c); iexact HP
    isplitl [S1]; · iapply (joinR (F := F) c (rF m ρ c)); iexact S1
    isplitl [HG]; · iapply (GB_fin m ρ c); iexact HG
    iapply (joinA (F := F) c (rF m ρ c)); iexact S3
  isplitl [HOUT]; · iexact HOUT
  iexact HZ

end Cert.Attn
-- ==== Proof.Ops.lean ====
/-
# The kernel's operations

Each operation of the kernel, at any batch and any device, as a step from one state to the next.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

/-! ## Signals and the barrier -/

/-- A signal to device `c + j`. -/
theorem Tri.signalAt (j : Fin 8) (hj : j ≠ 0) {s : Sem sig} (hs : s = barS) {n : ℕ} {hn : n < nD} (hd : n = (c + j).val)
    {k : PUnit → TP F α}
    (h : Tri m ρ K c ⟨j.val + 1, w, nP, nR, nW, nO, nG, nA, nV, nD', nF, nE⟩ (k ⟨⟩) R st') :
    Tri m ρ K c ⟨j.val, w, nP, nR, nW, nO, nG, nA, nV, nD', nF, nE⟩ (semSignalWord (⟨n, hn⟩ : Dev nD) s 1#32 >>= k) R st' := by
  subst hs
  have hN : (⟨n, hn⟩ : Dev nD) = c + j := Fin.ext hd
  rw [hN]
  have hne : c ≠ c + j := fun h => hj (by have := add_sub_left c j; rw [← h] at this; rw [← this]; exact (by decide : ∀ c : Fin 8, c - c = 0) c)
  refine Tri.mk (v := ⟨⟩) (A := iprop((∃ W, owes (c : Thread nD τ) (Owed c j.val nR nA) W) ∗ dutyTok ER (barCell (c + j)) 0 (c : Fin 8) ∗ barPay (F := F) (c + j) c))
    (B := iprop(∃ W, owes (c : Thread nD τ) (Owed c (j.val + 1) nR nA) W)) ?_ (fun Q => ?_) h
  · unfold ST OW
    iintro ⟨HO, HB, HR⟩
    ihave HB' := (BS_take (F := F) c j) $$ HB
    icases HB' with ⟨⟨Ht, Hp⟩, HB⟩
    isplitl [HO Ht Hp]
    · isplitl [HO]; · iexact HO
      isplitl [Ht]; · iexact Ht
      iexact Hp
    iintro HO
    isplitl [HO]; · iexact HO
    isplitl [HB]; · iexact HB
    iexact HR
  · iintro ⟨#HR, ⟨⟨%W, HO⟩, Ht, Hp⟩, Hk⟩
    ihave #HI := (Recs_bar m ρ K (c + j)) $$ HR
    ihave #Hr := (Recs_rbar m ρ K (c + j)) $$ HR
    iapply (Rounds.wp_signal 𝒱₀ ER (sched m ρ) (c : Thread nD τ) none (dst := (Dev.tc (c + j) : Thread nD τ)) (κ := K (c + j, none)) (d := (c : Fin 8))
      (by rw [duties_bar]; exact Finset.mem_erase.mpr ⟨hne, Finset.mem_univ _⟩)
      ((amount_bar m ρ (c + j) c).trans (by decide)) () (Owed c (j.val + 1) nR nA) (Owed_bar c j hj nR nA)) $$ [HO Ht Hp]
    · isplitr; · iexact HI
      isplitl [HO]; · iexact HO
      isplitl [Ht]; · iexact Ht
      isplitl [Hp]; · rw [payload_bar]; iexact Hp
      iexact Hr
    iintro HO
    iapply Hk
    iexists W
    iexact HO

/-- Absolute and relative numbers of devices. -/
def relEquiv (c : Fin 8) : Fin 8 ≃ Fin 8 := ⟨fun p => c - p, fun p => c - p, rel_rel c, rel_rel c⟩
/-- What the barrier wait hands over: the slots that device `c` copies into. -/
theorem bar_split (c : Dev nD) :
    (bigSep (Finset.univ.erase c) fun p => barPay (F := F) c p) = iprop(RSD (F := F) c true 0 ∗ ASD (F := F) c true 1) := by
  have e0 : ∀ p ∈ (Finset.univ.erase c : Finset (Fin 8)), barPay (F := F) c p
      = iprop((bigSep Finset.univ fun b : Fin 4 => iprop(∃ f, rSl (F := F) p b (c - p) f)) ∗ bigSep Finset.univ fun b : Fin 4 => iprop(∃ f, aSl (F := F) p b (c - p) f)) :=
    fun p _ => bigSep_sep' _ _ _
  have e1 : ∀ Φ : Fin 8 → Fin 4 → sProp 𝕄, (bigSep (Finset.univ.erase c) fun p => bigSep Finset.univ fun b => Φ p b)
      = bigSep Finset.univ fun p => bigSep Finset.univ fun b => if p ≠ c then Φ p b else iprop(emp) := by
    intro Φ
    rw [← Finset.filter_ne', bigSep_filter]
    refine bigSep_congr fun p _ => ?_
    by_cases h : p ≠ c
    · rw [if_pos h]; exact bigSep_congr fun b _ => (if_pos h).symm
    · rw [if_neg h]
      refine Eq.trans ?_ (bigSep_congr fun b _ => (if_neg h).symm)
      exact (bigSep_emp_const _).symm
  have hR : RSD (F := F) c true 0 = bigSep Finset.univ fun p : Fin 8 => bigSep Finset.univ fun b : Fin 4 =>
      if p ≠ c then iprop(∃ f, rSl (F := F) p b (c - p) f) else iprop(emp) := by
    show bigSep Finset.univ (RSDi (F := F) c true 0) = _
    rw [bigSep_univ_prod, bigSep_univ_comm]
    refine bigSep_congr fun p _ => bigSep_congr fun b _ => ?_
    unfold RSDi
    simp only [Nat.zero_le, _root_.and_true]
  have hA : ASD (F := F) c true 1 = bigSep Finset.univ fun p : Fin 8 => bigSep Finset.univ fun b : Fin 4 =>
      if p ≠ c then iprop(∃ f, aSl (F := F) p b (c - p) f) else iprop(emp) := by
    show bigSep Finset.univ (ASDi (F := F) c true 1) = _
    rw [bigSep_univ_prod, bigSep_univ_comm, bigSep_univ_equiv (relEquiv c)]
    refine bigSep_congr fun p _ => bigSep_congr fun b _ => ?_
    show (if (c - p : Fin 8) ≠ 0 ∧ true = true ∧ 1 ≤ ix (b, (c - p : Fin 8)) then iprop(∃ f, aSl (F := F) (c - (c - p)) b (c - p) f) else iprop(emp)) = _
    rw [rel_rel]
    by_cases h : p = c
    · subst h
      rw [if_neg (fun h => h.1 ((by decide : ∀ c : Fin 8, c - c = 0) p)), if_neg (fun h => h rfl)]
    · have h0 : (c - p : Fin 8) ≠ 0 := fun h' => h ((by decide : ∀ c p : Fin 8, c - p = 0 → p = c) c p h')
      have h1 : (c - p : Fin 8).val ≠ 0 := fun h' => h0 (Fin.ext h')
      rw [if_pos h, if_pos ⟨h0, rfl, by dsimp only [ix]; omega⟩]
  rw [bigSep_congr e0, bigSep_sep', e1, e1, hR, hA]

/-- The barrier wait. -/
theorem Tri.bar {s : Sem sig} {k : PUnit → TP F α}
    (h : Tri m ρ K c ⟨8, true, nP, 0, nW, nO, nG, 1, nV, nD', nF, nE⟩ (k ⟨⟩) R st')
    (hs : s = barS := by rfl) :
    Tri m ρ K c ⟨8, false, nP, 0, nW, nO, nG, 1, nV, nD', nF, nE⟩ (semWaitWord s 7#32 >>= k) R st' := by
  subst hs
  refine Tri.mk (v := ⟨⟩) (A := iprop((∃ W, owes (c : Thread nD τ) (Owed c 8 0 1) W) ∗ atPos ER (barCell c) 0 ∅ 0 ∗ cred (tallyAt (barCell c) () 7)))
    (B := iprop((∃ W, owes (c : Thread nD τ) (Owed c 8 0 1) W) ∗ atPos ER (barCell c) 1 ∅ 0 ∗ RSD (F := F) c true 0 ∗ ASD (F := F) c true 1)) ?_ (fun Q => ?_) h
  · unfold ST OW
    iintro ⟨HO, HB, HC, HI, HP, HS, -, HRR, HG, HAS, -, HAR⟩
    isplitl [HO HC]
    · isplitl [HO]; · iexact HO
      have h0 : BC (F := F) c false = iprop(atPos ER (barCell c) 0 ∅ 0 ∗ cred (tallyAt (barCell c) () 7)) := if_neg (by decide)
      iapply (Entails.of_eq h0) $$ HC
    iintro ⟨HO, HC, HR, HA⟩
    have h1 : BC (F := F) c true = atPos ER (barCell c) 1 ∅ 0 := if_pos rfl
    rw [h1]
    isplitl [HO]; · iexact HO
    isplitl [HB]; · iexact HB
    isplitl [HC]; · iexact HC
    isplitl [HI]; · iexact HI
    isplitl [HP]; · iexact HP
    isplitl [HS]; · iexact HS
    isplitl [HR]; · iexact HR
    isplitl [HRR]; · iexact HRR
    isplitl [HG]; · iexact HG
    isplitl [HAS]; · iexact HAS
    isplitl [HA]; · iexact HA
    iexact HAR
  · iintro ⟨#HR, ⟨⟨%W, HO⟩, Ha, Hc⟩, Hk⟩
    ihave #HI := (Recs_bar m ρ K c) $$ HR
    ihave #HL := (Recs_lev m ρ K) $$ HR
    iapply (Rounds.wp_wait_rest_token 𝒱₀ ER (sched m ρ) (c : Thread nD τ) none (κ := K (c, none))
        (wpE_semWait_eq 𝒱₀ (c : Thread nD τ) none Set.univ) (Set.mem_univ _) () (O := Owed c 8 0 1) (W := W) (R := 0) (m := 0) (T := ∅)
        (by rw [expect_bar]; rfl)) $$ [Hc HO Ha]
    · isplitr; · iexact HI
      isplitl [Hc]; · iexact Hc
      isplitl [HO]; · iexact HO
      isplitr
      · iapply (mayWait (F := F) c (.reg barS) 8 0 1 1 (le_of_eq (lv_bar c)) (fun j hj => absurd j.isLt (by omega)) (fun p _ => by omega) (fun p _ => by omega))
        iexact HL
      iexact Ha
    iintro ⟨HO, Ha, -, Hp⟩
    ihave Hp' := (Entails.of_eq ((rest_bar m ρ c).trans (bar_split (F := F) c))) $$ Hp
    icases Hp' with ⟨H1, H2⟩
    iapply Hk
    isplitl [HO]; · iexists _; iexact HO
    isplitl [Ha]; · iexact Ha
    isplitl [H1]; · iexact H1
    iexact H2

/-! ## Copies -/

/-- A reduce-scatter copy, if device `c` is not the destination. -/
theorem Tri.rsSendAt (b : Fin 4) (d : Fin 8) {C : Prop} [Decidable C] (hC : C ↔ d ≠ c) (hP : b.val < nP) (hF : nF ≤ ix (b, d))
    {o1 : Fin 2 → ℕ} (ho1 : o1 = ![b.val, d.val]) {i1 : ∀ a, o1 a + S1x1.size a ≤ S4x8.size a}
    {o2 : Fin 2 → ℕ} (ho2 : o2 = ![b.val, (c - d : Fin 8).val]) {i2 : C → ∀ a, o2 a + S1x1.size a ≤ S4x8.size a}
    {o3 : Fin 4 → ℕ} (ho3 : o3 = ![b.val, (c - d : Fin 8).val, 0, 0]) {i3 : C → ∀ a, o3 a + S1x1x32x1024.size a ≤ S4x8x32x1024.size a}
    {o4 : Fin 2 → ℕ} (ho4 : o4 = ![256 * b.val + 32 * d.val, 0]) {i4 : ∀ a, o4 a + S32x1024.size a ≤ S1024x1024.size a}
    {n : ℕ} {hn : C → n < nD} (hd : n = d.val)
    {h1 : C → (pM.slice (Rect.unit (s := S1024x1024) o4 S32x1024.size i4) (fun _ => rfl)).view.WordExact}
    {h2 : ∀ hc, ((rM.slice (Rect.unit (s := S4x8x32x1024) o3 S1x1x32x1024.size (i3 hc)) (fun _ => rfl)).squeeze S32x1024 squeezes_S1x1x32x1024_S32x1024).view.WordExact}
    {k : TP F α}
    (h : Tri m ρ K c ⟨nB, true, nP, ix (b, d) + 1, nW, nO, nG, nA, nV, nD', nF, nE⟩ k R st') :
    Tri m ρ K c ⟨nB, true, nP, ix (b, d), nW, nO, nG, nA, nV, nD', nF, nE⟩
      (dite C (fun hc => Prog.lift (.enqueueDma (pM.slice (Rect.unit (s := S1024x1024) o4 S32x1024.size i4) (fun _ => rfl))
          (.remote (Dev.tc (⟨n, hn hc⟩ : Dev nD) : Thread nD τ)
            ((rM.slice (Rect.unit (s := S4x8x32x1024) o3 S1x1x32x1024.size (i3 hc)) (fun _ => rfl)).squeeze S32x1024 squeezes_S1x1x32x1024_S32x1024)
            (.dma ((cc0_scratch4.slice (Rect.unit (s := S4x8) o1 S1x1.size i1)).squeeze S_ squeezes_S1x1_S_).sem))
          (.dma ((cc0_scratch5.slice (Rect.unit (s := S4x8) o2 S1x1.size (i2 hc))).squeeze S_ squeezes_S1x1_S_).sem) (h1 hc) (h2 hc) ⟨⟨rfl, Or.inl rfl⟩, trivial⟩) >>= fun _ => k)
        (fun _ => k)) R st' := by
  subst ho1 ho2 ho3 ho4
  by_cases hc : C
  · rw [dif_pos hc]
    have hne : d ≠ c := hC.1 hc
    refine Tri.mk (v := ⟨⟩) (A := iprop((∃ W, owes (c : Thread nD τ) (Owed c nB (ix (b, d)) nA) W) ∗ pCh c b d (pF m ρ c) ∗ (∃ f, rSl (F := F) d b (c - d) f)
        ∗ dutyTok ER (dCell 0 c b d) 0 (0 : Fin 8) ∗ dutyTok ER (dCell 1 d b (c - d)) 0 (0 : Fin 8)))
      (B := iprop((∃ W, owes (c : Thread nD τ) (Owed c nB (ix (b, d) + 1) nA) W) ∗ cred (tallyAt (dCell 0 c b d) () N))) ?_ (fun Q => ?_) h
    · unfold ST OW
      iintro ⟨HO, HB, HC, HI, HP, HS, HD, HRR⟩
      ihave HP' := (PB_send m ρ c b d nP nF hP hne hF) $$ HP
      ihave HS' := (RSS_send (F := F) c b d nF hne hF) $$ HS
      ihave HD' := (RSD_send (F := F) c b d hne) $$ HD
      icases HP' with ⟨Hp, HP⟩
      icases HS' with ⟨⟨Ht1, Ht2⟩, HS⟩
      icases HD' with ⟨Hd, HD⟩
      isplitl [HO Hp Hd Ht1 Ht2]
      · isplitl [HO]; · iexact HO
        isplitl [Hp]; · iexact Hp
        isplitl [Hd]; · iexact Hd
        isplitl [Ht1]; · iexact Ht1
        iexact Ht2
      iintro ⟨HO, Hc⟩
      isplitl [HO]; · iexact HO
      isplitl [HB]; · iexact HB
      isplitl [HC]; · iexact HC
      isplitl [HI]; · iexact HI
      isplitl [HP]; · iexact HP
      isplitl [HS Hc]; · iapply HS; iexact Hc
      isplitl [HD]; · iexact HD
      iexact HRR
    · have hu : used c 0 d := by unfold used; rw [if_pos rfl]; exact hne
      have hu' : used d 1 (c - d) := by
        unfold used; rw [if_neg (by decide)]; exact fun h => hne ((by decide : ∀ c d : Fin 8, c - d = 0 → d = c) c d h)
      unfold pCh rSl
      iintro ⟨#HR, ⟨⟨%W, HO⟩, Hp, ⟨%fd, Hd⟩, Ht1, Ht2⟩, Hk⟩
      iapply (Tri.copy (m := m) (ρ := ρ) (K := K) (c := c) 0 1 b d (c - d) d hu hu' (n := ⟨n, hn hc⟩) rfl rfl (Fin.ext hd) (src := chunkM b d) (dst := slotM rM b (c - d)) rfl
        (Owed_rs c b d hne nB nA) (qs := fullShare) (fs := pF m ρ c) (fd := fd)
        (by rw [set_chunkM]; exact Entails.refl _) (by rw [pointsTo_congr (rs_lands m ρ c d b fd), set_slotR]; exact Entails.refl _) W Q) $$ [HO Hp Hd Ht1 Ht2 Hk]
      isplitr; · iexact HR
      isplitl [HO Hp Hd Ht1 Ht2]
      · isplitl [HO]; · iexact HO
        isplitl [Hp]; · rw [set_chunkM]; iexact Hp
        isplitl [Hd]; · rw [set_slotR]; iexact Hd
        isplitl [Ht1]; · iexact Ht1
        iexact Ht2
      iintro ⟨HO, Hc⟩
      iapply Hk
      isplitl [HO]; · iexists W; iexact HO
      iexact Hc
  · rw [dif_neg hc]
    have he : d = c := by by_contra hne; exact hc (hC.2 hne)
    subst he
    have e : ST m ρ d ⟨nB, true, nP, ix (b, d), nW, nO, nG, nA, nV, nD', nF, nE⟩ = ST m ρ d ⟨nB, true, nP, ix (b, d) + 1, nW, nO, nG, nA, nV, nD', nF, nE⟩ := by
      unfold ST OW
      rw [Owed_rs_self, PB_self, RSS_self, RSD_self]
    intro Q
    rw [e]
    exact h Q

/-- An all-gather copy. -/
theorem Tri.agSendAt (b : Fin 4) (j : Fin 8) (hj : j ≠ 0) (hG : b.val < nG) (hE : nE ≤ ix (b, j)) {sS sR : DmaSem sig}
    (hsS : sS = semOf 2 b j) (hsR : sR = semOf 3 b j) {n : ℕ} {hn : n < nD} (hd : n = (c - j : Fin 8).val)
    {o3 : Fin 4 → ℕ} (ho3 : o3 = ![b.val, j.val, 0, 0]) {i3 : ∀ a, o3 a + S1x1x32x1024.size a ≤ S4x8x32x1024.size a}
    {o4 : Fin 3 → ℕ} (ho4 : o4 = ![b.val, 0, 0]) {i4 : ∀ a, o4 a + S1x32x1024.size a ≤ S4x32x1024.size a}
    {h1 : ((gM.slice (Rect.unit (s := S4x32x1024) o4 S1x32x1024.size i4) (fun _ => rfl)).squeeze S32x1024 squeezes_S1x32x1024_S32x1024).view.WordExact}
    {h2 : ((aM.slice (Rect.unit (s := S4x8x32x1024) o3 S1x1x32x1024.size i3) (fun _ => rfl)).squeeze S32x1024 squeezes_S1x1x32x1024_S32x1024).view.WordExact}
    {k : PUnit → TP F α}
    (h : Tri m ρ K c ⟨nB, true, nP, nR, nW, nO, nG, nx b j, nV, nD', nF, nE⟩ (k ⟨⟩) R st') :
    Tri m ρ K c ⟨nB, true, nP, nR, nW, nO, nG, ix (b, j), nV, nD', nF, nE⟩
      (Prog.lift (.enqueueDma ((gM.slice (Rect.unit (s := S4x32x1024) o4 S1x32x1024.size i4) (fun _ => rfl)).squeeze S32x1024 squeezes_S1x32x1024_S32x1024)
          (.remote (Dev.tc (⟨n, hn⟩ : Dev nD) : Thread nD τ)
            ((aM.slice (Rect.unit (s := S4x8x32x1024) o3 S1x1x32x1024.size i3) (fun _ => rfl)).squeeze S32x1024 squeezes_S1x1x32x1024_S32x1024) (.dma sS))
          (.dma sR) h1 h2 ⟨⟨rfl, Or.inl rfl⟩, trivial⟩) >>= k) R st' := by
  subst ho3 ho4 hsS hsR
  refine Tri.mk (v := ⟨⟩) (A := iprop((∃ W, owes (c : Thread nD τ) (Owed c nB nR (ix (b, j))) W) ∗ gSl c b (eighth j) (gF m ρ c)
      ∗ (∃ f, aSl (F := F) (c - j) b j f)
      ∗ dutyTok ER (dCell 2 c b j) 0 (0 : Fin 8) ∗ dutyTok ER (dCell 3 (c - j) b j) 0 (0 : Fin 8)))
    (B := iprop((∃ W, owes (c : Thread nD τ) (Owed c nB nR (nx b j)) W) ∗ cred (tallyAt (dCell 2 c b j) () N))) ?_ (fun Q => ?_) h
  · unfold ST OW
    iintro ⟨HO, HB, HC, HI, HP, HS, HD, HRR, HG, HAS, HAD, HAR⟩
    ihave HG' := (GB_send m ρ c b j nG nE hG hj hE) $$ HG
    ihave HS' := (ASS_send (F := F) c b j nE hj hE) $$ HAS
    ihave HD' := (ASD_send (F := F) c b j hj) $$ HAD
    icases HG' with ⟨Hp, HG⟩
    icases HS' with ⟨⟨Ht1, Ht2⟩, HAS⟩
    icases HD' with ⟨Hd, HAD⟩
    isplitl [HO Hp Hd Ht1 Ht2]
    · isplitl [HO]; · iexact HO
      isplitl [Hp]; · iexact Hp
      isplitl [Hd]; · iexact Hd
      isplitl [Ht1]; · iexact Ht1
      iexact Ht2
    iintro ⟨HO, Hc⟩
    isplitl [HO]; · iexact HO
    isplitl [HB]; · iexact HB
    isplitl [HC]; · iexact HC
    isplitl [HI]; · iexact HI
    isplitl [HP]; · iexact HP
    isplitl [HS]; · iexact HS
    isplitl [HD]; · iexact HD
    isplitl [HRR]; · iexact HRR
    isplitl [HG]; · iexact HG
    isplitl [HAS Hc]; · iapply HAS; iexact Hc
    isplitl [HAD]; · iexact HAD
    iexact HAR
  · have hu : used c 2 j := by unfold used; rw [if_neg (by decide)]; exact hj
    have hu' : used (c - j : Fin 8) 3 j := by unfold used; rw [if_neg (by decide)]; exact hj
    unfold gSl aSl
    iintro ⟨#HR, ⟨⟨%W, HO⟩, Hp, ⟨%fd, Hd⟩, Ht1, Ht2⟩, Hk⟩
    iapply (Tri.copy (m := m) (ρ := ρ) (K := K) (c := c) 2 3 b j j (c - j : Fin 8) hu hu' (n := ⟨n, hn⟩) rfl rfl (Fin.ext hd) (src := gbM b) (dst := slotM aM b j) rfl
      (Owed_ag c b j hj nB nR) (qs := eighth j) (fs := gF m ρ c) (fd := fd)
      (by rw [set_gbM]; exact Entails.refl _) (by rw [pointsTo_congr (ag_lands m ρ c b j fd), set_slotA]; exact Entails.refl _) W Q) $$ [HO Hp Hd Ht1 Ht2 Hk]
    isplitr; · iexact HR
    isplitl [HO Hp Hd Ht1 Ht2]
    · isplitl [HO]; · iexact HO
      isplitl [Hp]; · rw [set_gbM]; iexact Hp
      isplitl [Hd]; · rw [set_slotA]; iexact Hd
      isplitl [Ht1]; · iexact Ht1
      iexact Ht2
    iintro ⟨HO, Hc⟩
    iapply Hk
    isplitl [HO]; · iexists W; iexact HO
    iexact Hc

end Cert.Attn
-- ==== Proof.Loads.lean ====
/-
# Waits, loads and stores

The kernel's other operations, at any batch and any device, as steps from one state to the next.
-/
module

public import proofs.«01_k».proof.Proof.Ops

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

/-! ## Waits -/

/-- The wait for slot `[b, j]` of the reduce-scatter. -/
theorem Tri.rsRecv (b : Fin 4) (j : Fin 8) {sm : DmaSem sig}
    {s s' : Shape} {e e' : EltTy} {sp sp' : Space}
    {src : Memref sig .tc sp s e} {dst : Memref sig .tc sp' s' e'} {h1 : src.view.WordExact} {h2 : dst.view.WordExact}
    {k : PUnit → TP F α}
    (h : Tri m ρ K c ⟨nB, w, nP, nR, nx b j, nO, nG, nA, nV, nD', nF, nE⟩ (k ⟨⟩) R st')
    (hj : j ≠ 0 := by decide) (hB : 8 ≤ nB := by decide) (hR : 8 * b.val + 8 ≤ nR := by decide) (hs : sm = semOf 1 b j := by rfl) (hN : dst.view.dmaCredit = N := by rfl) :
    Tri m ρ K c ⟨nB, w, nP, nR, ix (b, j), nO, nG, nA, nV, nD', nF, nE⟩ (Prog.lift (.waitDma2 sm src dst h1 h2) >>= k) R st' := by
  refine Tri.wait 1 b j (by unfold used; rw [if_neg (by decide)]; exact hj) hs hN
    (mayWait (F := F) c _ nB nR nA (2 + b.val) (by show lv (dCell 1 c b j) () ≤ _; rw [lv_dma]; exact le_rfl)
      (fun j hj => absurd j.isLt (by omega)) (fun p hp => by have := p.2.isLt; dsimp only [ix] at hp; omega) (fun p _ => by have := b.isLt; omega)) ?_ h
  unfold ST
  iintro ⟨HO, HB, HC, HI, HP, HS, HD, HRR, HG⟩
  ihave H := (RR_wait m ρ c b j hj) $$ HRR
  icases H with ⟨⟨Ha, Hc⟩, HRR⟩
  isplitl [HO Ha Hc]
  · isplitl [HO]; · iexact HO
    isplitl [Ha]; · iexact Ha
    iexact Hc
  iintro ⟨HO, Ha, Hp⟩
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR Ha Hp]
  · iapply HRR
    isplitl [Ha]; · iexact Ha
    iapply (show dmaPay m ρ c 1 b j ⊢ rSl c b j (rF m ρ c) from Entails.refl _)
    iexact Hp
  iexact HG

/-- The wait for slot `[b, j]` of the all-gather. -/
theorem Tri.agRecv (b : Fin 4) (j : Fin 8) {sm : DmaSem sig}
    {s s' : Shape} {e e' : EltTy} {sp sp' : Space}
    {src : Memref sig .tc sp s e} {dst : Memref sig .tc sp' s' e'} {h1 : src.view.WordExact} {h2 : dst.view.WordExact}
    {k : PUnit → TP F α}
    (h : Tri m ρ K c ⟨nB, w, nP, nR, nW, nO, nG, nA, nx b j, nD', nF, nE⟩ (k ⟨⟩) R st')
    (hj : j ≠ 0 := by decide) (hB : 8 ≤ nB := by decide) (hR : 32 ≤ nR := by decide) (hA : 8 * b.val + 8 ≤ nA := by decide) (hs : sm = semOf 3 b j := by rfl) (hN : dst.view.dmaCredit = N := by rfl) :
    Tri m ρ K c ⟨nB, w, nP, nR, nW, nO, nG, nA, ix (b, j), nD', nF, nE⟩ (Prog.lift (.waitDma2 sm src dst h1 h2) >>= k) R st' := by
  refine Tri.wait 3 b j (by unfold used; rw [if_neg (by decide)]; exact hj) hs hN
    (mayWait (F := F) c _ nB nR nA (10 + b.val) (by show lv (dCell 3 c b j) () ≤ _; rw [lv_dma]; exact le_rfl)
      (fun j hj => absurd j.isLt (by omega)) (fun p hp => by have := p.2.isLt; have := p.1.isLt; dsimp only [ix] at hp; omega)
      (fun p hp => by have := p.2.isLt; dsimp only [ix] at hp; omega)) ?_ h
  unfold ST
  iintro ⟨HO, HB, HC, HI, HP, HS, HD, HRR, HG, HAS, HAD, HAR, HOUT⟩
  ihave H := (AR_wait m ρ c b j hj) $$ HAR
  icases H with ⟨⟨Ha, Hc⟩, HAR⟩
  isplitl [HO Ha Hc]
  · isplitl [HO]; · iexact HO
    isplitl [Ha]; · iexact Ha
    iexact Hc
  iintro ⟨HO, Ha, Hp⟩
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG]; · iexact HG
  isplitl [HAS]; · iexact HAS
  isplitl [HAD]; · iexact HAD
  isplitl [HAR Ha Hp]
  · iapply HAR
    isplitl [Ha]; · iexact Ha
    iapply (show dmaPay m ρ c 3 b j ⊢ aSl c b j (aF m ρ c) from Entails.refl _)
    iexact Hp
  iexact HOUT

/-- The wait for a reduce-scatter copy to have left, if device `c` is not the destination. -/
theorem Tri.rsDoneAt (b : Fin 4) (d : Fin 8) {C : Prop} [Decidable C] (hC : C ↔ d ≠ c) (hP : b.val < nP) (hB : 8 ≤ nB) (hR : 32 ≤ nR) (hA : 33 ≤ nA)
    {sm : C → DmaSem sig} (hs : ∀ hc, sm hc = semOf 0 b d) {s s' : Shape} {e e' : EltTy} {sp sp' : Space}
    {src : C → Memref sig .tc sp s e} {dst : C → Memref sig .tc sp' s' e'} (hN : ∀ hc, (dst hc).view.dmaCredit = N)
    {h1 : ∀ hc, (src hc).view.WordExact} {h2 : ∀ hc, (dst hc).view.WordExact} {k : TP F α}
    (h : Tri m ρ K c ⟨nB, w, nP, nR, nW, nO, nG, nA, nV, nD', ix (b, d) + 1, nE⟩ k R st') :
    Tri m ρ K c ⟨nB, w, nP, nR, nW, nO, nG, nA, nV, nD', ix (b, d), nE⟩
      (dite C (fun hc => Prog.lift (.waitDma2 (sm hc) (src hc) (dst hc) (h1 hc) (h2 hc)) >>= fun _ => k) (fun _ => k)) R st' := by
  have hlt : ix (b, d) < nR := by have := b.isLt; have := d.isLt; dsimp only [ix]; omega
  by_cases hc : C
  · rw [dif_pos hc]
    have hne : d ≠ c := hC.1 hc
    refine Tri.wait 0 b d (by unfold used; rw [if_pos rfl]; exact hne) (hs hc) (hN hc)
      (mayWait (F := F) c _ nB nR nA 0 (by show lv (dCell 0 c b d) () ≤ _; rw [lv_dma]; exact le_rfl)
        (fun j hj => absurd j.isLt (by omega)) (fun p hp => by have := p.2.isLt; have := p.1.isLt; dsimp only [ix] at hp; omega)
        (fun p hp => by have := p.2.isLt; have := p.1.isLt; dsimp only [ix] at hp; omega)) ?_ h
    unfold ST
    iintro ⟨HO, HB, HC, HI, HP, HS, HD⟩
    ihave H := (RSS_wait (F := F) c b d nR hne hlt) $$ HS
    icases H with ⟨⟨Ha, Hc⟩, HS⟩
    isplitl [HO Ha Hc]
    · isplitl [HO]; · iexact HO
      isplitl [Ha]; · iexact Ha
      iexact Hc
    iintro ⟨HO, Ha, Hp⟩
    isplitl [HO]; · iexact HO
    isplitl [HB]; · iexact HB
    isplitl [HC]; · iexact HC
    isplitl [HI]; · iexact HI
    isplitl [HP Hp]
    · iapply (PB_back m ρ c b d nP nR hP hne hlt)
      isplitl [HP]; · iexact HP
      iapply (show dmaPay m ρ c 0 b d ⊢ pCh c b d (pF m ρ c) from Entails.refl _)
      iexact Hp
    isplitl [HS Ha]; · iapply HS; iexact Ha
    iexact HD
  · rw [dif_neg hc]
    have he : d = c := by by_contra hne; exact hc (hC.2 hne)
    subst he
    have e : ST m ρ d ⟨nB, w, nP, nR, nW, nO, nG, nA, nV, nD', ix (b, d), nE⟩ = ST m ρ d ⟨nB, w, nP, nR, nW, nO, nG, nA, nV, nD', ix (b, d) + 1, nE⟩ := by
      unfold ST
      rw [PB_self', RSS_self']
    intro Q
    rw [e]
    exact h Q

/-- The wait for an all-gather copy to have left. -/
theorem Tri.agDone (b : Fin 4) (j : Fin 8) {sm : DmaSem sig}
    {s s' : Shape} {e e' : EltTy} {sp sp' : Space}
    {src : Memref sig .tc sp s e} {dst : Memref sig .tc sp' s' e'} {h1 : src.view.WordExact} {h2 : dst.view.WordExact}
    {k : PUnit → TP F α}
    (h : Tri m ρ K c ⟨nB, w, nP, nR, nW, nO, nG, nA, nV, nD', nF, nx b j⟩ (k ⟨⟩) R st')
    (hj : j ≠ 0 := by decide) (hG : b.val < nG := by decide) (hB : 8 ≤ nB := by decide) (hR : 32 ≤ nR := by decide) (hA : 33 ≤ nA := by decide) (hs : sm = semOf 2 b j := by rfl) (hN : dst.view.dmaCredit = N := by rfl) :
    Tri m ρ K c ⟨nB, w, nP, nR, nW, nO, nG, nA, nV, nD', nF, ix (b, j)⟩ (Prog.lift (.waitDma2 sm src dst h1 h2) >>= k) R st' := by
  refine Tri.wait 2 b j (by unfold used; rw [if_neg (by decide)]; exact hj) hs hN
    (mayWait (F := F) c _ nB nR nA 0 (by show lv (dCell 2 c b j) () ≤ _; rw [lv_dma]; exact le_rfl)
      (fun j hj => absurd j.isLt (by omega)) (fun p hp => by have := p.2.isLt; have := p.1.isLt; dsimp only [ix] at hp; omega)
      (fun p hp => by have := p.2.isLt; have := p.1.isLt; dsimp only [ix] at hp; omega)) ?_ h
  unfold ST
  iintro ⟨HO, HB, HC, HI, HP, HS, HD, HRR, HG, HAS, HAD⟩
  ihave H := (ASS_wait (F := F) c b j nA hj (by have := b.isLt; have := j.isLt; dsimp only [ix]; omega)) $$ HAS
  icases H with ⟨⟨Ha, Hc⟩, HAS⟩
  isplitl [HO Ha Hc]
  · isplitl [HO]; · iexact HO
    isplitl [Ha]; · iexact Ha
    iexact Hc
  iintro ⟨HO, Ha, Hp⟩
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG Hp]
  · iapply (GB_back m ρ c b j nG nA hG hj)
    isplitl [HG]; · iexact HG
    iapply (show dmaPay m ρ c 2 b j ⊢ gSl c b (eighth j) (gF m ρ c) from Entails.refl _)
    iexact Hp
  isplitl [HAS Ha]; · iapply HAS; iexact Ha
  iexact HAD

/-! ## Loads -/

section Loads
variable {st : St}

/-- A load of a staged input. -/
theorem Tri.loadIn {s : Shape} {e : EltTy} {M : Memref sig .tc .vmem s e} {r : LoadRect s} {hl : M.view.LoadsAt r} {k : (r.shape.Idx → Elt F e) → TP F α}
    (f : Buf (Elt F) (M.view.loc (c : Thread nD τ)))
    (hI : INS m ρ c ⊢ iprop((M.view.loc (c : Thread nD τ) ↦{fullShare} f) ∗ ((M.view.loc (c : Thread nD τ) ↦{fullShare} f) -∗ INS m ρ c)))
    (h : Tri m ρ K c st (k (M.view.readAt (Elt F) r f)) R st') :
    Tri m ρ K c st (Prog.lift (.load M r hl) >>= k) R st' := by
  refine Tri.load (S := Finset.univ) f (Finset.subset_univ _) ?_ h
  unfold ST
  iintro ⟨HO, HB, HC, HI, HR⟩
  ihave H := hI $$ HI
  icases H with ⟨HA, HI⟩
  isplitl [HA]; · iexact HA
  iintro HBB
  isplitl [HO]; · iexact HO
  isplitl [HB]; · iexact HB
  isplitl [HC]; · iexact HC
  isplitl [HI HBB]; · iapply HI; iexact HBB
  iexact HR

variable (c) in
theorem INS_0 : INS m ρ c ⊢ iprop((((c : Thread nD τ).loc cc0_stg0_0) ↦{fullShare} (xV m ρ c)) ∗ ((((c : Thread nD τ).loc cc0_stg0_0) ↦{fullShare} (xV m ρ c)) -∗ INS m ρ c)) := by
  unfold INS
  iintro ⟨H0, H1, H2, H3, H4⟩
  isplitl [H0]; · iexact H0
  iintro H0
  iframe H0 H1 H2 H3 H4
variable (c) in
theorem INS_1 : INS m ρ c ⊢ iprop((((c : Thread nD τ).loc cc0_stg1_0) ↦{fullShare} (wqV m ρ c)) ∗ ((((c : Thread nD τ).loc cc0_stg1_0) ↦{fullShare} (wqV m ρ c)) -∗ INS m ρ c)) := by
  unfold INS
  iintro ⟨H0, H1, H2, H3, H4⟩
  isplitl [H1]; · iexact H1
  iintro H1
  iframe H0 H1 H2 H3 H4
variable (c) in
theorem INS_2 : INS m ρ c ⊢ iprop((((c : Thread nD τ).loc cc0_stg2_0) ↦{fullShare} (woV m ρ c)) ∗ ((((c : Thread nD τ).loc cc0_stg2_0) ↦{fullShare} (woV m ρ c)) -∗ INS m ρ c)) := by
  unfold INS
  iintro ⟨H0, H1, H2, H3, H4⟩
  isplitl [H2]; · iexact H2
  iintro H2
  iframe H0 H1 H2 H3 H4
variable (c) in
theorem INS_3 : INS m ρ c ⊢ iprop((((c : Thread nD τ).loc cc0_stg3_0) ↦{fullShare} (wkV m ρ c)) ∗ ((((c : Thread nD τ).loc cc0_stg3_0) ↦{fullShare} (wkV m ρ c)) -∗ INS m ρ c)) := by
  unfold INS
  iintro ⟨H0, H1, H2, H3, H4⟩
  isplitl [H3]; · iexact H3
  iintro H3
  iframe H0 H1 H2 H3 H4
variable (c) in
theorem INS_4 : INS m ρ c ⊢ iprop((((c : Thread nD τ).loc cc0_stg4_0) ↦{fullShare} (wvV m ρ c)) ∗ ((((c : Thread nD τ).loc cc0_stg4_0) ↦{fullShare} (wvV m ρ c)) -∗ INS m ρ c)) := by
  unfold INS
  iintro ⟨H0, H1, H2, H3, H4⟩
  isplitl [H4]; · iexact H4
  iintro H4
  iframe H0 H1 H2 H3 H4

/-- The two zeros are zero on every axis. -/
theorem hz2 : (![0, 0] : Fin 2 → ℕ) = fun _ => 0 := by funext a; revert a; decide

/-- The load of batch `b` of `x`. -/
theorem Tri.loadX (b : Fin 4) {o : Fin 3 → ℕ} {i : ∀ a, o a + S1x256x1024.size a ≤ S4x256x1024.size a}
    {hl : xM.view.LoadsAt (Rect.unit (s := S4x256x1024) o S1x256x1024.size i).toLoadRect} {k : Vec F S1x256x1024 .f32 → TP F α}
    (h : Tri m ρ K c st (k (xb m ρ c b)) R st')
    (ho : o = ![b.val, 0, 0] := by rfl) :
    Tri m ρ K c st (Prog.lift (.load xM (Rect.unit (s := S4x256x1024) o S1x256x1024.size i).toLoadRect hl) >>= k) R st' := by
  subst ho
  exact Tri.loadIn (M := xM) (xV m ρ c) (INS_0 c) h
/-- The load of `Wq`, -/
theorem Tri.loadWq {i : ∀ a, (![0, 0] : Fin 2 → ℕ) a + S1024x1024.size a ≤ S1024x1024.size a}
    {hl : wqM.view.LoadsAt (Rect.unit (s := S1024x1024) ![0, 0] S1024x1024.size i).toLoadRect} {k : Vec F S1024x1024 .f32 → TP F α}
    (h : Tri m ρ K c st (k (wqV m ρ c)) R st') :
    Tri m ρ K c st (Prog.lift (.load wqM (Rect.unit (s := S1024x1024) ![0, 0] S1024x1024.size i).toLoadRect hl) >>= k) R st' :=
  Tri.loadIn (M := wqM) (wqV m ρ c) (INS_1 c) ((Memref.readAt_unit_zero (Elt F) cc0_stg1_0 hz2 i (wqV m ρ c)).symm ▸ h)
/-- of `Wo`, -/
theorem Tri.loadWo {i : ∀ a, (![0, 0] : Fin 2 → ℕ) a + S1024x1024.size a ≤ S1024x1024.size a}
    {hl : woM.view.LoadsAt (Rect.unit (s := S1024x1024) ![0, 0] S1024x1024.size i).toLoadRect} {k : Vec F S1024x1024 .f32 → TP F α}
    (h : Tri m ρ K c st (k (woV m ρ c)) R st') :
    Tri m ρ K c st (Prog.lift (.load woM (Rect.unit (s := S1024x1024) ![0, 0] S1024x1024.size i).toLoadRect hl) >>= k) R st' :=
  Tri.loadIn (M := woM) (woV m ρ c) (INS_2 c) ((Memref.readAt_unit_zero (Elt F) cc0_stg2_0 hz2 i (woV m ρ c)).symm ▸ h)
/-- of `Wk`, -/
theorem Tri.loadWk {i : ∀ a, (![0, 0] : Fin 2 → ℕ) a + S1024x1024.size a ≤ S1024x1024.size a}
    {hl : wkM.view.LoadsAt (Rect.unit (s := S1024x1024) ![0, 0] S1024x1024.size i).toLoadRect} {k : Vec F S1024x1024 .f32 → TP F α}
    (h : Tri m ρ K c st (k (wkV m ρ c)) R st') :
    Tri m ρ K c st (Prog.lift (.load wkM (Rect.unit (s := S1024x1024) ![0, 0] S1024x1024.size i).toLoadRect hl) >>= k) R st' :=
  Tri.loadIn (M := wkM) (wkV m ρ c) (INS_3 c) ((Memref.readAt_unit_zero (Elt F) cc0_stg3_0 hz2 i (wkV m ρ c)).symm ▸ h)
/-- of `Wv`. -/
theorem Tri.loadWv {i : ∀ a, (![0, 0] : Fin 2 → ℕ) a + S1024x1024.size a ≤ S1024x1024.size a}
    {hl : wvM.view.LoadsAt (Rect.unit (s := S1024x1024) ![0, 0] S1024x1024.size i).toLoadRect} {k : Vec F S1024x1024 .f32 → TP F α}
    (h : Tri m ρ K c st (k (wvV m ρ c)) R st') :
    Tri m ρ K c st (Prog.lift (.load wvM (Rect.unit (s := S1024x1024) ![0, 0] S1024x1024.size i).toLoadRect hl) >>= k) R st' :=
  Tri.loadIn (M := wvM) (wvV m ρ c) (INS_4 c) ((Memref.readAt_unit_zero (Elt F) cc0_stg4_0 hz2 i (wvV m ρ c)).symm ▸ h)

end Loads

section Moves

/-- The own rows of the partial output. -/
theorem Tri.loadOwnAt (b : Fin 4) (hP : b.val < nP) {o : Fin 2 → ℕ} (ho : o = ![256 * b.val + 32 * c.val, 0]) {i : ∀ a, o a + S32x1024.size a ≤ S1024x1024.size a}
    {hl : pM.view.LoadsAt (Rect.unit (s := S1024x1024) o S32x1024.size i).toLoadRect} {k : Vec F S32x1024 .bf16 → TP F α}
    (h : Tri m ρ K c ⟨nB, w, nP, nR, nW, nO, nG, nA, nV, nD', nF, nE⟩ (k (ldP m ρ c b)) R st') :
    Tri m ρ K c ⟨nB, w, nP, nR, nW, nO, nG, nA, nV, nD', nF, nE⟩ (Prog.lift (.load pM (Rect.unit (s := S1024x1024) o S32x1024.size i).toLoadRect hl) >>= k) R st' := by
  subst ho
  refine Tri.load (M := pM) (S := (chunkR b c).set) (pF m ρ c) (fun i hi => by obtain ⟨y, hy, rfl⟩ := Finset.mem_map.mp hi; exact hy) ?_ h
  unfold ST
  iintro ⟨HO, HB, HC, HI, HP, HR⟩
  ihave H := (PB_own m ρ c b nP nR nF hP) $$ HP
  icases H with ⟨HA, HP⟩
  unfold pCh
  isplitl [HA]; · iexact HA
  iintro HA
  isplitl [HO]; · iexact HO
  isplitl [HB]; · iexact HB
  isplitl [HC]; · iexact HC
  isplitl [HI]; · iexact HI
  isplitl [HP HA]; · iapply HP; iexact HA
  iexact HR

/-- A received slot of the reduce-scatter. -/
theorem Tri.loadR (b : Fin 4) (j : Fin 8) {o : Fin 4 → ℕ} {i : ∀ a, o a + S1x1x32x1024.size a ≤ S4x8x32x1024.size a}
    {hl : rM.view.LoadsAt (Rect.unit (s := S4x8x32x1024) o S1x1x32x1024.size i).toLoadRect} {k : Vec F S1x1x32x1024 .bf16 → TP F α}
    (h : Tri m ρ K c ⟨nB, w, nP, nR, nW, nO, nG, nA, nV, nD', nF, nE⟩ (k (ldR m ρ c b j)) R st')
    (hj : j ≠ 0 := by decide) (hW : ix (b, j) < nW := by decide) (ho : o = ![b.val, j.val, 0, 0] := by rfl) :
    Tri m ρ K c ⟨nB, w, nP, nR, nW, nO, nG, nA, nV, nD', nF, nE⟩ (Prog.lift (.load rM (Rect.unit (s := S4x8x32x1024) o S1x1x32x1024.size i).toLoadRect hl) >>= k) R st' := by
  subst ho
  refine Tri.load (M := rM) (S := (slotR b j).set) (rF m ρ c) (fun i hi => by obtain ⟨y, hy, rfl⟩ := Finset.mem_map.mp hi; exact hy) ?_ h
  unfold ST
  iintro ⟨HO, HB, HC, HI, HP, HS, HD, HRR, HR⟩
  ihave H := (RR_read m ρ c b j hj nW hW) $$ HRR
  icases H with ⟨HA, HRR⟩
  unfold rSl
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR HA]; · iapply HRR; iexact HA
  iexact HR

/-- A received slot of the all-gather. -/
theorem Tri.loadA (b : Fin 4) (j : Fin 8) {o : Fin 4 → ℕ} {i : ∀ a, o a + S1x1x32x1024.size a ≤ S4x8x32x1024.size a}
    {hl : aM.view.LoadsAt (Rect.unit (s := S4x8x32x1024) o S1x1x32x1024.size i).toLoadRect} {k : Vec F S1x1x32x1024 .bf16 → TP F α}
    (h : Tri m ρ K c ⟨nB, w, nP, nR, nW, nO, nG, nA, nV, nD', nF, nE⟩ (k (ldA m ρ c b j)) R st')
    (hj : j ≠ 0 := by decide) (hV : ix (b, j) < nV := by decide) (ho : o = ![b.val, j.val, 0, 0] := by rfl) :
    Tri m ρ K c ⟨nB, w, nP, nR, nW, nO, nG, nA, nV, nD', nF, nE⟩ (Prog.lift (.load aM (Rect.unit (s := S4x8x32x1024) o S1x1x32x1024.size i).toLoadRect hl) >>= k) R st' := by
  subst ho
  refine Tri.load (M := aM) (S := (slotR b j).set) (aF m ρ c) (fun i hi => by obtain ⟨y, hy, rfl⟩ := Finset.mem_map.mp hi; exact hy) ?_ h
  unfold ST
  iintro ⟨HO, HB, HC, HI, HP, HS, HD, HRR, HG, HAS, HAD, HAR, HR⟩
  ihave H := (AR_read m ρ c b j hj nV hV) $$ HAR
  icases H with ⟨HA, HAR⟩
  unfold aSl
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG]; · iexact HG
  isplitl [HAS]; · iexact HAS
  isplitl [HAD]; · iexact HAD
  isplitl [HAR HA]; · iapply HAR; iexact HA
  iexact HR

/-- The rows of a batch before their store, whatever they hold. -/
theorem Tri.peekP (b : Fin 4) {o : Fin 2 → ℕ} {i : ∀ a, o a + S256x1024.size a ≤ S1024x1024.size a}
    {hl : pM.view.LoadsAt (Rect.unit (s := S1024x1024) o S256x1024.size i).toLoadRect} {k : Vec F S256x1024 .bf16 → TP F α}
    (h : ∀ v, Tri m ρ K c ⟨nB, w, nP, nR, nW, nO, nG, nA, nV, nD', nF, nE⟩ (k v) R st')
    (hP : nP ≤ b.val := by decide) (ho : o = ![256 * b.val, 0] := by rfl) :
    Tri m ρ K c ⟨nB, w, nP, nR, nW, nO, nG, nA, nV, nD', nF, nE⟩ (Prog.lift (.load pM (Rect.unit (s := S1024x1024) o S256x1024.size i).toLoadRect hl) >>= k) R st' := by
  subst ho
  refine Tri.loadAny (M := pM) (S := (batchR b).set) (fun i hi => by obtain ⟨y, hy, rfl⟩ := Finset.mem_map.mp hi; exact hy) ?_ h
  unfold ST
  iintro ⟨HO, HB, HC, HI, HP, HR⟩
  ihave H := (PB_peek m ρ c b nP nR nF hP) $$ HP
  icases H with ⟨⟨%f, HA⟩, HP⟩
  iexists f
  unfold pBa
  isplitl [HA]; · iexact HA
  iintro HA
  isplitl [HO]; · iexact HO
  isplitl [HB]; · iexact HB
  isplitl [HC]; · iexact HC
  isplitl [HI]; · iexact HI
  isplitl [HP HA]; · iapply HP; iexists f; iexact HA
  iexact HR

/-- The rows of a device in the result, whatever they hold. -/
theorem Tri.peekOAt (b : Fin 4) (e : Fin 8) {o : Fin 2 → ℕ} (ho : o = ![256 * b.val + 32 * e.val, 0]) {i : ∀ a, o a + S32x1024.size a ≤ S1024x1024.size a}
    {hl : oM.view.LoadsAt (Rect.unit (s := S1024x1024) o S32x1024.size i).toLoadRect} {k : Vec F S32x1024 .f32 → TP F α}
    (h : ∀ v, Tri m ρ K c ⟨nB, w, nP, nR, nW, nO, nG, nA, nV, nD', nF, nE⟩ (k v) R st') :
    Tri m ρ K c ⟨nB, w, nP, nR, nW, nO, nG, nA, nV, nD', nF, nE⟩ (Prog.lift (.load oM (Rect.unit (s := S1024x1024) o S32x1024.size i).toLoadRect hl) >>= k) R st' := by
  subst ho
  refine Tri.loadAny (M := oM) (S := (chunkR b e).set) (fun i hi => by obtain ⟨y, hy, rfl⟩ := Finset.mem_map.mp hi; exact hy) ?_ h
  unfold ST
  iintro ⟨HO, HB, HC, HI, HP, HS, HD, HRR, HG, HAS, HAD, HAR, HOUT⟩
  ihave H := (OUT_peek m ρ c b e nO nD') $$ HOUT
  icases H with ⟨%f, HA, HOUT⟩
  iexists f
  unfold oCh
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG]; · iexact HG
  isplitl [HAS]; · iexact HAS
  isplitl [HAD]; · iexact HAD
  isplitl [HAR]; · iexact HAR
  iapply HOUT
  iexact HA

/-- An all-gather source slot before its store, whatever it holds. -/
theorem Tri.peekG (b : Fin 4) {o : Fin 3 → ℕ} {i : ∀ a, o a + S1x32x1024.size a ≤ S4x32x1024.size a}
    {hl : gM.view.LoadsAt (Rect.unit (s := S4x32x1024) o S1x32x1024.size i).toLoadRect} {k : Vec F S1x32x1024 .bf16 → TP F α}
    (h : ∀ v, Tri m ρ K c ⟨nB, w, nP, nR, nW, nO, nG, nA, nV, nD', nF, nE⟩ (k v) R st')
    (hG : nG ≤ b.val := by decide) (ho : o = ![b.val, 0, 0] := by rfl) :
    Tri m ρ K c ⟨nB, w, nP, nR, nW, nO, nG, nA, nV, nD', nF, nE⟩ (Prog.lift (.load gM (Rect.unit (s := S4x32x1024) o S1x32x1024.size i).toLoadRect hl) >>= k) R st' := by
  subst ho
  refine Tri.loadAny (M := gM) (S := (gbR b).set) (fun i hi => by obtain ⟨y, hy, rfl⟩ := Finset.mem_map.mp hi; exact hy) ?_ h
  unfold ST
  iintro ⟨HO, HB, HC, HI, HP, HS, HD, HRR, HG, HR⟩
  ihave H := (GB_peek m ρ c b nG nA nE hG) $$ HG
  icases H with ⟨⟨%f, HA⟩, HG⟩
  iexists f
  unfold gSl
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG HA]; · iapply HG; iexists f; iexact HA
  iexact HR

/-- The store of a batch's partial output. -/
theorem Tri.storeP (b : Fin 4) {o : Fin 2 → ℕ} {i : ∀ a, o a + S256x1024.size a ≤ S1024x1024.size a}
    {v : Vec F S256x1024 .bf16} {hx : (pM.access (Rect.unit (s := S1024x1024) o S256x1024.size i)).Stores Finset.univ}
    {hm : (Finset.univ : Finset (Rect.unit (s := S1024x1024) o S256x1024.size i).shape.Idx) = Finset.univ ∨ ∀ a, (Rect.unit (s := S1024x1024) o S256x1024.size i).stride a = 1} {k : PUnit → TP F α}
    (h : Tri m ρ K c ⟨nB, w, b.val + 1, nR, nW, nO, nG, nA, nV, nD', nF, nE⟩ (k ⟨⟩) R st')
    (hR : nR ≤ 8 * b.val := by decide) (ho : o = ![256 * b.val, 0] := by rfl) (hv : v = att m ρ c b := by rfl) :
    Tri m ρ K c ⟨nB, w, b.val, nR, nW, nO, nG, nA, nV, nD', nF, nE⟩ (Prog.lift (.store pM (Rect.unit (s := S1024x1024) o S256x1024.size i) v Finset.univ hx hm) >>= k) R st' := by
  subst ho hv
  refine Tri.store (M := pM) (S := (batchR b).set) (pF m ρ c) (View.set_slice_whole cc0_scratch0 (batchR b)).subset (fun g => p_stored m ρ c b g) ?_ h
  unfold ST
  iintro ⟨HO, HB, HC, HI, HP, HR⟩
  ihave H := (PB_store m ρ c b nR nF hR) $$ HP
  unfold pBa
  icases H with ⟨HA, HP⟩
  isplitl [HA]; · iexact HA
  iintro HA
  isplitl [HO]; · iexact HO
  isplitl [HB]; · iexact HB
  isplitl [HC]; · iexact HC
  isplitl [HI]; · iexact HI
  isplitl [HP HA]; · iapply HP; iexact HA
  iexact HR

/-- The store of a sum into its all-gather source slot. -/
theorem Tri.storeG (b : Fin 4) {o : Fin 3 → ℕ} {i : ∀ a, o a + S1x32x1024.size a ≤ S4x32x1024.size a}
    {v : Vec F S1x32x1024 .bf16} {hx : (gM.access (Rect.unit (s := S4x32x1024) o S1x32x1024.size i)).Stores Finset.univ}
    {hm : (Finset.univ : Finset (Rect.unit (s := S4x32x1024) o S1x32x1024.size i).shape.Idx) = Finset.univ ∨ ∀ a, (Rect.unit (s := S4x32x1024) o S1x32x1024.size i).stride a = 1} {k : PUnit → TP F α}
    (h : Tri m ρ K c ⟨nB, w, nP, nR, nW, nO, b.val + 1, nA, nV, nD', nF, nE⟩ (k ⟨⟩) R st')
    (hA : nA ≤ 8 * b.val + 1 := by decide) (ho : o = ![b.val, 0, 0] := by rfl) (hv : v = redG m ρ c b := by rfl) :
    Tri m ρ K c ⟨nB, w, nP, nR, nW, nO, b.val, nA, nV, nD', nF, nE⟩ (Prog.lift (.store gM (Rect.unit (s := S4x32x1024) o S1x32x1024.size i) v Finset.univ hx hm) >>= k) R st' := by
  subst ho hv
  refine Tri.store (M := gM) (S := (gbR b).set) (gF m ρ c) (View.set_slice_whole cc0_scratch2 (gbR b)).subset (fun g => g_stored m ρ c b g) ?_ h
  unfold ST
  iintro ⟨HO, HB, HC, HI, HP, HS, HD, HRR, HG, HR⟩
  ihave H := (GB_store m ρ c b nA nE hA) $$ HG
  unfold gSl
  icases H with ⟨HA, HG⟩
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG HA]; · iapply HG; iexact HA
  iexact HR

variable (m ρ c) in
theorem outC_own (b : Fin 4) : outC m ρ c b c = red m ρ c b := if_pos rfl
variable (m ρ c) in
theorem outC_other (b : Fin 4) (j : Fin 8) (hj : j ≠ 0) : outC m ρ c b (c + j) = k0_pay82 (ldA m ρ c b j) := by
  unfold outC
  rw [if_neg (fun h => hj ((by decide : ∀ c j : Fin 8, c + j = c → j = 0) c j h)), add_sub_left]

/-- The store of the own sum into the result. -/
theorem Tri.storeOwnAt (b : Fin 4) {o : Fin 2 → ℕ} (ho : o = ![256 * b.val + 32 * c.val, 0]) {i : ∀ a, o a + S32x1024.size a ≤ S1024x1024.size a}
    {v : Vec F S32x1024 .f32} (hv : v = red m ρ c b) {hx : (oM.access (Rect.unit (s := S1024x1024) o S32x1024.size i)).Stores Finset.univ}
    {hm : (Finset.univ : Finset (Rect.unit (s := S1024x1024) o S32x1024.size i).shape.Idx) = Finset.univ ∨ ∀ a, (Rect.unit (s := S1024x1024) o S32x1024.size i).stride a = 1} {k : PUnit → TP F α}
    (h : Tri m ρ K c ⟨nB, w, nP, nR, nW, b.val + 1, nG, nA, nV, nD', nF, nE⟩ (k ⟨⟩) R st') :
    Tri m ρ K c ⟨nB, w, nP, nR, nW, b.val, nG, nA, nV, nD', nF, nE⟩ (Prog.lift (.store oM (Rect.unit (s := S1024x1024) o S32x1024.size i) v Finset.univ hx hm) >>= k) R st' := by
  subst ho hv
  refine Tri.store (M := oM) (S := (chunkR b c).set) (oF m ρ c) (View.set_slice_whole cc0_stg5_0 (chunkR b c)).subset (fun g => by rw [← outC_own m ρ c b]; exact o_stored m ρ c b c g) ?_ h
  unfold ST
  iintro ⟨HO, HB, HC, HI, HP, HS, HD, HRR, HG, HAS, HAD, HAR, HOUT⟩
  ihave H := (OUT_own m ρ c b nD') $$ HOUT
  unfold oCh
  icases H with ⟨HA, HOUT⟩
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG]; · iexact HG
  isplitl [HAS]; · iexact HAS
  isplitl [HAD]; · iexact HAD
  isplitl [HAR]; · iexact HAR
  iapply HOUT
  iexact HA

/-- The store of a received sum into the result. -/
theorem Tri.storeOtherAt (b : Fin 4) (j : Fin 8) (hj : j ≠ 0) {o : Fin 2 → ℕ} (ho : o = ![256 * b.val + 32 * (c + j : Fin 8).val, 0]) {i : ∀ a, o a + S32x1024.size a ≤ S1024x1024.size a}
    {v : Vec F S32x1024 .f32} (hv : v = k0_pay82 (ldA m ρ c b j)) {hx : (oM.access (Rect.unit (s := S1024x1024) o S32x1024.size i)).Stores Finset.univ}
    {hm : (Finset.univ : Finset (Rect.unit (s := S1024x1024) o S32x1024.size i).shape.Idx) = Finset.univ ∨ ∀ a, (Rect.unit (s := S1024x1024) o S32x1024.size i).stride a = 1} {k : PUnit → TP F α}
    (h : Tri m ρ K c ⟨nB, w, nP, nR, nW, nO, nG, nA, nV, nx b j, nF, nE⟩ (k ⟨⟩) R st') :
    Tri m ρ K c ⟨nB, w, nP, nR, nW, nO, nG, nA, nV, ix (b, j), nF, nE⟩ (Prog.lift (.store oM (Rect.unit (s := S1024x1024) o S32x1024.size i) v Finset.univ hx hm) >>= k) R st' := by
  subst ho hv
  refine Tri.store (M := oM) (S := (chunkR b (c + j)).set) (oF m ρ c) (View.set_slice_whole cc0_stg5_0 (chunkR b (c + j))).subset (fun g => by rw [← outC_other m ρ c b j hj]; exact o_stored m ρ c b (c + j) g) ?_ h
  unfold ST
  iintro ⟨HO, HB, HC, HI, HP, HS, HD, HRR, HG, HAS, HAD, HAR, HOUT⟩
  ihave H := (OUT_other m ρ c b j hj nO) $$ HOUT
  unfold oCh
  icases H with ⟨HA, HOUT⟩
  isplitl [HA]; · iexact HA
  iintro HA
  isplitl [HO]; · iexact HO
  isplitl [HB]; · iexact HB
  isplitl [HC]; · iexact HC
  isplitl [HI]; · iexact HI
  isplitl [HP]; · iexact HP
  isplitl [HS]; · iexact HS
  isplitl [HD]; · iexact HD
  isplitl [HRR]; · iexact HRR
  isplitl [HG]; · iexact HG
  isplitl [HAS]; · iexact HAS
  isplitl [HAD]; · iexact HAD
  isplitl [HAR]; · iexact HAR
  iapply HOUT
  iexact HA

end Moves

end Cert.Attn
-- ==== Proof.Chain.lean ====
/-
# Operations at offsets that depend on the device

The same steps, with each offset, device and condition given as a function of the device.
-/
module

public import proofs.«01_k».proof.Proof.Loads

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

/-- A signal to device `c + j`. -/
theorem Tri.signal (j : Fin 8) {s : Sem sig} {n : Dev nD → ℕ} {hn : n c < nD}
    {k : PUnit → TP F α}
    (h : Tri m ρ K c ⟨j.val + 1, w, nP, nR, nW, nO, nG, nA, nV, nD', nF, nE⟩ (k ⟨⟩) R st')
    (hj : j ≠ 0 := by decide) (hs : s = barS := by rfl) (hd : ∀ e, n e = (e + j : Fin 8).val := by decide +kernel) :
    Tri m ρ K c ⟨j.val, w, nP, nR, nW, nO, nG, nA, nV, nD', nF, nE⟩ (semSignalWord (⟨n c, hn⟩ : Dev nD) s 1#32 >>= k) R st' :=
  Tri.signalAt j hj hs (hd c) h

/-- A reduce-scatter copy, if device `c` is not the destination. -/
theorem Tri.rsSend (b : Fin 4) (d : Fin 8) {C : Dev nD → BitVec 1}
    {o1 : Fin 2 → ℕ} {i1 : ∀ a, o1 a + S1x1.size a ≤ S4x8.size a}
    {o2 : Dev nD → Fin 2 → ℕ} {i2 : C c = 1#1 → ∀ a, o2 c a + S1x1.size a ≤ S4x8.size a}
    {o3 : Dev nD → Fin 4 → ℕ} {i3 : C c = 1#1 → ∀ a, o3 c a + S1x1x32x1024.size a ≤ S4x8x32x1024.size a}
    {o4 : Fin 2 → ℕ} {i4 : ∀ a, o4 a + S32x1024.size a ≤ S1024x1024.size a}
    {n : ℕ} {hn : C c = 1#1 → n < nD}
    {h1 : C c = 1#1 → (pM.slice (Rect.unit (s := S1024x1024) o4 S32x1024.size i4) (fun _ => rfl)).view.WordExact}
    {h2 : ∀ hc, ((rM.slice (Rect.unit (s := S4x8x32x1024) (o3 c) S1x1x32x1024.size (i3 hc)) (fun _ => rfl)).squeeze S32x1024 squeezes_S1x1x32x1024_S32x1024).view.WordExact}
    {k : TP F α}
    (h : Tri m ρ K c ⟨nB, true, nP, ix (b, d) + 1, nW, nO, nG, nA, nV, nD', nF, nE⟩ k R st')
    (hC : ∀ e : Dev nD, C e = 1#1 ↔ d ≠ e := by decide +kernel) (hP : b.val < nP := by decide) (hF : nF ≤ ix (b, d) := by decide) (ho1 : o1 = ![b.val, d.val] := by rfl) (ho2 : ∀ e, o2 e = ![b.val, (e - d : Fin 8).val] := by decide +kernel) (ho3 : ∀ e, o3 e = ![b.val, (e - d : Fin 8).val, 0, 0] := by decide +kernel) (ho4 : o4 = ![256 * b.val + 32 * d.val, 0] := by rfl) (hd : n = d.val := by decide +kernel) :
    Tri m ρ K c ⟨nB, true, nP, ix (b, d), nW, nO, nG, nA, nV, nD', nF, nE⟩
      (dite (C c = 1#1) (fun hc => Prog.lift (.enqueueDma (pM.slice (Rect.unit (s := S1024x1024) o4 S32x1024.size i4) (fun _ => rfl))
          (.remote (Dev.tc (⟨n, hn hc⟩ : Dev nD) : Thread nD τ)
            ((rM.slice (Rect.unit (s := S4x8x32x1024) (o3 c) S1x1x32x1024.size (i3 hc)) (fun _ => rfl)).squeeze S32x1024 squeezes_S1x1x32x1024_S32x1024)
            (.dma ((cc0_scratch4.slice (Rect.unit (s := S4x8) o1 S1x1.size i1)).squeeze S_ squeezes_S1x1_S_).sem))
          (.dma ((cc0_scratch5.slice (Rect.unit (s := S4x8) (o2 c) S1x1.size (i2 hc))).squeeze S_ squeezes_S1x1_S_).sem) (h1 hc) (h2 hc) ⟨⟨rfl, Or.inl rfl⟩, trivial⟩) >>= fun _ => k)
        (fun _ => k)) R st' :=
  Tri.rsSendAt b d (hC c) hP hF ho1 (ho2 c) (ho3 c) ho4 hd h

/-- An all-gather copy. -/
theorem Tri.agSend (b : Fin 4) (j : Fin 8) {sS sR : DmaSem sig}
     {n : Dev nD → ℕ} {hn : n c < nD}
    {o3 : Fin 4 → ℕ} {i3 : ∀ a, o3 a + S1x1x32x1024.size a ≤ S4x8x32x1024.size a}
    {o4 : Fin 3 → ℕ} {i4 : ∀ a, o4 a + S1x32x1024.size a ≤ S4x32x1024.size a}
    {h1 : ((gM.slice (Rect.unit (s := S4x32x1024) o4 S1x32x1024.size i4) (fun _ => rfl)).squeeze S32x1024 squeezes_S1x32x1024_S32x1024).view.WordExact}
    {h2 : ((aM.slice (Rect.unit (s := S4x8x32x1024) o3 S1x1x32x1024.size i3) (fun _ => rfl)).squeeze S32x1024 squeezes_S1x1x32x1024_S32x1024).view.WordExact}
    {k : PUnit → TP F α}
    (h : Tri m ρ K c ⟨nB, true, nP, nR, nW, nO, nG, nx b j, nV, nD', nF, nE⟩ (k ⟨⟩) R st')
    (hj : j ≠ 0 := by decide) (hG : b.val < nG := by decide) (hE : nE ≤ ix (b, j) := by decide) (hsS : sS = semOf 2 b j := by rfl) (hsR : sR = semOf 3 b j := by rfl) (hd : ∀ e, n e = (e - j : Fin 8).val := by decide +kernel) (ho3 : o3 = ![b.val, j.val, 0, 0] := by rfl) (ho4 : o4 = ![b.val, 0, 0] := by rfl) :
    Tri m ρ K c ⟨nB, true, nP, nR, nW, nO, nG, ix (b, j), nV, nD', nF, nE⟩
      (Prog.lift (.enqueueDma ((gM.slice (Rect.unit (s := S4x32x1024) o4 S1x32x1024.size i4) (fun _ => rfl)).squeeze S32x1024 squeezes_S1x32x1024_S32x1024)
          (.remote (Dev.tc (⟨n c, hn⟩ : Dev nD) : Thread nD τ)
            ((aM.slice (Rect.unit (s := S4x8x32x1024) o3 S1x1x32x1024.size i3) (fun _ => rfl)).squeeze S32x1024 squeezes_S1x1x32x1024_S32x1024) (.dma sS))
          (.dma sR) h1 h2 ⟨⟨rfl, Or.inl rfl⟩, trivial⟩) >>= k) R st' :=
  Tri.agSendAt b j hj hG hE hsS hsR (hd c) ho3 ho4 h

/-- The wait for a reduce-scatter copy to have left, if device `c` is not the destination. -/
theorem Tri.rsDone (b : Fin 4) (d : Fin 8) {C : Dev nD → BitVec 1}
    {sm : C c = 1#1 → DmaSem sig} {s s' : Shape} {e e' : EltTy} {sp sp' : Space}
    {src : C c = 1#1 → Memref sig .tc sp s e} {dst : C c = 1#1 → Memref sig .tc sp' s' e'}
    {h1 : ∀ hc, (src hc).view.WordExact} {h2 : ∀ hc, (dst hc).view.WordExact} {k : TP F α}
    (h : Tri m ρ K c ⟨nB, w, nP, nR, nW, nO, nG, nA, nV, nD', ix (b, d) + 1, nE⟩ k R st')
    (hC : ∀ e : Dev nD, C e = 1#1 ↔ d ≠ e := by decide +kernel) (hP : b.val < nP := by decide) (hB : 8 ≤ nB := by decide) (hR : 32 ≤ nR := by decide) (hA : 33 ≤ nA := by decide) (hs : ∀ hc, sm hc = semOf 0 b d := by exact fun _ => rfl) (hN : ∀ hc, (dst hc).view.dmaCredit = N := by exact fun _ => rfl) :
    Tri m ρ K c ⟨nB, w, nP, nR, nW, nO, nG, nA, nV, nD', ix (b, d), nE⟩
      (dite (C c = 1#1) (fun hc => Prog.lift (.waitDma2 (sm hc) (src hc) (dst hc) (h1 hc) (h2 hc)) >>= fun _ => k) (fun _ => k)) R st' :=
  Tri.rsDoneAt b d (hC c) hP hB hR hA hs hN h

/-- The own rows of the partial output. -/
theorem Tri.loadOwn (b : Fin 4) {x : BitVec 32} {i : ∀ a, k0_off33 c x a + S32x1024.size a ≤ S1024x1024.size a}
    {hl : pM.view.LoadsAt (Rect.unit (s := S1024x1024) (k0_off33 c x) S32x1024.size i).toLoadRect} {k : Vec F S32x1024 .bf16 → TP F α}
    (h : Tri m ρ K c ⟨nB, w, nP, nR, nW, nO, nG, nA, nV, nD', nF, nE⟩ (k (ldP m ρ c b)) R st')
    (hP : b.val < nP := by decide) (ho : ∀ e : Dev nD, k0_off33 e x = ![256 * b.val + 32 * e.val, 0] := by decide +kernel) :
    Tri m ρ K c ⟨nB, w, nP, nR, nW, nO, nG, nA, nV, nD', nF, nE⟩ (Prog.lift (.load pM (Rect.unit (s := S1024x1024) (k0_off33 c x) S32x1024.size i).toLoadRect hl) >>= k) R st' :=
  Tri.loadOwnAt b hP (ho c) h

/-- The own rows in the result, whatever they hold. -/
theorem Tri.peekOwn (b : Fin 4) {x : BitVec 32} {i : ∀ a, k0_off33 c x a + S32x1024.size a ≤ S1024x1024.size a}
    {hl : oM.view.LoadsAt (Rect.unit (s := S1024x1024) (k0_off33 c x) S32x1024.size i).toLoadRect} {k : Vec F S32x1024 .f32 → TP F α}
    (h : ∀ v, Tri m ρ K c ⟨nB, w, nP, nR, nW, nO, nG, nA, nV, nD', nF, nE⟩ (k v) R st')
    (ho : ∀ e : Dev nD, k0_off33 e x = ![256 * b.val + 32 * e.val, 0] := by decide +kernel) :
    Tri m ρ K c ⟨nB, w, nP, nR, nW, nO, nG, nA, nV, nD', nF, nE⟩ (Prog.lift (.load oM (Rect.unit (s := S1024x1024) (k0_off33 c x) S32x1024.size i).toLoadRect hl) >>= k) R st' :=
  Tri.peekOAt b c (ho c) h

/-- The rows of a device, counted from the own one, in the result, whatever they hold. -/
theorem Tri.peekO (b : Fin 4) (j : Fin 8) {x y : BitVec 32} {i : ∀ a, k0_off66 c x y a + S32x1024.size a ≤ S1024x1024.size a}
    {hl : oM.view.LoadsAt (Rect.unit (s := S1024x1024) (k0_off66 c x y) S32x1024.size i).toLoadRect} {k : Vec F S32x1024 .f32 → TP F α}
    (h : ∀ v, Tri m ρ K c ⟨nB, w, nP, nR, nW, nO, nG, nA, nV, nD', nF, nE⟩ (k v) R st')
    (ho : ∀ e : Dev nD, k0_off66 e x y = ![256 * b.val + 32 * (e + j : Fin 8).val, 0] := by decide +kernel) :
    Tri m ρ K c ⟨nB, w, nP, nR, nW, nO, nG, nA, nV, nD', nF, nE⟩ (Prog.lift (.load oM (Rect.unit (s := S1024x1024) (k0_off66 c x y) S32x1024.size i).toLoadRect hl) >>= k) R st' :=
  Tri.peekOAt b (c + j) (ho c) h

/-- The store of the own sum into the result. -/
theorem Tri.storeOwn (b : Fin 4) {x : BitVec 32} {i : ∀ a, k0_off33 c x a + S32x1024.size a ≤ S1024x1024.size a}
    {v : Vec F S32x1024 .f32} {hx : (oM.access (Rect.unit (s := S1024x1024) (k0_off33 c x) S32x1024.size i)).Stores Finset.univ}
    {hm : (Finset.univ : Finset (Rect.unit (s := S1024x1024) (k0_off33 c x) S32x1024.size i).shape.Idx) = Finset.univ ∨ ∀ a, (Rect.unit (s := S1024x1024) (k0_off33 c x) S32x1024.size i).stride a = 1} {k : PUnit → TP F α}
    (h : Tri m ρ K c ⟨nB, w, nP, nR, nW, b.val + 1, nG, nA, nV, nD', nF, nE⟩ (k ⟨⟩) R st')
    (ho : ∀ e : Dev nD, k0_off33 e x = ![256 * b.val + 32 * e.val, 0] := by decide +kernel) (hv : v = red m ρ c b := by rfl) :
    Tri m ρ K c ⟨nB, w, nP, nR, nW, b.val, nG, nA, nV, nD', nF, nE⟩ (Prog.lift (.store oM (Rect.unit (s := S1024x1024) (k0_off33 c x) S32x1024.size i) v Finset.univ hx hm) >>= k) R st' :=
  Tri.storeOwnAt b (ho c) hv h

/-- The store of a received sum into the result. -/
theorem Tri.storeOther (b : Fin 4) (j : Fin 8) {x y : BitVec 32} {i : ∀ a, k0_off66 c x y a + S32x1024.size a ≤ S1024x1024.size a}
    {v : Vec F S32x1024 .f32} {hx : (oM.access (Rect.unit (s := S1024x1024) (k0_off66 c x y) S32x1024.size i)).Stores Finset.univ}
    {hm : (Finset.univ : Finset (Rect.unit (s := S1024x1024) (k0_off66 c x y) S32x1024.size i).shape.Idx) = Finset.univ ∨ ∀ a, (Rect.unit (s := S1024x1024) (k0_off66 c x y) S32x1024.size i).stride a = 1} {k : PUnit → TP F α}
    (h : Tri m ρ K c ⟨nB, w, nP, nR, nW, nO, nG, nA, nV, nx b j, nF, nE⟩ (k ⟨⟩) R st')
    (hj : j ≠ 0 := by decide) (ho : ∀ e : Dev nD, k0_off66 e x y = ![256 * b.val + 32 * (e + j : Fin 8).val, 0] := by decide +kernel) (hv : v = k0_pay82 (ldA m ρ c b j) := by rfl) :
    Tri m ρ K c ⟨nB, w, nP, nR, nW, nO, nG, nA, nV, ix (b, j), nF, nE⟩ (Prog.lift (.store oM (Rect.unit (s := S1024x1024) (k0_off66 c x y) S32x1024.size i) v Finset.univ hx hm) >>= k) R st' :=
  Tri.storeOtherAt b j hj (ho c) hv h

/-- A part of the kernel's text at the arrays of the launch. -/
abbrev onRefs {β : Type _} (f : (arg0 : Memref sig .tc .vmem S4x256x1024 .f32) → arg0.IsWhole → (arg1 : Memref sig .tc .vmem S1024x1024 .f32) → arg1.IsWhole
    → (arg2 : Memref sig .tc .vmem S1024x1024 .f32) → arg2.IsWhole → (arg3 : Memref sig .tc .vmem S1024x1024 .f32) → arg3.IsWhole
    → (arg4 : Memref sig .tc .vmem S1024x1024 .f32) → arg4.IsWhole → (arg5 : Memref sig .tc .vmem S1024x1024 .f32) → arg5.IsWhole
    → (arg6 : Memref sig .tc .vmem S1024x1024 .bf16) → arg6.IsWhole → (arg7 : Memref sig .tc .vmem S4x8x32x1024 .bf16) → arg7.IsWhole
    → (arg8 : Memref sig .tc .vmem S4x32x1024 .bf16) → arg8.IsWhole → (arg9 : Memref sig .tc .vmem S4x8x32x1024 .bf16) → arg9.IsWhole
    → DmaSems sig S4x8 → DmaSems sig S4x8 → DmaSems sig S4x8 → DmaSems sig S4x8 → β) : β :=
  f xM (Memref.isWhole_whole _) wqM (Memref.isWhole_whole _) woM (Memref.isWhole_whole _) wkM (Memref.isWhole_whole _) wvM (Memref.isWhole_whole _)
    oM (Memref.isWhole_whole _) pM (Memref.isWhole_whole _) rM (Memref.isWhole_whole _) gM (Memref.isWhole_whole _) aM (Memref.isWhole_whole _)
    cc0_scratch4 cc0_scratch5 cc0_scratch6 cc0_scratch7

end Cert.Attn
-- ==== Proof.Parts1.lean ====
/-
# The barrier and the first batch

The kernel's text is printed in numbered parts. Each theorem here takes one part from the state before it to the state after it; what the part hands on to later ones is given by equations. These parts signal, compute the first batch and wait at the barrier.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 1: 5 signals. -/
theorem run_part1 :
    Tri m ρ K c ⟨1, false, 0, 0, 1, 0, 0, 1, 1, 1, 0, 1⟩ (onRefs (k0_part1 (F := F))) (fun ⟨r0, _, r2, _, _⟩ => c = r0 ∧ SemArray.scalar (sig.barrier 0 rfl) = r2) ⟨6, false, 0, 0, 1, 0, 0, 1, 1, 1, 0, 1⟩ := by
  rw [k0_part1_eq_skeleton]
  refine Tri.deviceId ?_; refine Tri.signal 1 ?_; refine Tri.signal 2 ?_; refine Tri.signal 3 ?_
  refine Tri.signal 4 ?_; refine Tri.signal 5 ?_; exact Tri.ret _ ⟨rfl, rfl⟩

/-- Part 2: 2 signals, 4 loads of inputs. -/
theorem run_part2 (v2 v24 k8 : BitVec 32) :
    Tri m ρ K c ⟨6, false, 0, 0, 1, 0, 0, 1, 1, 1, 0, 1⟩ (onRefs (k0_part2 (F := F)) c v2 (SemArray.scalar (sig.barrier 0 rfl)) v24 k8) (fun ⟨r0, r1, r2, r3, r4⟩ => k0_pay2 (xb m ρ c 0) (wqV m ρ c) = r0 ∧ k0_pay3 (xb m ρ c 0) (wkV m ρ c) = r1 ∧ k0_pay4 (xb m ρ c 0) (wvV m ρ c) = r2 ∧ k0_pay6 (xb m ρ c 0) (wqV m ρ c) (wkV m ρ c) = r3 ∧ k0_pay7 (xb m ρ c 0) (wqV m ρ c) (wkV m ρ c) (wvV m ρ c) = r4) ⟨8, false, 0, 0, 1, 0, 0, 1, 1, 1, 0, 1⟩ := by
  rw [k0_part2_eq_skeleton]
  refine Tri.signal 6 ?_; refine Tri.signal 7 ?_; refine Tri.loadX 0 ?_; refine Tri.loadWq ?_
  refine Tri.loadWk ?_; refine Tri.loadWv ?_; exact Tri.ret _ ⟨rfl, rfl, rfl, rfl, rfl⟩

/-- Part 3: arithmetic alone. -/
theorem run_part3 (v36 v39 v42 : FVec F S256x1024 .f32) (v56 : FVec F S256x1 .f32) (v57 : FVec F S256x128 .f32) :
    Tri m ρ K c ⟨8, false, 0, 0, 1, 0, 0, 1, 1, 1, 0, 1⟩ (onRefs (k0_part3 (F := F)) v36 v39 v42 v56 v57) (fun ⟨r0, r1, r2, r3, r4⟩ => k0_pay8 v56 v57 = r0 ∧ k0_pay9 v36 v39 v42 = r1 ∧ k0_pay10 v36 v39 v42 = r2 ∧ k0_pay11 v42 = r3 ∧ k0_pay12 v36 v39 = r4) ⟨8, false, 0, 0, 1, 0, 0, 1, 1, 1, 0, 1⟩ := by
  rw [k0_part3_eq_skeleton]
  exact Tri.ret _ ⟨rfl, rfl, rfl, rfl, rfl⟩

/-- Part 4: arithmetic alone. -/
theorem run_part4 (v36 v39 v42 : FVec F S256x1024 .f32) (v96 : FVec F S256x128 .f32) (v104 : FVec F S256x256 .f32) :
    Tri m ρ K c ⟨8, false, 0, 0, 1, 0, 0, 1, 1, 1, 0, 1⟩ (onRefs (k0_part4 (F := F)) v36 v39 v42 v96 v104) (fun ⟨r0, r1, r2, r3, r4, r5⟩ => k0_pay13 v96 v104 = r0 ∧ k0_pay14 v36 v39 v42 = r1 ∧ k0_pay15 v36 v39 v42 = r2 ∧ k0_pay16 v42 = r3 ∧ k0_pay17 v36 v39 = r4 ∧ k0_pay18 (F := F) = r5) ⟨8, false, 0, 0, 1, 0, 0, 1, 1, 1, 0, 1⟩ := by
  rw [k0_part4_eq_skeleton]
  exact Tri.ret _ ⟨rfl, rfl, rfl, rfl, rfl, rfl⟩

/-- Part 5: the barrier wait, a load of an input, the store of a batch's partial output. -/
theorem run_part5 (v2 : BitVec 32) (v36 v39 v42 : FVec F S256x1024 .f32) (v59 v76 v93 v110 v127 v144 v147 : FVec F S256x128 .f32) (v149 v150 : FVec F S256x256 .f32)
    (h0 : k0_pay19 v36 v39 v42 v59 v76 v93 v110 v127 v144 v147 v149 v150 (woV m ρ c) = att m ρ c 0) :
    Tri m ρ K c ⟨8, false, 0, 0, 1, 0, 0, 1, 1, 1, 0, 1⟩ (onRefs (k0_part5 (F := F)) v2 (SemArray.scalar (sig.barrier 0 rfl)) v36 v39 v42 v59 v76 v93 v110 v127 v144 v147 v149 v150) (fun _ => True) ⟨8, true, 1, 0, 1, 0, 0, 1, 1, 1, 0, 1⟩ := by
  rw [k0_part5_eq_skeleton]
  refine Tri.loadWo ?_; refine Tri.peekP 0 ?_; intro _; refine Tri.storeP 0 (hv := h0) ?_; refine Tri.bar ?_
  exact Tri.ret _ trivial

end Cert.Attn
-- ==== Proof.Parts2.lean ====
/-
# The copies of the first batch and the second batch

The first batch's reduce-scatter copies, the second batch, and the sum of the first batch, part by part.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 6: 4 reduce-scatter copies. -/
theorem run_part6 (v2 v189 k0 : BitVec 32) :
    Tri m ρ K c ⟨8, true, 1, 0, 1, 0, 0, 1, 1, 1, 0, 1⟩ (onRefs (k0_part6 (F := F)) c v2 v189 k0) (fun _ => True) ⟨8, true, 1, 4, 1, 0, 0, 1, 1, 1, 0, 1⟩ := by
  rw [k0_part6_eq_skeleton]
  refine Tri.rsSend 0 0 ?_; refine Tri.rsSend 0 1 ?_; refine Tri.rsSend 0 2 ?_; refine Tri.rsSend 0 3 ?_
  exact Tri.ret _ trivial

/-- Part 7: 3 reduce-scatter copies. -/
theorem run_part7 (v2 v211 k8 : BitVec 32) :
    Tri m ρ K c ⟨8, true, 1, 4, 1, 0, 0, 1, 1, 1, 0, 1⟩ (onRefs (k0_part7 (F := F)) c v2 v211 k8) (fun _ => True) ⟨8, true, 1, 7, 1, 0, 0, 1, 1, 1, 0, 1⟩ := by
  rw [k0_part7_eq_skeleton]
  refine Tri.rsSend 0 4 ?_; refine Tri.rsSend 0 5 ?_; refine Tri.rsSend 0 6 ?_; exact Tri.ret _ trivial

/-- Part 8: 4 loads of inputs, a reduce-scatter copy. -/
theorem run_part8 :
    Tri m ρ K c ⟨8, true, 1, 7, 1, 0, 0, 1, 1, 1, 0, 1⟩ (onRefs (k0_part8 (F := F)) c) (fun ⟨r0, r1, r2, r3, r4, r5⟩ => k0_pay21 (xb m ρ c 1) (wqV m ρ c) = r0 ∧ k0_pay22 (xb m ρ c 1) (wkV m ρ c) = r1 ∧ k0_pay23 (xb m ρ c 1) (wvV m ρ c) = r2 ∧ k0_pay24 (xb m ρ c 1) (wqV m ρ c) (wkV m ρ c) (wvV m ρ c) = r3 ∧ k0_pay25 (xb m ρ c 1) (wvV m ρ c) = r4 ∧ k0_pay26 (xb m ρ c 1) (wqV m ρ c) (wkV m ρ c) = r5) ⟨8, true, 1, 8, 1, 0, 0, 1, 1, 1, 0, 1⟩ := by
  rw [k0_part8_eq_skeleton]
  refine Tri.rsSend 0 7 ?_; refine Tri.loadX 1 ?_; refine Tri.loadWq ?_; refine Tri.loadWk ?_
  refine Tri.loadWv ?_; exact Tri.ret _ ⟨rfl, rfl, rfl, rfl, rfl, rfl⟩

/-- Part 9: arithmetic alone. -/
theorem run_part9 (v239 v242 v245 : FVec F S256x1024 .f32) (v265 : FVec F S256x128 .f32) (v273 : FVec F S256x256 .f32) :
    Tri m ρ K c ⟨8, true, 1, 8, 1, 0, 0, 1, 1, 1, 0, 1⟩ (onRefs (k0_part9 (F := F)) v239 v242 v245 v265 v273) (fun ⟨r0, r1, r2, r3, r4, r5⟩ => k0_pay27 v265 v273 = r0 ∧ k0_pay28 v239 v242 v245 = r1 ∧ k0_pay29 v239 v242 v245 = r2 ∧ k0_pay30 v245 = r3 ∧ k0_pay31 v239 v242 = r4 ∧ k0_pay32 (F := F) = r5) ⟨8, true, 1, 8, 1, 0, 0, 1, 1, 1, 0, 1⟩ := by
  rw [k0_part9_eq_skeleton]
  exact Tri.ret _ ⟨rfl, rfl, rfl, rfl, rfl, rfl⟩

/-- Part 10: arithmetic alone. -/
theorem run_part10 (v239 v242 v245 : FVec F S256x1024 .f32) (v316 : FVec F S256x128 .f32) (v318 v319 : FVec F S256x256 .f32) :
    Tri m ρ K c ⟨8, true, 1, 8, 1, 0, 0, 1, 1, 1, 0, 1⟩ (onRefs (k0_part10 (F := F)) v239 v242 v245 v316 v318 v319) (fun ⟨r0, r1, r2, r3, r4⟩ => k0_pay33 v316 v318 v319 = r0 ∧ k0_pay34 v239 v242 v245 = r1 ∧ k0_pay35 v239 v242 v245 = r2 ∧ k0_pay36 v239 = r3 ∧ k0_pay37 v242 = r4) ⟨8, true, 1, 8, 1, 0, 0, 1, 1, 1, 0, 1⟩ := by
  rw [k0_part10_eq_skeleton]
  exact Tri.ret _ ⟨rfl, rfl, rfl, rfl, rfl⟩

/-- Part 11: a load of an input, the store of a batch's partial output, a reduce-scatter copy. -/
theorem run_part11 (v2 : BitVec 32) (v245 : FVec F S256x1024 .f32) (v262 v279 v296 v313 v330 v347 v364 v365 v366 : FVec F S256x128 .f32)
    (h0 : k0_pay38 v245 v262 v279 v296 v313 v330 v347 v364 v365 v366 (woV m ρ c) = att m ρ c 1) :
    Tri m ρ K c ⟨8, true, 1, 8, 1, 0, 0, 1, 1, 1, 0, 1⟩ (onRefs (k0_part11 (F := F)) c v2 v245 v262 v279 v296 v313 v330 v347 v364 v365 v366) (fun _ => True) ⟨8, true, 2, 9, 1, 0, 0, 1, 1, 1, 0, 1⟩ := by
  rw [k0_part11_eq_skeleton]
  refine Tri.loadWo ?_; refine Tri.peekP 1 ?_; intro _; refine Tri.storeP 1 (hv := h0) ?_
  refine Tri.rsSend 1 0 ?_; exact Tri.ret _ trivial

/-- Part 12: 4 reduce-scatter copies. -/
theorem run_part12 (v2 v400 : BitVec 32) :
    Tri m ρ K c ⟨8, true, 2, 9, 1, 0, 0, 1, 1, 1, 0, 1⟩ (onRefs (k0_part12 (F := F)) c v2 v400) (fun _ => True) ⟨8, true, 2, 13, 1, 0, 0, 1, 1, 1, 0, 1⟩ := by
  rw [k0_part12_eq_skeleton]
  refine Tri.rsSend 1 1 ?_; refine Tri.rsSend 1 2 ?_; refine Tri.rsSend 1 3 ?_; refine Tri.rsSend 1 4 ?_
  exact Tri.ret _ trivial

/-- Part 13: 3 reduce-scatter copies. -/
theorem run_part13 (v2 v422 : BitVec 32) :
    Tri m ρ K c ⟨8, true, 2, 13, 1, 0, 0, 1, 1, 1, 0, 1⟩ (onRefs (k0_part13 (F := F)) c v2 v422) (fun _ => True) ⟨8, true, 2, 16, 1, 0, 0, 1, 1, 1, 0, 1⟩ := by
  rw [k0_part13_eq_skeleton]
  refine Tri.rsSend 1 5 ?_; refine Tri.rsSend 1 6 ?_; refine Tri.rsSend 1 7 ?_; exact Tri.ret _ trivial

/-- Part 14: 3 reduce-scatter landings. -/
theorem run_part14 (v2 : BitVec 32) :
    Tri m ρ K c ⟨8, true, 2, 16, 1, 0, 0, 1, 1, 1, 0, 1⟩ (onRefs (k0_part14 (F := F)) v2) (fun _ => True) ⟨8, true, 2, 16, 4, 0, 0, 1, 1, 1, 0, 1⟩ := by
  rw [k0_part14_eq_skeleton]
  refine Tri.rsRecv 0 1 ?_; refine Tri.rsRecv 0 2 ?_; refine Tri.rsRecv 0 3 ?_; exact Tri.ret _ trivial

/-- Part 15: 3 reduce-scatter landings. -/
theorem run_part15 (v2 k1 : BitVec 32) :
    Tri m ρ K c ⟨8, true, 2, 16, 4, 0, 0, 1, 1, 1, 0, 1⟩ (onRefs (k0_part15 (F := F)) v2 k1) (fun _ => True) ⟨8, true, 2, 16, 7, 0, 0, 1, 1, 1, 0, 1⟩ := by
  rw [k0_part15_eq_skeleton]
  refine Tri.rsRecv 0 4 ?_; refine Tri.rsRecv 0 5 ?_; refine Tri.rsRecv 0 6 ?_; exact Tri.ret _ trivial

/-- Part 16: a reduce-scatter landing, 5 loads of summands. -/
theorem run_part16 (v2 : BitVec 32) :
    Tri m ρ K c ⟨8, true, 2, 16, 7, 0, 0, 1, 1, 1, 0, 1⟩ (onRefs (k0_part16 (F := F)) c v2) (fun ⟨_, r1, r2⟩ => k0_pay39 (ldP m ρ c 0) (ldR m ρ c 0 1) (ldR m ρ c 0 2) (ldR m ρ c 0 3) = r1 ∧ (ldR m ρ c 0 4) = r2) ⟨8, true, 2, 16, 9, 0, 0, 1, 1, 1, 0, 1⟩ := by
  rw [k0_part16_eq_skeleton]
  refine Tri.rsRecv 0 7 ?_; refine Tri.loadOwn 0 ?_; refine Tri.loadR 0 1 ?_; refine Tri.loadR 0 2 ?_
  refine Tri.loadR 0 3 ?_; refine Tri.loadR 0 4 ?_; exact Tri.ret _ ⟨rfl, rfl⟩

/-- Part 17: 3 loads of summands, 2 stores of the sum. -/
theorem run_part17 (v2 v495 : BitVec 32) (v510 : FVec F S32x1024 .f32) (v511 : Vec F S1x1x32x1024 .bf16)
    (h0 : k0_pay40 v510 v511 (ldR m ρ c 0 5) (ldR m ρ c 0 6) (ldR m ρ c 0 7) = red m ρ c 0) (h1 : k0_pay41 v510 v511 (ldR m ρ c 0 5) (ldR m ρ c 0 6) (ldR m ρ c 0 7) = redG m ρ c 0) :
    Tri m ρ K c ⟨8, true, 2, 16, 9, 0, 0, 1, 1, 1, 0, 1⟩ (onRefs (k0_part17 (F := F)) c v2 v495 v510 v511) (fun _ => True) ⟨8, true, 2, 16, 9, 1, 1, 1, 1, 1, 0, 1⟩ := by
  rw [k0_part17_eq_skeleton]
  refine Tri.loadR 0 5 ?_; refine Tri.loadR 0 6 ?_; refine Tri.loadR 0 7 ?_; refine Tri.peekOwn 0 ?_; intro _
  refine Tri.storeOwn 0 (hv := h0) ?_; refine Tri.peekG 0 ?_; intro _; refine Tri.storeG 0 (hv := h1) ?_
  exact Tri.ret _ trivial

/-- Part 18: 2 all-gather copies. -/
theorem run_part18 (v2 : BitVec 32) :
    Tri m ρ K c ⟨8, true, 2, 16, 9, 1, 1, 1, 1, 1, 0, 1⟩ (onRefs (k0_part18 (F := F)) c v2) (fun _ => True) ⟨8, true, 2, 16, 9, 1, 1, 3, 1, 1, 0, 1⟩ := by
  rw [k0_part18_eq_skeleton]
  refine Tri.agSend 0 1 ?_; refine Tri.agSend 0 2 ?_; exact Tri.ret _ trivial

/-- Part 19: 2 all-gather copies. -/
theorem run_part19 (v2 : BitVec 32) :
    Tri m ρ K c ⟨8, true, 2, 16, 9, 1, 1, 3, 1, 1, 0, 1⟩ (onRefs (k0_part19 (F := F)) c v2) (fun _ => True) ⟨8, true, 2, 16, 9, 1, 1, 5, 1, 1, 0, 1⟩ := by
  rw [k0_part19_eq_skeleton]
  refine Tri.agSend 0 3 ?_; refine Tri.agSend 0 4 ?_; exact Tri.ret _ trivial

/-- Part 20: 2 all-gather copies. -/
theorem run_part20 (v2 : BitVec 32) :
    Tri m ρ K c ⟨8, true, 2, 16, 9, 1, 1, 5, 1, 1, 0, 1⟩ (onRefs (k0_part20 (F := F)) c v2) (fun _ => True) ⟨8, true, 2, 16, 9, 1, 1, 7, 1, 1, 0, 1⟩ := by
  rw [k0_part20_eq_skeleton]
  refine Tri.agSend 0 5 ?_; refine Tri.agSend 0 6 ?_; exact Tri.ret _ trivial

end Cert.Attn
-- ==== Proof.Parts3.lean ====
/-
# The third batch

The third batch and the sum of the second one, part by part.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 21: 4 loads of inputs, an all-gather copy. -/
theorem run_part21 :
    Tri m ρ K c ⟨8, true, 2, 16, 9, 1, 1, 7, 1, 1, 0, 1⟩ (onRefs (k0_part21 (F := F)) c) (fun ⟨r0, r1, r2, r3, r4, r5⟩ => k0_pay43 (xb m ρ c 2) (wqV m ρ c) = r0 ∧ k0_pay44 (xb m ρ c 2) (wkV m ρ c) = r1 ∧ k0_pay45 (xb m ρ c 2) (wvV m ρ c) = r2 ∧ k0_pay46 (xb m ρ c 2) (wqV m ρ c) (wkV m ρ c) (wvV m ρ c) = r3 ∧ k0_pay47 (xb m ρ c 2) (wvV m ρ c) = r4 ∧ k0_pay48 (xb m ρ c 2) (wqV m ρ c) (wkV m ρ c) = r5) ⟨8, true, 2, 16, 9, 1, 1, 9, 1, 1, 0, 1⟩ := by
  rw [k0_part21_eq_skeleton]
  refine Tri.agSend 0 7 ?_; refine Tri.loadX 2 ?_; refine Tri.loadWq ?_; refine Tri.loadWk ?_
  refine Tri.loadWv ?_; exact Tri.ret _ ⟨rfl, rfl, rfl, rfl, rfl, rfl⟩

/-- Part 22: arithmetic alone. -/
theorem run_part22 (v628 v631 v634 : FVec F S256x1024 .f32) (v654 : FVec F S256x128 .f32) (v656 : FVec F S256x256 .f32) :
    Tri m ρ K c ⟨8, true, 2, 16, 9, 1, 1, 9, 1, 1, 0, 1⟩ (onRefs (k0_part22 (F := F)) v628 v631 v634 v654 v656) (fun ⟨r0, r1, r2⟩ => k0_pay49 v654 v656 = r0 ∧ k0_pay50 v628 v631 v634 = r1 ∧ k0_pay51 v628 v631 v634 = r2) ⟨8, true, 2, 16, 9, 1, 1, 9, 1, 1, 0, 1⟩ := by
  rw [k0_part22_eq_skeleton]
  exact Tri.ret _ ⟨rfl, rfl, rfl⟩

/-- Part 23: arithmetic alone. -/
theorem run_part23 (v628 v631 v634 : FVec F S256x1024 .f32) :
    Tri m ρ K c ⟨8, true, 2, 16, 9, 1, 1, 9, 1, 1, 0, 1⟩ (onRefs (k0_part23 (F := F)) v628 v631 v634) (fun ⟨r0, r1, r2, r3⟩ => k0_pay52 v628 v631 v634 = r0 ∧ k0_pay53 v628 v631 v634 = r1 ∧ k0_pay54 v634 = r2 ∧ k0_pay55 v628 v631 = r3) ⟨8, true, 2, 16, 9, 1, 1, 9, 1, 1, 0, 1⟩ := by
  rw [k0_part23_eq_skeleton]
  exact Tri.ret _ ⟨rfl, rfl, rfl, rfl⟩

/-- Part 24: a load of an input, the store of a batch's partial output, a reduce-scatter copy. -/
theorem run_part24 (v2 : BitVec 32) (v628 v631 v634 : FVec F S256x1024 .f32) (v651 v668 v685 v702 v719 v736 v739 : FVec F S256x128 .f32) (v748 : FVec F S256x256 .f32)
    (h0 : k0_pay56 v628 v631 v634 v651 v668 v685 v702 v719 v736 v739 v748 (woV m ρ c) = att m ρ c 2) :
    Tri m ρ K c ⟨8, true, 2, 16, 9, 1, 1, 9, 1, 1, 0, 1⟩ (onRefs (k0_part24 (F := F)) c v2 v628 v631 v634 v651 v668 v685 v702 v719 v736 v739 v748) (fun _ => True) ⟨8, true, 3, 17, 9, 1, 1, 9, 1, 1, 0, 1⟩ := by
  rw [k0_part24_eq_skeleton]
  refine Tri.loadWo ?_; refine Tri.peekP 2 ?_; intro _; refine Tri.storeP 2 (hv := h0) ?_
  refine Tri.rsSend 2 0 ?_; exact Tri.ret _ trivial

/-- Part 25: 3 reduce-scatter copies. -/
theorem run_part25 (v2 v785 : BitVec 32) :
    Tri m ρ K c ⟨8, true, 3, 17, 9, 1, 1, 9, 1, 1, 0, 1⟩ (onRefs (k0_part25 (F := F)) c v2 v785) (fun _ => True) ⟨8, true, 3, 20, 9, 1, 1, 9, 1, 1, 0, 1⟩ := by
  rw [k0_part25_eq_skeleton]
  refine Tri.rsSend 2 1 ?_; refine Tri.rsSend 2 2 ?_; refine Tri.rsSend 2 3 ?_; exact Tri.ret _ trivial

/-- Part 26: 4 reduce-scatter copies. -/
theorem run_part26 (v2 v807 k0 : BitVec 32) :
    Tri m ρ K c ⟨8, true, 3, 20, 9, 1, 1, 9, 1, 1, 0, 1⟩ (onRefs (k0_part26 (F := F)) c v2 v807 k0) (fun _ => True) ⟨8, true, 3, 24, 9, 1, 1, 9, 1, 1, 0, 1⟩ := by
  rw [k0_part26_eq_skeleton]
  refine Tri.rsSend 2 4 ?_; refine Tri.rsSend 2 5 ?_; refine Tri.rsSend 2 6 ?_; refine Tri.rsSend 2 7 ?_
  exact Tri.ret _ trivial

/-- Part 27: 3 reduce-scatter landings. -/
theorem run_part27 (v2 v827 : BitVec 32) :
    Tri m ρ K c ⟨8, true, 3, 24, 9, 1, 1, 9, 1, 1, 0, 1⟩ (onRefs (k0_part27 (F := F)) v2 v827) (fun _ => True) ⟨8, true, 3, 24, 12, 1, 1, 9, 1, 1, 0, 1⟩ := by
  rw [k0_part27_eq_skeleton]
  refine Tri.rsRecv 1 1 ?_; refine Tri.rsRecv 1 2 ?_; refine Tri.rsRecv 1 3 ?_; exact Tri.ret _ trivial

/-- Part 28: 2 reduce-scatter landings. -/
theorem run_part28 (v2 : BitVec 32) :
    Tri m ρ K c ⟨8, true, 3, 24, 12, 1, 1, 9, 1, 1, 0, 1⟩ (onRefs (k0_part28 (F := F)) v2) (fun _ => True) ⟨8, true, 3, 24, 14, 1, 1, 9, 1, 1, 0, 1⟩ := by
  rw [k0_part28_eq_skeleton]
  refine Tri.rsRecv 1 4 ?_; refine Tri.rsRecv 1 5 ?_; exact Tri.ret _ trivial

/-- Part 29: 2 reduce-scatter landings, 4 loads of summands. -/
theorem run_part29 (v2 : BitVec 32) :
    Tri m ρ K c ⟨8, true, 3, 24, 14, 1, 1, 9, 1, 1, 0, 1⟩ (onRefs (k0_part29 (F := F)) c v2) (fun ⟨_, r1, r2⟩ => k0_pay57 (ldP m ρ c 1) (ldR m ρ c 1 1) (ldR m ρ c 1 2) = r1 ∧ (ldR m ρ c 1 3) = r2) ⟨8, true, 3, 24, 17, 1, 1, 9, 1, 1, 0, 1⟩ := by
  rw [k0_part29_eq_skeleton]
  refine Tri.rsRecv 1 6 ?_; refine Tri.rsRecv 1 7 ?_; refine Tri.loadOwn 1 ?_; refine Tri.loadR 1 1 ?_
  refine Tri.loadR 1 2 ?_; refine Tri.loadR 1 3 ?_; exact Tri.ret _ ⟨rfl, rfl⟩

/-- Part 30: 4 loads of summands, 2 stores of the sum. -/
theorem run_part30 (v2 v884 : BitVec 32) (v895 : FVec F S32x1024 .f32) (v896 : Vec F S1x1x32x1024 .bf16)
    (h0 : k0_pay58 v895 v896 (ldR m ρ c 1 4) (ldR m ρ c 1 5) (ldR m ρ c 1 6) (ldR m ρ c 1 7) = red m ρ c 1) (h1 : k0_pay59 v895 v896 (ldR m ρ c 1 4) (ldR m ρ c 1 5) (ldR m ρ c 1 6) (ldR m ρ c 1 7) = redG m ρ c 1) :
    Tri m ρ K c ⟨8, true, 3, 24, 17, 1, 1, 9, 1, 1, 0, 1⟩ (onRefs (k0_part30 (F := F)) c v2 v884 v895 v896) (fun _ => True) ⟨8, true, 3, 24, 17, 2, 2, 9, 1, 1, 0, 1⟩ := by
  rw [k0_part30_eq_skeleton]
  refine Tri.loadR 1 4 ?_; refine Tri.loadR 1 5 ?_; refine Tri.loadR 1 6 ?_; refine Tri.loadR 1 7 ?_
  refine Tri.peekOwn 1 ?_; intro _; refine Tri.storeOwn 1 (hv := h0) ?_; refine Tri.peekG 1 ?_; intro _
  refine Tri.storeG 1 (hv := h1) ?_; exact Tri.ret _ trivial

/-- Part 31: 2 all-gather copies. -/
theorem run_part31 (v2 v924 : BitVec 32) :
    Tri m ρ K c ⟨8, true, 3, 24, 17, 2, 2, 9, 1, 1, 0, 1⟩ (onRefs (k0_part31 (F := F)) c v2 v924) (fun _ => True) ⟨8, true, 3, 24, 17, 2, 2, 11, 1, 1, 0, 1⟩ := by
  rw [k0_part31_eq_skeleton]
  refine Tri.agSend 1 1 ?_; refine Tri.agSend 1 2 ?_; exact Tri.ret _ trivial

/-- Part 32: 2 all-gather copies. -/
theorem run_part32 (v2 v950 : BitVec 32) :
    Tri m ρ K c ⟨8, true, 3, 24, 17, 2, 2, 11, 1, 1, 0, 1⟩ (onRefs (k0_part32 (F := F)) c v2 v950) (fun _ => True) ⟨8, true, 3, 24, 17, 2, 2, 13, 1, 1, 0, 1⟩ := by
  rw [k0_part32_eq_skeleton]
  refine Tri.agSend 1 3 ?_; refine Tri.agSend 1 4 ?_; exact Tri.ret _ trivial

/-- Part 33: 2 all-gather copies. -/
theorem run_part33 (v2 v976 : BitVec 32) :
    Tri m ρ K c ⟨8, true, 3, 24, 17, 2, 2, 13, 1, 1, 0, 1⟩ (onRefs (k0_part33 (F := F)) c v2 v976) (fun _ => True) ⟨8, true, 3, 24, 17, 2, 2, 15, 1, 1, 0, 1⟩ := by
  rw [k0_part33_eq_skeleton]
  refine Tri.agSend 1 5 ?_; refine Tri.agSend 1 6 ?_; exact Tri.ret _ trivial

end Cert.Attn
-- ==== Proof.Parts4.lean ====
/-
# The fourth batch

The fourth batch and the sum of the third one, part by part.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 34: 4 loads of inputs, an all-gather copy. -/
theorem run_part34 (v1002 : BitVec 32) :
    Tri m ρ K c ⟨8, true, 3, 24, 17, 2, 2, 15, 1, 1, 0, 1⟩ (onRefs (k0_part34 (F := F)) c v1002) (fun ⟨r0, r1, r2, r3, r4⟩ => k0_pay61 (xb m ρ c 3) (wqV m ρ c) = r0 ∧ k0_pay62 (xb m ρ c 3) (wkV m ρ c) = r1 ∧ k0_pay63 (xb m ρ c 3) (wvV m ρ c) = r2 ∧ k0_pay65 (xb m ρ c 3) (wqV m ρ c) (wkV m ρ c) = r3 ∧ k0_pay66 (xb m ρ c 3) (wqV m ρ c) (wkV m ρ c) (wvV m ρ c) = r4) ⟨8, true, 3, 24, 17, 2, 2, 17, 1, 1, 0, 1⟩ := by
  rw [k0_part34_eq_skeleton]
  refine Tri.agSend 1 7 ?_; refine Tri.loadX 3 ?_; refine Tri.loadWq ?_; refine Tri.loadWk ?_
  refine Tri.loadWv ?_; exact Tri.ret _ ⟨rfl, rfl, rfl, rfl, rfl⟩

/-- Part 35: arithmetic alone. -/
theorem run_part35 (v1017 v1020 v1023 : FVec F S256x1024 .f32) (v1037 : FVec F S256x1 .f32) (v1038 : FVec F S256x128 .f32) :
    Tri m ρ K c ⟨8, true, 3, 24, 17, 2, 2, 17, 1, 1, 0, 1⟩ (onRefs (k0_part35 (F := F)) v1017 v1020 v1023 v1037 v1038) (fun ⟨r0, r1, r2, r3, r4⟩ => k0_pay67 v1037 v1038 = r0 ∧ k0_pay68 v1017 v1020 v1023 = r1 ∧ k0_pay69 v1017 v1020 v1023 = r2 ∧ k0_pay70 v1023 = r3 ∧ k0_pay71 v1017 v1020 = r4) ⟨8, true, 3, 24, 17, 2, 2, 17, 1, 1, 0, 1⟩ := by
  rw [k0_part35_eq_skeleton]
  exact Tri.ret _ ⟨rfl, rfl, rfl, rfl, rfl⟩

/-- Part 36: arithmetic alone. -/
theorem run_part36 (v1017 v1020 v1023 : FVec F S256x1024 .f32) (v1077 : FVec F S256x128 .f32) (v1085 : FVec F S256x256 .f32) :
    Tri m ρ K c ⟨8, true, 3, 24, 17, 2, 2, 17, 1, 1, 0, 1⟩ (onRefs (k0_part36 (F := F)) v1017 v1020 v1023 v1077 v1085) (fun ⟨r0, r1, r2, r3, r4, r5⟩ => k0_pay72 v1077 v1085 = r0 ∧ k0_pay73 v1017 v1020 v1023 = r1 ∧ k0_pay74 v1017 v1020 v1023 = r2 ∧ k0_pay75 v1023 = r3 ∧ k0_pay76 v1017 v1020 = r4 ∧ k0_pay77 (F := F) = r5) ⟨8, true, 3, 24, 17, 2, 2, 17, 1, 1, 0, 1⟩ := by
  rw [k0_part36_eq_skeleton]
  exact Tri.ret _ ⟨rfl, rfl, rfl, rfl, rfl, rfl⟩

/-- Part 37: a load of an input, the store of a batch's partial output. -/
theorem run_part37 (v2 : BitVec 32) (v1017 v1020 v1023 : FVec F S256x1024 .f32) (v1040 v1057 v1074 v1091 v1108 v1125 v1128 : FVec F S256x128 .f32) (v1130 v1131 : FVec F S256x256 .f32)
    (h0 : k0_pay78 v1017 v1020 v1023 v1040 v1057 v1074 v1091 v1108 v1125 v1128 v1130 v1131 (woV m ρ c) = att m ρ c 3) :
    Tri m ρ K c ⟨8, true, 3, 24, 17, 2, 2, 17, 1, 1, 0, 1⟩ (onRefs (k0_part37 (F := F)) v2 v1017 v1020 v1023 v1040 v1057 v1074 v1091 v1108 v1125 v1128 v1130 v1131) (fun _ => True) ⟨8, true, 4, 24, 17, 2, 2, 17, 1, 1, 0, 1⟩ := by
  rw [k0_part37_eq_skeleton]
  refine Tri.loadWo ?_; refine Tri.peekP 3 ?_; intro _; refine Tri.storeP 3 (hv := h0) ?_; exact Tri.ret _ trivial

/-- Part 38: 4 reduce-scatter copies. -/
theorem run_part38 (v2 v1172 : BitVec 32) :
    Tri m ρ K c ⟨8, true, 4, 24, 17, 2, 2, 17, 1, 1, 0, 1⟩ (onRefs (k0_part38 (F := F)) c v2 v1172) (fun _ => True) ⟨8, true, 4, 28, 17, 2, 2, 17, 1, 1, 0, 1⟩ := by
  rw [k0_part38_eq_skeleton]
  refine Tri.rsSend 3 0 ?_; refine Tri.rsSend 3 1 ?_; refine Tri.rsSend 3 2 ?_; refine Tri.rsSend 3 3 ?_
  exact Tri.ret _ trivial

/-- Part 39: 4 reduce-scatter copies. -/
theorem run_part39 (v2 v1194 : BitVec 32) :
    Tri m ρ K c ⟨8, true, 4, 28, 17, 2, 2, 17, 1, 1, 0, 1⟩ (onRefs (k0_part39 (F := F)) c v2 v1194) (fun _ => True) ⟨8, true, 4, 32, 17, 2, 2, 17, 1, 1, 0, 1⟩ := by
  rw [k0_part39_eq_skeleton]
  refine Tri.rsSend 3 4 ?_; refine Tri.rsSend 3 5 ?_; refine Tri.rsSend 3 6 ?_; refine Tri.rsSend 3 7 ?_
  exact Tri.ret _ trivial

/-- Part 40: 2 reduce-scatter landings. -/
theorem run_part40 (v2 : BitVec 32) :
    Tri m ρ K c ⟨8, true, 4, 32, 17, 2, 2, 17, 1, 1, 0, 1⟩ (onRefs (k0_part40 (F := F)) v2) (fun _ => True) ⟨8, true, 4, 32, 19, 2, 2, 17, 1, 1, 0, 1⟩ := by
  rw [k0_part40_eq_skeleton]
  refine Tri.rsRecv 2 1 ?_; refine Tri.rsRecv 2 2 ?_; exact Tri.ret _ trivial

/-- Part 41: 3 reduce-scatter landings. -/
theorem run_part41 (v2 : BitVec 32) :
    Tri m ρ K c ⟨8, true, 4, 32, 19, 2, 2, 17, 1, 1, 0, 1⟩ (onRefs (k0_part41 (F := F)) v2) (fun _ => True) ⟨8, true, 4, 32, 22, 2, 2, 17, 1, 1, 0, 1⟩ := by
  rw [k0_part41_eq_skeleton]
  refine Tri.rsRecv 2 3 ?_; refine Tri.rsRecv 2 4 ?_; refine Tri.rsRecv 2 5 ?_; exact Tri.ret _ trivial

/-- Part 42: 2 reduce-scatter landings, 3 loads of summands. -/
theorem run_part42 (v2 : BitVec 32) :
    Tri m ρ K c ⟨8, true, 4, 32, 22, 2, 2, 17, 1, 1, 0, 1⟩ (onRefs (k0_part42 (F := F)) c v2) (fun ⟨_, r1, r2⟩ => k0_pay79 (ldP m ρ c 2) (ldR m ρ c 2 1) = r1 ∧ (ldR m ρ c 2 2) = r2) ⟨8, true, 4, 32, 25, 2, 2, 17, 1, 1, 0, 1⟩ := by
  rw [k0_part42_eq_skeleton]
  refine Tri.rsRecv 2 6 ?_; refine Tri.rsRecv 2 7 ?_; refine Tri.loadOwn 2 ?_; refine Tri.loadR 2 1 ?_
  refine Tri.loadR 2 2 ?_; exact Tri.ret _ ⟨rfl, rfl⟩

/-- Part 43: 5 loads of summands, 2 stores of the sum. -/
theorem run_part43 (v2 v1273 : BitVec 32) (v1280 : FVec F S32x1024 .f32) (v1281 : Vec F S1x1x32x1024 .bf16)
    (h0 : k0_pay80 v1280 v1281 (ldR m ρ c 2 3) (ldR m ρ c 2 4) (ldR m ρ c 2 5) (ldR m ρ c 2 6) (ldR m ρ c 2 7) = red m ρ c 2) (h1 : k0_pay81 v1280 v1281 (ldR m ρ c 2 3) (ldR m ρ c 2 4) (ldR m ρ c 2 5) (ldR m ρ c 2 6) (ldR m ρ c 2 7) = redG m ρ c 2) :
    Tri m ρ K c ⟨8, true, 4, 32, 25, 2, 2, 17, 1, 1, 0, 1⟩ (onRefs (k0_part43 (F := F)) c v2 v1273 v1280 v1281) (fun _ => True) ⟨8, true, 4, 32, 25, 3, 3, 17, 1, 1, 0, 1⟩ := by
  rw [k0_part43_eq_skeleton]
  refine Tri.loadR 2 3 ?_; refine Tri.loadR 2 4 ?_; refine Tri.loadR 2 5 ?_; refine Tri.loadR 2 6 ?_
  refine Tri.loadR 2 7 ?_; refine Tri.peekOwn 2 ?_; intro _; refine Tri.storeOwn 2 (hv := h0) ?_
  refine Tri.peekG 2 ?_; intro _; refine Tri.storeG 2 (hv := h1) ?_; exact Tri.ret _ trivial

/-- Part 44: 2 all-gather copies. -/
theorem run_part44 (v2 v1312 k8 : BitVec 32) :
    Tri m ρ K c ⟨8, true, 4, 32, 25, 3, 3, 17, 1, 1, 0, 1⟩ (onRefs (k0_part44 (F := F)) c v2 v1312 k8) (fun _ => True) ⟨8, true, 4, 32, 25, 3, 3, 19, 1, 1, 0, 1⟩ := by
  rw [k0_part44_eq_skeleton]
  refine Tri.agSend 2 1 ?_; refine Tri.agSend 2 2 ?_; exact Tri.ret _ trivial

/-- Part 45: 2 all-gather copies. -/
theorem run_part45 (v2 v1338 k8 : BitVec 32) :
    Tri m ρ K c ⟨8, true, 4, 32, 25, 3, 3, 19, 1, 1, 0, 1⟩ (onRefs (k0_part45 (F := F)) c v2 v1338 k8) (fun _ => True) ⟨8, true, 4, 32, 25, 3, 3, 21, 1, 1, 0, 1⟩ := by
  rw [k0_part45_eq_skeleton]
  refine Tri.agSend 2 3 ?_; refine Tri.agSend 2 4 ?_; exact Tri.ret _ trivial

/-- Part 46: 2 all-gather copies. -/
theorem run_part46 (v2 v1364 k8 : BitVec 32) :
    Tri m ρ K c ⟨8, true, 4, 32, 25, 3, 3, 21, 1, 1, 0, 1⟩ (onRefs (k0_part46 (F := F)) c v2 v1364 k8) (fun _ => True) ⟨8, true, 4, 32, 25, 3, 3, 23, 1, 1, 0, 1⟩ := by
  rw [k0_part46_eq_skeleton]
  refine Tri.agSend 2 5 ?_; refine Tri.agSend 2 6 ?_; exact Tri.ret _ trivial

end Cert.Attn
-- ==== Proof.Parts5.lean ====
/-
# The results of the first two batches

The received sums of the first two batches and the sum of the fourth one, part by part.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 47: an all-gather copy, an all-gather landing. -/
theorem run_part47 (v2 v1390 k8 : BitVec 32) :
    Tri m ρ K c ⟨8, true, 4, 32, 25, 3, 3, 23, 1, 1, 0, 1⟩ (onRefs (k0_part47 (F := F)) c v2 v1390 k8) (fun ⟨_, r1, _⟩ => k0_pay82 (ldA m ρ c 0 1) = r1) ⟨8, true, 4, 32, 25, 3, 3, 25, 2, 1, 0, 1⟩ := by
  rw [k0_part47_eq_skeleton]
  refine Tri.agSend 2 7 ?_; refine Tri.agRecv 0 1 ?_; refine Tri.loadA 0 1 ?_; exact Tri.ret _ rfl

/-- Part 48: an all-gather landing, 2 stores of other devices' sums. -/
theorem run_part48 (v2 v1411 : BitVec 32) (v1414 : FVec F S32x1024 .f32) (k32 : BitVec 32)
    (h0 : v1414 = k0_pay82 (ldA m ρ c 0 1)) :
    Tri m ρ K c ⟨8, true, 4, 32, 25, 3, 3, 25, 2, 1, 0, 1⟩ (onRefs (k0_part48 (F := F)) c v2 v1411 v1414 k32) (fun _ => True) ⟨8, true, 4, 32, 25, 3, 3, 25, 3, 3, 0, 1⟩ := by
  rw [k0_part48_eq_skeleton]
  refine Tri.peekO 0 1 ?_; intro _; refine Tri.storeOther 0 1 (hv := h0) ?_; refine Tri.agRecv 0 2 ?_
  refine Tri.loadA 0 2 ?_; refine Tri.peekO 0 2 ?_; intro _; refine Tri.storeOther 0 2 ?_; exact Tri.ret _ trivial

/-- Part 49: 2 all-gather landings, a store of another device's sum. -/
theorem run_part49 (v2 v1436 k0 : BitVec 32) :
    Tri m ρ K c ⟨8, true, 4, 32, 25, 3, 3, 25, 3, 3, 0, 1⟩ (onRefs (k0_part49 (F := F)) c v2 v1436 k0) (fun _ => True) ⟨8, true, 4, 32, 25, 3, 3, 25, 5, 4, 0, 1⟩ := by
  rw [k0_part49_eq_skeleton]
  refine Tri.agRecv 0 3 ?_; refine Tri.loadA 0 3 ?_; refine Tri.peekO 0 3 ?_; intro _
  refine Tri.storeOther 0 3 ?_; refine Tri.agRecv 0 4 ?_; exact Tri.ret _ trivial

/-- Part 50: an all-gather landing, 2 stores of other devices' sums. -/
theorem run_part50 (v2 v1462 : BitVec 32) :
    Tri m ρ K c ⟨8, true, 4, 32, 25, 3, 3, 25, 5, 4, 0, 1⟩ (onRefs (k0_part50 (F := F)) c v2 v1462) (fun _ => True) ⟨8, true, 4, 32, 25, 3, 3, 25, 6, 6, 0, 1⟩ := by
  rw [k0_part50_eq_skeleton]
  refine Tri.loadA 0 4 ?_; refine Tri.peekO 0 4 ?_; intro _; refine Tri.storeOther 0 4 ?_
  refine Tri.agRecv 0 5 ?_; refine Tri.loadA 0 5 ?_; refine Tri.peekO 0 5 ?_; intro _
  refine Tri.storeOther 0 5 ?_; exact Tri.ret _ trivial

/-- Part 51: 2 all-gather landings, a store of another device's sum. -/
theorem run_part51 (v2 : BitVec 32) :
    Tri m ρ K c ⟨8, true, 4, 32, 25, 3, 3, 25, 6, 6, 0, 1⟩ (onRefs (k0_part51 (F := F)) c v2) (fun _ => True) ⟨8, true, 4, 32, 25, 3, 3, 25, 9, 7, 0, 1⟩ := by
  rw [k0_part51_eq_skeleton]
  refine Tri.agRecv 0 6 ?_; refine Tri.loadA 0 6 ?_; refine Tri.peekO 0 6 ?_; intro _
  refine Tri.storeOther 0 6 ?_; refine Tri.agRecv 0 7 ?_; exact Tri.ret _ trivial

/-- Part 52: an all-gather landing, a store of another device's sum. -/
theorem run_part52 (v2 : BitVec 32) :
    Tri m ρ K c ⟨8, true, 4, 32, 25, 3, 3, 25, 9, 7, 0, 1⟩ (onRefs (k0_part52 (F := F)) c v2) (fun r => (k0_pay89 (ldA m ρ c 1 1)) = r) ⟨8, true, 4, 32, 25, 3, 3, 25, 10, 9, 0, 1⟩ := by
  rw [k0_part52_eq_skeleton]
  refine Tri.loadA 0 7 ?_; refine Tri.peekO 0 7 ?_; intro _; refine Tri.storeOther 0 7 ?_
  refine Tri.agRecv 1 1 ?_; refine Tri.loadA 1 1 ?_; refine Tri.peekO 1 1 ?_; intro _; exact Tri.ret _ rfl

/-- Part 53: an all-gather landing, 2 stores of other devices' sums. -/
theorem run_part53 (v2 : BitVec 32) (v1533 : FVec F S32x1024 .f32)
    (h0 : v1533 = k0_pay82 (ldA m ρ c 1 1)) :
    Tri m ρ K c ⟨8, true, 4, 32, 25, 3, 3, 25, 10, 9, 0, 1⟩ (onRefs (k0_part53 (F := F)) c v2 v1533) (fun _ => True) ⟨8, true, 4, 32, 25, 3, 3, 25, 11, 11, 0, 1⟩ := by
  rw [k0_part53_eq_skeleton]
  refine Tri.storeOther 1 1 (hv := h0) ?_; refine Tri.agRecv 1 2 ?_; refine Tri.loadA 1 2 ?_
  refine Tri.peekO 1 2 ?_; intro _; refine Tri.storeOther 1 2 ?_; exact Tri.ret _ trivial

/-- Part 54: 2 all-gather landings, a store of another device's sum. -/
theorem run_part54 (v2 : BitVec 32) :
    Tri m ρ K c ⟨8, true, 4, 32, 25, 3, 3, 25, 11, 11, 0, 1⟩ (onRefs (k0_part54 (F := F)) c v2) (fun ⟨_, r1, _⟩ => k0_pay92 (ldA m ρ c 1 4) = r1) ⟨8, true, 4, 32, 25, 3, 3, 25, 13, 12, 0, 1⟩ := by
  rw [k0_part54_eq_skeleton]
  refine Tri.agRecv 1 3 ?_; refine Tri.loadA 1 3 ?_; refine Tri.peekO 1 3 ?_; intro _
  refine Tri.storeOther 1 3 ?_; refine Tri.agRecv 1 4 ?_; refine Tri.loadA 1 4 ?_; exact Tri.ret _ rfl

/-- Part 55: an all-gather landing, 2 stores of other devices' sums. -/
theorem run_part55 (v2 v1581 : BitVec 32) (v1584 : FVec F S32x1024 .f32) (k32 : BitVec 32)
    (h0 : v1584 = k0_pay82 (ldA m ρ c 1 4)) :
    Tri m ρ K c ⟨8, true, 4, 32, 25, 3, 3, 25, 13, 12, 0, 1⟩ (onRefs (k0_part55 (F := F)) c v2 v1581 v1584 k32) (fun _ => True) ⟨8, true, 4, 32, 25, 3, 3, 25, 14, 14, 0, 1⟩ := by
  rw [k0_part55_eq_skeleton]
  refine Tri.peekO 1 4 ?_; intro _; refine Tri.storeOther 1 4 (hv := h0) ?_; refine Tri.agRecv 1 5 ?_
  refine Tri.loadA 1 5 ?_; refine Tri.peekO 1 5 ?_; intro _; refine Tri.storeOther 1 5 ?_; exact Tri.ret _ trivial

/-- Part 56: 2 all-gather landings, a store of another device's sum. -/
theorem run_part56 (v2 v1606 k0 : BitVec 32) :
    Tri m ρ K c ⟨8, true, 4, 32, 25, 3, 3, 25, 14, 14, 0, 1⟩ (onRefs (k0_part56 (F := F)) c v2 v1606 k0) (fun _ => True) ⟨8, true, 4, 32, 25, 3, 3, 25, 17, 15, 0, 1⟩ := by
  rw [k0_part56_eq_skeleton]
  refine Tri.agRecv 1 6 ?_; refine Tri.loadA 1 6 ?_; refine Tri.peekO 1 6 ?_; intro _
  refine Tri.storeOther 1 6 ?_; refine Tri.agRecv 1 7 ?_; exact Tri.ret _ trivial

/-- Part 57: 2 reduce-scatter landings, a store of another device's sum. -/
theorem run_part57 (v2 v1632 : BitVec 32) :
    Tri m ρ K c ⟨8, true, 4, 32, 25, 3, 3, 25, 17, 15, 0, 1⟩ (onRefs (k0_part57 (F := F)) c v2 v1632) (fun _ => True) ⟨8, true, 4, 32, 27, 3, 3, 25, 17, 17, 0, 1⟩ := by
  rw [k0_part57_eq_skeleton]
  refine Tri.loadA 1 7 ?_; refine Tri.peekO 1 7 ?_; intro _; refine Tri.storeOther 1 7 ?_
  refine Tri.rsRecv 3 1 ?_; refine Tri.rsRecv 3 2 ?_; exact Tri.ret _ trivial

/-- Part 58: 2 reduce-scatter landings. -/
theorem run_part58 (v2 : BitVec 32) :
    Tri m ρ K c ⟨8, true, 4, 32, 27, 3, 3, 25, 17, 17, 0, 1⟩ (onRefs (k0_part58 (F := F)) v2) (fun _ => True) ⟨8, true, 4, 32, 29, 3, 3, 25, 17, 17, 0, 1⟩ := by
  rw [k0_part58_eq_skeleton]
  refine Tri.rsRecv 3 3 ?_; refine Tri.rsRecv 3 4 ?_; exact Tri.ret _ trivial

/-- Part 59: 3 reduce-scatter landings. -/
theorem run_part59 (v2 : BitVec 32) :
    Tri m ρ K c ⟨8, true, 4, 32, 29, 3, 3, 25, 17, 17, 0, 1⟩ (onRefs (k0_part59 (F := F)) v2) (fun _ => True) ⟨8, true, 4, 32, 33, 3, 3, 25, 17, 17, 0, 1⟩ := by
  rw [k0_part59_eq_skeleton]
  refine Tri.rsRecv 3 5 ?_; refine Tri.rsRecv 3 6 ?_; refine Tri.rsRecv 3 7 ?_; exact Tri.ret _ trivial

/-- Part 60: 8 loads of summands. -/
theorem run_part60 (v1697 : BitVec 32) :
    Tri m ρ K c ⟨8, true, 4, 32, 33, 3, 3, 25, 17, 17, 0, 1⟩ (onRefs (k0_part60 (F := F)) c v1697) (fun r => (k0_pay96 (ldP m ρ c 3) (ldR m ρ c 3 1) (ldR m ρ c 3 2) (ldR m ρ c 3 3) (ldR m ρ c 3 4) (ldR m ρ c 3 5) (ldR m ρ c 3 6) (ldR m ρ c 3 7)) = r) ⟨8, true, 4, 32, 33, 3, 3, 25, 17, 17, 0, 1⟩ := by
  rw [k0_part60_eq_skeleton]
  refine Tri.loadOwn 3 ?_; refine Tri.loadR 3 1 ?_; refine Tri.loadR 3 2 ?_; refine Tri.loadR 3 3 ?_
  refine Tri.loadR 3 4 ?_; refine Tri.loadR 3 5 ?_; refine Tri.loadR 3 6 ?_; refine Tri.loadR 3 7 ?_
  exact Tri.ret _ rfl

/-- Part 61: 2 stores of the sum, an all-gather copy. -/
theorem run_part61 (v2 : BitVec 32) (v1728 : FVec F S32x1024 .f32)
    (h0 : v1728 = red m ρ c 3) (h1 : k0_pay97 v1728 = redG m ρ c 3) :
    Tri m ρ K c ⟨8, true, 4, 32, 33, 3, 3, 25, 17, 17, 0, 1⟩ (onRefs (k0_part61 (F := F)) c v2 v1728) (fun _ => True) ⟨8, true, 4, 32, 33, 4, 4, 26, 17, 17, 0, 1⟩ := by
  rw [k0_part61_eq_skeleton]
  refine Tri.peekOwn 3 ?_; intro _; refine Tri.storeOwn 3 (hv := h0) ?_; refine Tri.peekG 3 ?_; intro _
  refine Tri.storeG 3 (hv := h1) ?_; refine Tri.agSend 3 1 ?_; exact Tri.ret _ trivial

end Cert.Attn
-- ==== Proof.Parts6.lean ====
/-
# The results of the last two batches and the last waits

The received sums of the last two batches and the waits for the copies to have left, part by part.
-/
module

public import proofs.«01_k».proof.Proof.Chain

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- Part 62: 2 all-gather copies. -/
theorem run_part62 (v2 : BitVec 32) :
    Tri m ρ K c ⟨8, true, 4, 32, 33, 4, 4, 26, 17, 17, 0, 1⟩ (onRefs (k0_part62 (F := F)) c v2) (fun _ => True) ⟨8, true, 4, 32, 33, 4, 4, 28, 17, 17, 0, 1⟩ := by
  rw [k0_part62_eq_skeleton]
  refine Tri.agSend 3 2 ?_; refine Tri.agSend 3 3 ?_; exact Tri.ret _ trivial

/-- Part 63: 2 all-gather copies. -/
theorem run_part63 (v2 : BitVec 32) :
    Tri m ρ K c ⟨8, true, 4, 32, 33, 4, 4, 28, 17, 17, 0, 1⟩ (onRefs (k0_part63 (F := F)) c v2) (fun _ => True) ⟨8, true, 4, 32, 33, 4, 4, 30, 17, 17, 0, 1⟩ := by
  rw [k0_part63_eq_skeleton]
  refine Tri.agSend 3 4 ?_; refine Tri.agSend 3 5 ?_; exact Tri.ret _ trivial

/-- Part 64: 2 all-gather copies. -/
theorem run_part64 (v2 : BitVec 32) :
    Tri m ρ K c ⟨8, true, 4, 32, 33, 4, 4, 30, 17, 17, 0, 1⟩ (onRefs (k0_part64 (F := F)) c v2) (fun _ => True) ⟨8, true, 4, 32, 33, 4, 4, 33, 17, 17, 0, 1⟩ := by
  rw [k0_part64_eq_skeleton]
  refine Tri.agSend 3 6 ?_; refine Tri.agSend 3 7 ?_; exact Tri.ret _ trivial

/-- Part 65: 2 all-gather landings, a store of another device's sum. -/
theorem run_part65 (v2 : BitVec 32) :
    Tri m ρ K c ⟨8, true, 4, 32, 33, 4, 4, 33, 17, 17, 0, 1⟩ (onRefs (k0_part65 (F := F)) c v2) (fun ⟨r0, _⟩ => k0_pay99 (ldA m ρ c 2 2) = r0) ⟨8, true, 4, 32, 33, 4, 4, 33, 19, 18, 0, 1⟩ := by
  rw [k0_part65_eq_skeleton]
  refine Tri.agRecv 2 1 ?_; refine Tri.loadA 2 1 ?_; refine Tri.peekO 2 1 ?_; intro _
  refine Tri.storeOther 2 1 ?_; refine Tri.agRecv 2 2 ?_; refine Tri.loadA 2 2 ?_; exact Tri.ret _ rfl

/-- Part 66: an all-gather landing, 2 stores of other devices' sums. -/
theorem run_part66 (v2 : BitVec 32) (v1855 : FVec F S32x1024 .f32) (v1857 : BitVec 32)
    (h0 : v1855 = k0_pay82 (ldA m ρ c 2 2)) :
    Tri m ρ K c ⟨8, true, 4, 32, 33, 4, 4, 33, 19, 18, 0, 1⟩ (onRefs (k0_part66 (F := F)) c v2 v1855 v1857) (fun _ => True) ⟨8, true, 4, 32, 33, 4, 4, 33, 20, 20, 0, 1⟩ := by
  rw [k0_part66_eq_skeleton]
  refine Tri.peekO 2 2 ?_; intro _; refine Tri.storeOther 2 2 (hv := h0) ?_; refine Tri.agRecv 2 3 ?_
  refine Tri.loadA 2 3 ?_; refine Tri.peekO 2 3 ?_; intro _; refine Tri.storeOther 2 3 ?_; exact Tri.ret _ trivial

/-- Part 67: 2 all-gather landings, a store of another device's sum. -/
theorem run_part67 (v2 : BitVec 32) :
    Tri m ρ K c ⟨8, true, 4, 32, 33, 4, 4, 33, 20, 20, 0, 1⟩ (onRefs (k0_part67 (F := F)) c v2) (fun ⟨_, r1⟩ => (ldA m ρ c 2 5) = r1) ⟨8, true, 4, 32, 33, 4, 4, 33, 22, 21, 0, 1⟩ := by
  rw [k0_part67_eq_skeleton]
  refine Tri.agRecv 2 4 ?_; refine Tri.loadA 2 4 ?_; refine Tri.peekO 2 4 ?_; intro _
  refine Tri.storeOther 2 4 ?_; refine Tri.agRecv 2 5 ?_; refine Tri.loadA 2 5 ?_; exact Tri.ret _ rfl

/-- Part 68: an all-gather landing, 2 stores of other devices' sums. -/
theorem run_part68 (v2 v1903 : BitVec 32) (v1904 : Vec F S1x1x32x1024 .bf16)
    (h0 : k0_pay102 v1904 = k0_pay82 (ldA m ρ c 2 5)) :
    Tri m ρ K c ⟨8, true, 4, 32, 33, 4, 4, 33, 22, 21, 0, 1⟩ (onRefs (k0_part68 (F := F)) c v2 v1903 v1904) (fun _ => True) ⟨8, true, 4, 32, 33, 4, 4, 33, 23, 23, 0, 1⟩ := by
  rw [k0_part68_eq_skeleton]
  refine Tri.peekO 2 5 ?_; intro _; refine Tri.storeOther 2 5 (hv := h0) ?_; refine Tri.agRecv 2 6 ?_
  refine Tri.loadA 2 6 ?_; refine Tri.peekO 2 6 ?_; intro _; refine Tri.storeOther 2 6 ?_; exact Tri.ret _ trivial

/-- Part 69: 2 all-gather landings, a store of another device's sum. -/
theorem run_part69 (v2 : BitVec 32) :
    Tri m ρ K c ⟨8, true, 4, 32, 33, 4, 4, 33, 23, 23, 0, 1⟩ (onRefs (k0_part69 (F := F)) c v2) (fun _ => True) ⟨8, true, 4, 32, 33, 4, 4, 33, 26, 25, 0, 1⟩ := by
  rw [k0_part69_eq_skeleton]
  refine Tri.agRecv 2 7 ?_; refine Tri.loadA 2 7 ?_; refine Tri.peekO 2 7 ?_; intro _
  refine Tri.storeOther 2 7 ?_; refine Tri.agRecv 3 1 ?_; exact Tri.ret _ trivial

/-- Part 70: an all-gather landing, 2 stores of other devices' sums. -/
theorem run_part70 (v2 v1953 k8 : BitVec 32) :
    Tri m ρ K c ⟨8, true, 4, 32, 33, 4, 4, 33, 26, 25, 0, 1⟩ (onRefs (k0_part70 (F := F)) c v2 v1953 k8) (fun _ => True) ⟨8, true, 4, 32, 33, 4, 4, 33, 27, 27, 0, 1⟩ := by
  rw [k0_part70_eq_skeleton]
  refine Tri.loadA 3 1 ?_; refine Tri.peekO 3 1 ?_; intro _; refine Tri.storeOther 3 1 ?_
  refine Tri.agRecv 3 2 ?_; refine Tri.loadA 3 2 ?_; refine Tri.peekO 3 2 ?_; intro _
  refine Tri.storeOther 3 2 ?_; exact Tri.ret _ trivial

/-- Part 71: an all-gather landing, a store of another device's sum. -/
theorem run_part71 (v2 : BitVec 32) :
    Tri m ρ K c ⟨8, true, 4, 32, 33, 4, 4, 33, 27, 27, 0, 1⟩ (onRefs (k0_part71 (F := F)) c v2) (fun _ => True) ⟨8, true, 4, 32, 33, 4, 4, 33, 28, 28, 0, 1⟩ := by
  rw [k0_part71_eq_skeleton]
  refine Tri.agRecv 3 3 ?_; refine Tri.loadA 3 3 ?_; refine Tri.peekO 3 3 ?_; intro _
  refine Tri.storeOther 3 3 ?_; exact Tri.ret _ trivial

/-- Part 72: 2 all-gather landings, a store of another device's sum. -/
theorem run_part72 (v2 : BitVec 32) :
    Tri m ρ K c ⟨8, true, 4, 32, 33, 4, 4, 33, 28, 28, 0, 1⟩ (onRefs (k0_part72 (F := F)) c v2) (fun ⟨r0, _⟩ => k0_pay109 (ldA m ρ c 3 5) = r0) ⟨8, true, 4, 32, 33, 4, 4, 33, 30, 29, 0, 1⟩ := by
  rw [k0_part72_eq_skeleton]
  refine Tri.agRecv 3 4 ?_; refine Tri.loadA 3 4 ?_; refine Tri.peekO 3 4 ?_; intro _
  refine Tri.storeOther 3 4 ?_; refine Tri.agRecv 3 5 ?_; refine Tri.loadA 3 5 ?_; exact Tri.ret _ rfl

/-- Part 73: an all-gather landing, 2 stores of other devices' sums. -/
theorem run_part73 (v2 : BitVec 32) (v2025 : FVec F S32x1024 .f32) (v2027 : BitVec 32)
    (h0 : v2025 = k0_pay82 (ldA m ρ c 3 5)) :
    Tri m ρ K c ⟨8, true, 4, 32, 33, 4, 4, 33, 30, 29, 0, 1⟩ (onRefs (k0_part73 (F := F)) c v2 v2025 v2027) (fun _ => True) ⟨8, true, 4, 32, 33, 4, 4, 33, 31, 31, 0, 1⟩ := by
  rw [k0_part73_eq_skeleton]
  refine Tri.peekO 3 5 ?_; intro _; refine Tri.storeOther 3 5 (hv := h0) ?_; refine Tri.agRecv 3 6 ?_
  refine Tri.loadA 3 6 ?_; refine Tri.peekO 3 6 ?_; intro _; refine Tri.storeOther 3 6 ?_; exact Tri.ret _ trivial

/-- Part 74: an all-gather landing, a store of another device's sum, 3 waits for copies to have left. -/
theorem run_part74 (v2 v189 v195 v201 v207 : BitVec 32) :
    Tri m ρ K c ⟨8, true, 4, 32, 33, 4, 4, 33, 31, 31, 0, 1⟩ (onRefs (k0_part74 (F := F)) c v2 v189 v195 v201 v207) (fun _ => True) ⟨8, true, 4, 32, 33, 4, 4, 33, 33, 33, 3, 1⟩ := by
  rw [k0_part74_eq_skeleton]
  refine Tri.agRecv 3 7 ?_; refine Tri.loadA 3 7 ?_; refine Tri.peekO 3 7 ?_; intro _
  refine Tri.storeOther 3 7 ?_; refine Tri.rsDone 0 0 ?_; refine Tri.rsDone 0 1 ?_; refine Tri.rsDone 0 2 ?_
  exact Tri.ret _ trivial

/-- Part 75: 6 waits for copies to have left. -/
theorem run_part75 (v213 v219 v225 v231 v392 v398 : BitVec 32) (v2073 : BitVec 1) :
    Tri m ρ K c ⟨8, true, 4, 32, 33, 4, 4, 33, 33, 33, 3, 1⟩ (onRefs (k0_part75 (F := F)) c v213 v219 v225 v231 v392 v398 v2073) (fun _ => True) ⟨8, true, 4, 32, 33, 4, 4, 33, 33, 33, 9, 1⟩ := by
  rw [k0_part75_eq_skeleton]
  refine Tri.rsDone 0 3 ?_; refine Tri.rsDone 0 4 ?_; refine Tri.rsDone 0 5 ?_; refine Tri.rsDone 0 6 ?_
  refine Tri.rsDone 0 7 ?_; refine Tri.rsDone 1 0 ?_; exact Tri.ret _ trivial

/-- Part 76: 6 waits for copies to have left. -/
theorem run_part76 (v404 v410 v416 v422 v428 v434 : BitVec 32) (v2091 : BitVec 1) :
    Tri m ρ K c ⟨8, true, 4, 32, 33, 4, 4, 33, 33, 33, 9, 1⟩ (onRefs (k0_part76 (F := F)) c v404 v410 v416 v422 v428 v434 v2091) (fun _ => True) ⟨8, true, 4, 32, 33, 4, 4, 33, 33, 33, 15, 1⟩ := by
  rw [k0_part76_eq_skeleton]
  refine Tri.rsDone 1 1 ?_; refine Tri.rsDone 1 2 ?_; refine Tri.rsDone 1 3 ?_; refine Tri.rsDone 1 4 ?_
  refine Tri.rsDone 1 5 ?_; refine Tri.rsDone 1 6 ?_; exact Tri.ret _ trivial

/-- Part 77: 6 waits for copies to have left. -/
theorem run_part77 (v781 v787 v793 v799 v805 v811 : BitVec 32) (v2109 : BitVec 1) :
    Tri m ρ K c ⟨8, true, 4, 32, 33, 4, 4, 33, 33, 33, 15, 1⟩ (onRefs (k0_part77 (F := F)) c v781 v787 v793 v799 v805 v811 v2109) (fun _ => True) ⟨8, true, 4, 32, 33, 4, 4, 33, 33, 33, 21, 1⟩ := by
  rw [k0_part77_eq_skeleton]
  refine Tri.rsDone 1 7 ?_; refine Tri.rsDone 2 0 ?_; refine Tri.rsDone 2 1 ?_; refine Tri.rsDone 2 2 ?_
  refine Tri.rsDone 2 3 ?_; refine Tri.rsDone 2 4 ?_; exact Tri.ret _ trivial

/-- Part 78: 6 waits for copies to have left. -/
theorem run_part78 (v817 v823 v1170 v1176 v1182 v1188 : BitVec 32) (v2127 : BitVec 1) :
    Tri m ρ K c ⟨8, true, 4, 32, 33, 4, 4, 33, 33, 33, 21, 1⟩ (onRefs (k0_part78 (F := F)) c v817 v823 v1170 v1176 v1182 v1188 v2127) (fun _ => True) ⟨8, true, 4, 32, 33, 4, 4, 33, 33, 33, 27, 1⟩ := by
  rw [k0_part78_eq_skeleton]
  refine Tri.rsDone 2 5 ?_; refine Tri.rsDone 2 6 ?_; refine Tri.rsDone 2 7 ?_; refine Tri.rsDone 3 0 ?_
  refine Tri.rsDone 3 1 ?_; refine Tri.rsDone 3 2 ?_; exact Tri.ret _ trivial

/-- Part 79: 5 waits for copies to have left. -/
theorem run_part79 (v1194 v1200 v1206 v1212 : BitVec 32) (v2145 : BitVec 1) :
    Tri m ρ K c ⟨8, true, 4, 32, 33, 4, 4, 33, 33, 33, 27, 1⟩ (onRefs (k0_part79 (F := F)) c v1194 v1200 v1206 v1212 v2145) (fun _ => True) ⟨8, true, 4, 32, 33, 4, 4, 33, 33, 33, 32, 1⟩ := by
  rw [k0_part79_eq_skeleton]
  refine Tri.rsDone 3 3 ?_; refine Tri.rsDone 3 4 ?_; refine Tri.rsDone 3 5 ?_; refine Tri.rsDone 3 6 ?_
  refine Tri.rsDone 3 7 ?_; exact Tri.ret _ trivial

/-- Part 80: 3 waits for copies to have left. -/
theorem run_part80 :
    Tri m ρ K c ⟨8, true, 4, 32, 33, 4, 4, 33, 33, 33, 32, 1⟩ (onRefs (k0_part80 (F := F))) (fun _ => True) ⟨8, true, 4, 32, 33, 4, 4, 33, 33, 33, 32, 4⟩ := by
  rw [k0_part80_eq_skeleton]
  refine Tri.agDone 0 1 ?_; refine Tri.agDone 0 2 ?_; refine Tri.agDone 0 3 ?_; exact Tri.ret _ trivial

/-- Part 81: 3 waits for copies to have left. -/
theorem run_part81 :
    Tri m ρ K c ⟨8, true, 4, 32, 33, 4, 4, 33, 33, 33, 32, 4⟩ (onRefs (k0_part81 (F := F))) (fun _ => True) ⟨8, true, 4, 32, 33, 4, 4, 33, 33, 33, 32, 7⟩ := by
  rw [k0_part81_eq_skeleton]
  refine Tri.agDone 0 4 ?_; refine Tri.agDone 0 5 ?_; refine Tri.agDone 0 6 ?_; exact Tri.ret _ trivial

/-- Part 82: 4 waits for copies to have left. -/
theorem run_part82 :
    Tri m ρ K c ⟨8, true, 4, 32, 33, 4, 4, 33, 33, 33, 32, 7⟩ (onRefs (k0_part82 (F := F))) (fun _ => True) ⟨8, true, 4, 32, 33, 4, 4, 33, 33, 33, 32, 12⟩ := by
  rw [k0_part82_eq_skeleton]
  refine Tri.agDone 0 7 ?_; refine Tri.agDone 1 1 ?_; refine Tri.agDone 1 2 ?_; refine Tri.agDone 1 3 ?_
  exact Tri.ret _ trivial

/-- Part 83: 3 waits for copies to have left. -/
theorem run_part83 :
    Tri m ρ K c ⟨8, true, 4, 32, 33, 4, 4, 33, 33, 33, 32, 12⟩ (onRefs (k0_part83 (F := F))) (fun _ => True) ⟨8, true, 4, 32, 33, 4, 4, 33, 33, 33, 32, 15⟩ := by
  rw [k0_part83_eq_skeleton]
  refine Tri.agDone 1 4 ?_; refine Tri.agDone 1 5 ?_; refine Tri.agDone 1 6 ?_; exact Tri.ret _ trivial

/-- Part 84: 3 waits for copies to have left. -/
theorem run_part84 :
    Tri m ρ K c ⟨8, true, 4, 32, 33, 4, 4, 33, 33, 33, 32, 15⟩ (onRefs (k0_part84 (F := F))) (fun _ => True) ⟨8, true, 4, 32, 33, 4, 4, 33, 33, 33, 32, 19⟩ := by
  rw [k0_part84_eq_skeleton]
  refine Tri.agDone 1 7 ?_; refine Tri.agDone 2 1 ?_; refine Tri.agDone 2 2 ?_; exact Tri.ret _ trivial

/-- Part 85: 3 waits for copies to have left. -/
theorem run_part85 :
    Tri m ρ K c ⟨8, true, 4, 32, 33, 4, 4, 33, 33, 33, 32, 19⟩ (onRefs (k0_part85 (F := F))) (fun _ => True) ⟨8, true, 4, 32, 33, 4, 4, 33, 33, 33, 32, 22⟩ := by
  rw [k0_part85_eq_skeleton]
  refine Tri.agDone 2 3 ?_; refine Tri.agDone 2 4 ?_; refine Tri.agDone 2 5 ?_; exact Tri.ret _ trivial

/-- Part 86: 3 waits for copies to have left. -/
theorem run_part86 :
    Tri m ρ K c ⟨8, true, 4, 32, 33, 4, 4, 33, 33, 33, 32, 22⟩ (onRefs (k0_part86 (F := F))) (fun _ => True) ⟨8, true, 4, 32, 33, 4, 4, 33, 33, 33, 32, 26⟩ := by
  rw [k0_part86_eq_skeleton]
  refine Tri.agDone 2 6 ?_; refine Tri.agDone 2 7 ?_; refine Tri.agDone 3 1 ?_; exact Tri.ret _ trivial

/-- Part 87: 3 waits for copies to have left. -/
theorem run_part87 :
    Tri m ρ K c ⟨8, true, 4, 32, 33, 4, 4, 33, 33, 33, 32, 26⟩ (onRefs (k0_part87 (F := F))) (fun _ => True) ⟨8, true, 4, 32, 33, 4, 4, 33, 33, 33, 32, 29⟩ := by
  rw [k0_part87_eq_skeleton]
  refine Tri.agDone 3 2 ?_; refine Tri.agDone 3 3 ?_; refine Tri.agDone 3 4 ?_; exact Tri.ret _ trivial

end Cert.Attn
-- ==== Proof.Body.lean ====
/-
# The body

The parts one after another: the whole body of the kernel on device `c`, from the state in which it is entered to the one in which it returns.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable {m ρ}
variable {K : Dev nD × CI → ℕ} {c : Dev nD} {α β : Type} {st' : St} {R : α → Prop} {nB nP nR nW nO nG nA nV nD' nF nE : ℕ} {w : Bool}

attribute [local irreducible] Tri

/-- The first sixty parts. -/
theorem run_part88 :
    Tri m ρ K c ⟨1, false, 0, 0, 1, 0, 0, 1, 1, 1, 0, 1⟩ (onRefs (k0_part88 (F := F)))
      (fun ⟨d0, _, _, _, _, _, _, _, _, _, _, _, _, _, _, _, _, _, _, _, _, _, _, _, _, _, _, _, _, _, _, _, _, _, v⟩ => c = d0 ∧ k0_pay96 (ldP m ρ c 3) (ldR m ρ c 3 1) (ldR m ρ c 3 2) (ldR m ρ c 3 3) (ldR m ρ c 3 4) (ldR m ρ c 3 5) (ldR m ρ c 3 6) (ldR m ρ c 3 7) = v) ⟨8, true, 4, 32, 33, 3, 3, 25, 17, 17, 0, 1⟩ := by
  rw [k0_part88_eq_skeleton]
  refine Tri.bind run_part1 ?_; rintro ⟨_, _, _, _, _⟩ ⟨rfl, rfl⟩
  refine Tri.bind (run_part2 _ _ _) ?_; rintro ⟨_, _, _, _, _⟩ ⟨rfl, rfl, rfl, rfl, rfl⟩
  refine Tri.bind (run_part3 _ _ _ _ _) ?_; rintro ⟨_, _, _, _, _⟩ ⟨rfl, rfl, rfl, rfl, rfl⟩
  refine Tri.bind (run_part4 _ _ _ _ _) ?_; rintro ⟨_, _, _, _, _, _⟩ ⟨rfl, rfl, rfl, rfl, rfl, rfl⟩
  refine Tri.bind (run_part5 _ _ _ _ _ _ _ _ _ _ _ _ _ rfl) ?_; rintro ⟨_, _⟩ -
  refine Tri.bind (run_part6 _ _ _) ?_; rintro ⟨_, _, _, _, _⟩ -
  refine Tri.bind (run_part7 _ _ _) ?_; rintro ⟨_, _, _, _⟩ -
  refine Tri.bind run_part8 ?_; rintro ⟨_, _, _, _, _, _⟩ ⟨rfl, rfl, rfl, rfl, rfl, rfl⟩
  refine Tri.bind (run_part9 _ _ _ _ _) ?_; rintro ⟨_, _, _, _, _, _⟩ ⟨rfl, rfl, rfl, rfl, rfl, rfl⟩
  refine Tri.bind (run_part10 _ _ _ _ _ _) ?_; rintro ⟨_, _, _, _, _⟩ ⟨rfl, rfl, rfl, rfl, rfl⟩
  refine Tri.bind (run_part11 _ _ _ _ _ _ _ _ _ _ _ rfl) ?_; rintro ⟨_, _, _⟩ -
  refine Tri.bind (run_part12 _ _) ?_; rintro ⟨_, _, _, _⟩ -
  refine Tri.bind (run_part13 _ _) ?_; rintro ⟨_, _⟩ -
  refine Tri.bind (run_part14 _) ?_; intro _ _
  refine Tri.bind (run_part15 _ _) ?_; intro _ _
  refine Tri.bind (run_part16 _) ?_; rintro ⟨_, _, _⟩ ⟨rfl, rfl⟩
  refine Tri.bind (run_part17 _ _ _ _ rfl rfl) ?_; intro _ _
  refine Tri.bind (run_part18 _) ?_; intro _ _
  refine Tri.bind (run_part19 _) ?_; intro _ _
  refine Tri.bind (run_part20 _) ?_; intro _ _
  refine Tri.bind run_part21 ?_; rintro ⟨_, _, _, _, _, _⟩ ⟨rfl, rfl, rfl, rfl, rfl, rfl⟩
  refine Tri.bind (run_part22 _ _ _ _ _) ?_; rintro ⟨_, _, _⟩ ⟨rfl, rfl, rfl⟩
  refine Tri.bind (run_part23 _ _ _) ?_; rintro ⟨_, _, _, _⟩ ⟨rfl, rfl, rfl, rfl⟩
  refine Tri.bind (run_part24 _ _ _ _ _ _ _ _ _ _ _ _ rfl) ?_; rintro ⟨_, _⟩ -
  refine Tri.bind (run_part25 _ _) ?_; rintro ⟨_, _, _, _, _, _⟩ -
  refine Tri.bind (run_part26 _ _ _) ?_; rintro ⟨_, _, _, _⟩ -
  refine Tri.bind (run_part27 _ _) ?_; intro _ _
  refine Tri.bind (run_part28 _) ?_; intro _ _
  refine Tri.bind (run_part29 _) ?_; rintro ⟨_, _, _⟩ ⟨rfl, rfl⟩
  refine Tri.bind (run_part30 _ _ _ _ rfl rfl) ?_; intro _ _
  refine Tri.bind (run_part31 _ _) ?_; intro _ _
  refine Tri.bind (run_part32 _ _) ?_; intro _ _
  refine Tri.bind (run_part33 _ _) ?_; intro _ _
  refine Tri.bind (run_part34 _) ?_; rintro ⟨_, _, _, _, _⟩ ⟨rfl, rfl, rfl, rfl, rfl⟩
  refine Tri.bind (run_part35 _ _ _ _ _) ?_; rintro ⟨_, _, _, _, _⟩ ⟨rfl, rfl, rfl, rfl, rfl⟩
  refine Tri.bind (run_part36 _ _ _ _ _) ?_; rintro ⟨_, _, _, _, _, _⟩ ⟨rfl, rfl, rfl, rfl, rfl, rfl⟩
  refine Tri.bind (run_part37 _ _ _ _ _ _ _ _ _ _ _ _ _ rfl) ?_; rintro ⟨_, _⟩ -
  refine Tri.bind (run_part38 _ _) ?_; rintro ⟨_, _, _, _⟩ -
  refine Tri.bind (run_part39 _ _) ?_; rintro ⟨_, _, _⟩ -
  refine Tri.bind (run_part40 _) ?_; intro _ _
  refine Tri.bind (run_part41 _) ?_; intro _ _
  refine Tri.bind (run_part42 _) ?_; rintro ⟨_, _, _⟩ ⟨rfl, rfl⟩
  refine Tri.bind (run_part43 _ _ _ _ rfl rfl) ?_; rintro ⟨_, _⟩ -
  refine Tri.bind (run_part44 _ _ _) ?_; rintro ⟨_, _⟩ -
  refine Tri.bind (run_part45 _ _ _) ?_; rintro ⟨_, _⟩ -
  refine Tri.bind (run_part46 _ _ _) ?_; rintro ⟨_, _⟩ -
  refine Tri.bind (run_part47 _ _ _) ?_; rintro ⟨_, _, _⟩ rfl
  refine Tri.bind (run_part48 _ _ _ _ rfl) ?_; rintro ⟨_, _⟩ -
  refine Tri.bind (run_part49 _ _ _) ?_; intro _ _
  refine Tri.bind (run_part50 _ _) ?_; intro _ _
  refine Tri.bind (run_part51 _) ?_; intro _ _
  refine Tri.bind (run_part52 _) ?_; rintro _ rfl
  refine Tri.bind (run_part53 _ _ rfl) ?_; intro _ _
  refine Tri.bind (run_part54 _) ?_; rintro ⟨_, _, _⟩ rfl
  refine Tri.bind (run_part55 _ _ _ _ rfl) ?_; rintro ⟨_, _⟩ -
  refine Tri.bind (run_part56 _ _ _) ?_; intro _ _
  refine Tri.bind (run_part57 _ _) ?_; intro _ _
  refine Tri.bind (run_part58 _) ?_; intro _ _
  refine Tri.bind (run_part59 _) ?_; intro _ _
  refine Tri.bind (run_part60 _) ?_; rintro _ rfl
  exact Tri.ret _ ⟨rfl, rfl⟩

/-- The last twenty-seven parts. -/
theorem run_part89 (v2 v189 v195 v201 v207 v213 v219 v225 v231 v392 v398 v404 v410 v416 v422 v428 v434 v781 v787 v793 v799 v805 v811 v817 v823 v1170 v1176 v1182 v1188 v1194 v1200 v1206 v1212 : BitVec 32) (v : FVec F S32x1024 .f32) (h0 : v = red m ρ c 3) (h1 : k0_pay97 v = redG m ρ c 3) :
    Tri m ρ K c ⟨8, true, 4, 32, 33, 3, 3, 25, 17, 17, 0, 1⟩ (onRefs (k0_part89 (F := F)) c v2 v189 v195 v201 v207 v213 v219 v225 v231 v392 v398 v404 v410 v416 v422 v428 v434 v781 v787 v793 v799 v805 v811 v817 v823 v1170 v1176 v1182 v1188 v1194 v1200 v1206 v1212 v) (fun _ => True) ⟨8, true, 4, 32, 33, 4, 4, 33, 33, 33, 32, 31⟩ := by
  rw [k0_part89_eq_skeleton]
  refine Tri.bind (run_part61 _ _ h0 h1) ?_; intro _ _
  refine Tri.bind (run_part62 _) ?_; intro _ _
  refine Tri.bind (run_part63 _) ?_; intro _ _
  refine Tri.bind (run_part64 _) ?_; intro _ _
  refine Tri.bind (run_part65 _) ?_; rintro ⟨_, _⟩ rfl
  refine Tri.bind (run_part66 _ _ _ rfl) ?_; intro _ _
  refine Tri.bind (run_part67 _) ?_; rintro ⟨_, _⟩ rfl
  refine Tri.bind (run_part68 _ _ _ rfl) ?_; intro _ _
  refine Tri.bind (run_part69 _) ?_; rintro ⟨_, _⟩ -
  refine Tri.bind (run_part70 _ _ _) ?_; intro _ _
  refine Tri.bind (run_part71 _) ?_; intro _ _
  refine Tri.bind (run_part72 _) ?_; rintro ⟨_, _⟩ rfl
  refine Tri.bind (run_part73 _ _ _ rfl) ?_; intro _ _
  refine Tri.bind (run_part74 _ _ _ _ _) ?_; intro _ _
  refine Tri.bind (run_part75 _ _ _ _ _ _ _) ?_; intro _ _
  refine Tri.bind (run_part76 _ _ _ _ _ _ _) ?_; intro _ _
  refine Tri.bind (run_part77 _ _ _ _ _ _ _) ?_; intro _ _
  refine Tri.bind (run_part78 _ _ _ _ _ _ _) ?_; intro _ _
  refine Tri.bind (run_part79 _ _ _ _ _) ?_; intro _ _
  refine Tri.bind run_part80 ?_; intro _ _
  refine Tri.bind run_part81 ?_; intro _ _
  refine Tri.bind run_part82 ?_; intro _ _
  refine Tri.bind run_part83 ?_; intro _ _
  refine Tri.bind run_part84 ?_; intro _ _
  refine Tri.bind run_part85 ?_; intro _ _
  refine Tri.bind run_part86 ?_; intro _ _
  refine Tri.bind run_part87 ?_; intro _ _
  refine Tri.agDone 3 5 ?_; refine Tri.agDone 3 6 ?_; exact Tri.ret _ trivial

/-- The body. -/
theorem run_body :
    Tri m ρ K c ⟨1, false, 0, 0, 1, 0, 0, 1, 1, 1, 0, 1⟩ (onRefs (cc0__body (F := F))) (fun _ => True) ⟨8, true, 4, 32, 33, 4, 4, 33, 33, 33, 32, 33⟩ := by
  rw [cc0__body_eq_skeleton]
  refine Tri.bind run_part88 ?_; rintro ⟨_, _, _, _, _, _, _, _, _, _, _, _, _, _, _, _, _, _, _, _, _, _, _, _, _, _, _, _, _, _, _, _, _, _, _⟩ ⟨rfl, rfl⟩
  refine Tri.bind (run_part89 _ _ _ _ _ _ _ _ _ _ _ _ _ _ _ _ _ _ _ _ _ _ _ _ _ _ _ _ _ _ _ _ _ _ rfl rfl) ?_; intro _ _
  refine Tri.agDone 3 7 ?_; exact Tri.ret _ trivial

end Cert.Attn
-- ==== Proof.Run.lean ====
/-
# The run

From any memory with zero counters the program ends, on every device, with the result array at its computed contents,
the other arrays as they were and every counter at zero. Over any float values.
-/
module

public import proofs.«01_k».proof.Proof.Ends
public import proofs.«01_k».proof.Proof.Body
public import proofs.«01_k».proof.Proof.Gen.KernelIdeal.Launch
public import Idealize.ShloMosaic.Lib.Quiescent
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

/-- The launch has one step, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- What a device starts from. -/
def start (c : Dev nD) : sProp 𝕄 := iprop(G' m ρ c ∗ creds (F := F) c ∗ levAts L lv)
/-- What a device holds before the body, besides the staged arrays. -/
def Φ₀ (c : Dev nD) : sProp 𝕄 := iprop(start m ρ c ∗ Pipeline.scopedRest cfg0.spec c)
/-- What it ends with, besides the arrays. -/
def Φ₁ (c : Dev nD) : sProp 𝕄 := iprop(Pipeline.scopedRest cfg0.spec c ∗ bigSep Finset.univ fun q : CI => semVal (cellAt (c, q)) 0)

/-- The launch's data: what is staged, what comes back, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => wqV m ρ c
    | ⟨2, _⟩ => woV m ρ c
    | ⟨3, _⟩ => wkV m ρ c
    | ⟨4, _⟩ => wvV m ρ c
    | ⟨5, _⟩ => oF m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- Owning a whole buffer with known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer with known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Every input is fetched. -/
theorem fetch_in (w : Fin cfg0.W) (h : w.val < 5) : (cfg0.win w).fetch t₀ = true := by
  revert w; decide

/-- The staged `x` before the body, -/
theorem before_0 (c : Dev nD) (d) : (dats m ρ 0 c).before (0 : Fin 6) t₀ d = xV m ρ c := by
  unfold Dat.before; rw [if_pos (fetch_in 0 (by decide))]; rfl
/-- the staged `Wq`, -/
theorem before_1 (c : Dev nD) (d) : (dats m ρ 0 c).before (1 : Fin 6) t₀ d = wqV m ρ c := by
  unfold Dat.before; rw [if_pos (fetch_in 1 (by decide))]; rfl
/-- the staged `Wo`, -/
theorem before_2 (c : Dev nD) (d) : (dats m ρ 0 c).before (2 : Fin 6) t₀ d = woV m ρ c := by
  unfold Dat.before; rw [if_pos (fetch_in 2 (by decide))]; rfl
/-- the staged `Wk`, -/
theorem before_3 (c : Dev nD) (d) : (dats m ρ 0 c).before (3 : Fin 6) t₀ d = wkV m ρ c := by
  unfold Dat.before; rw [if_pos (fetch_in 3 (by decide))]; rfl
/-- and the staged `Wv`. -/
theorem before_4 (c : Dev nD) (d) : (dats m ρ 0 c).before (4 : Fin 6) t₀ d = wvV m ρ c := by
  unfold Dat.before; rw [if_pos (fetch_in 4 (by decide))]; rfl

section
attribute [local irreducible] cc0__body
/-- The program launched is the body on its buffers. -/
theorem body_eq : (defs₀ (F := F)) Proc.tc 0 (t₀, cfg0.slots t₀) = onRefs (cc0__body (F := F)) := rfl
end

/-- The body does what the launch needs of it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  rw [body_eq, show (dats m ρ 0 c).Φ t₀.castSucc = Φ₀ m ρ c from rfl, show (dats m ρ 0 c).Φ t₀.succ = Φ₁ (F := F) c from rfl]
  unfold Φ₀ start G'
  iintro ⟨⟨⟨⟨%K, #HP, Hl⟩, Hc, #HL⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  unfold Dat.owesAt Pipeline.owesWithin
  icases Ho with ⟨%W, %hW, HO⟩
  rw [show (dats m ρ 0 c).owed t₀.castSucc = O₀ c from rfl]
  ihave HS := (ST_init m ρ c W) $$ [HO Hl Hc Hs H0 H1 H2 H3 H4 H5]
  · isplitl [HO]; · iexact HO
    isplitl [Hl]; · iexact Hl
    isplitl [Hc]; · iexact Hc
    isplitl [H0 H1 H2 H3 H4]
    · unfold INS
      isplitl [H0]; · rw [show xV m ρ c = g0 from (h0.trans (before_0 m ρ c d0)).symm]; iexact H0
      isplitl [H1]; · rw [show wqV m ρ c = g1 from (h1.trans (before_1 m ρ c d1)).symm]; iexact H1
      isplitl [H2]; · rw [show woV m ρ c = g2 from (h2.trans (before_2 m ρ c d2)).symm]; iexact H2
      isplitl [H3]; · rw [show wkV m ρ c = g3 from (h3.trans (before_3 m ρ c d3)).symm]; iexact H3
      rw [show wvV m ρ c = g4 from (h4.trans (before_4 m ρ c d4)).symm]; iexact H4
    isplitl [Hs]; · iexact Hs
    iexists g5; iexact H5
  have hR : iprop(Pers m ρ K ∗ levAts L lv) ⊢ Recs m ρ K := by
    unfold Pers Recs
    iintro ⟨⟨H1, H2⟩, H3⟩
    isplitl [H1]; · iexact H1
    isplitl [H2]; · iexact H2
    iexact H3
  ihave #HR := hR $$ []
  · isplitr; · iexact HP
    iexact HL
  iapply (wp_fupd frame (wpE (defs₀ (F := F)) 𝒱₀ c none) Set.univ (onRefs (cc0__body (F := F))) _)
  iapply (run_body (m := m) (ρ := ρ) (K := K) (c := c) _)
  isplitr; · iexact HR
  isplitl [HS]; · iexact HS
  iintro %r - HS
  imod (ST_fin m ρ K c) $$ [HS] with ⟨⟨%W', HO⟩, HI, Hs, HD, Hz⟩
  · isplitr; · iexact HR
    iexact HS
  imodintro
  unfold Φ₁ INS
  icases HI with ⟨H0, H1, H2, H3, H4⟩
  isplitl [Hs Hz]
  · isplitl [Hs]; · iexact Hs
    iexact Hz
  isplitl [HO]
  · iexists W'
    isplitr; · ipureintro; exact fun _ _ => Or.inl trivial
    rw [show (dats m ρ 0 c).owed t₀.succ = 0 from rfl]
    iexact HO
  isplitl [H0]; · iexists (xV m ρ c); isplitr; · ipureintro; rfl
                  iexact H0
  isplitl [H1]; · iexists (wqV m ρ c); isplitr; · ipureintro; rfl
                  iexact H1
  isplitl [H2]; · iexists (woV m ρ c); isplitr; · ipureintro; rfl
                  iexact H2
  isplitl [H3]; · iexists (wkV m ρ c); isplitr; · ipureintro; rfl
                  iexact H3
  isplitl [H4]; · iexists (wvV m ρ c); isplitr; · ipureintro; rfl
                  iexact H4
  iexists (oF m ρ c); isplitr; · ipureintro; rfl
  iexact HD

/-- Every array is held whole. -/
theorem share_eq (c : Dev nD) (w : Fin cfg0.W) : (dats m ρ 0 c).share w = fullShare := by unfold Dat.share; split <;> rfl

/-- The resources at launch. -/
def u₀ : UU := (initOf (Pipeline.cells cfgs cellOf_inj) (Pipeline.launchToks cfgs cellOf_inj), initOf allCells allToks)

/-- What a device starts from is there, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, HC, -, HG⟩
  ihave HC := (creds_intro (F := F) c) $$ HC
  imodintro
  unfold start
  isplitl
  · isplitl [HG]; · iexact HG
    isplitl [HC]; · iexact HC
    iexact HL
  · iempintro

/-- what the body starts from too, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨HS, -, HR⟩
  isplitl [HS]; · iexact HS
  iexact HR

/-- and what the body leaves suffices. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  rw [sems_eq]
  iintro ⟨HR, HU, HS⟩
  isplitl [HU]; · iexact HU
  isplitl [HS]; · iexact HS
  iexact HR

/-- The staging's counters have the lowest level. -/
theorem lv_stage (c : Dev nD) (w : Fin cfg0.W) (s) : lv ((c : Thread nD τ), .dma ((cfg0.spec w).sem s)) () = 0 := by
  have h : ∀ w s, ((cfg0.spec w).sem s).val < 6 := by decide
  exact if_pos (h w s)

/-- No staging copy is waited on ahead of a debt. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 1 0 1 0 (by rw [lv_stage]) (fun _ _ => by omega) (fun _ _ => by omega) (fun _ _ => by omega)
    · exact (to_emp _).trans (Entails.of_eq (MayWait_zero _ _ _).symm)

/-! ## The run -/

/-- What an array holds at the end. -/
def finalA (c : Dev nD) (w : Fin cfg0.W) : Buf (Elt F) ((cfg0.win w).arr.view.loc (c : Thread nD τ)) := (dats m ρ 0 c).arrAt w cfg0.N

/-- What the run ends in. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair run of the program ends, and in every final state each device's
    arrays are the computed ones and every counter is zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) ?_ ?_ ?_ ?_ ?_ ?_ (O₀ := O₀) ?_ ?_ (L := L) (lv := lv) ?_ ?_ (G := G m ρ) (G' := G' m ρ) (u₀ := u₀)
    ?_ ?_ ?_ ?_ (X := start m ρ) (Y := fun c => unscopedSems0 c) (Z := fun _ => iprop(emp)) ?_ ?_ ?_
    (QY := fun c s => ∀ sm : SemLoc sig, sm.isScoped .tc = false → s.sem ((c.tc : Thread nD τ), sm) = 0) ?_ ?_
  · exact fun c => (body_obligation m ρ c).loose
  · exact fun w => by fin_cases w <;> exact Nat.succ_pos _
  · exact arr_whole0
  · exact stage_whole0
  · exact share_eq m ρ
  · exact winFacts0.arr_inj
  · exact fun _ => rfl
  · exact fun _ => rfl
  · exact L_of_ne
  · exact waits m ρ
  · unfold u₀
    iintro Hu
    ihave H := (ownU_pair _ _) $$ Hu
    icases H with ⟨HP, HX⟩
    imod (fund_cells m ρ) $$ HX with HG
    imodintro
    isplitl [HP] <;> iassumption
  · exact glob m ρ
  · exact fun _ _ => rfl
  · exact fun _ k => k.elim0
  · exact start_intro m ρ
  · exact phi0_intro m ρ
  · exact phi1_exit m ρ
  · intro c s'
    iintro ⟨Hu, -, HSI⟩
    iapply (Pipeline.unscopedSems0_read (X := unscopedSems0 c) (c := c) fupd_intro s')
    isplitl [Hu] <;> iassumption
  · exact fun _ h hs => ⟨fun c w => (h c).1 w, sem_eq_zero hs fun c => (h c).2.2⟩
/-! ## Reading the arrays -/

/-- The one write-back covers the whole result array. -/
theorem finalA_out (c : Dev nD) : finalA m ρ c (5 : Fin 6) = oF m ρ c := by
  have hr : ((cfg0.win (5 : Fin 6)).blk t₀).view.read (Elt F) (oF m ρ c : Buf (Elt F) ((cfg0.win (5 : Fin 6)).arr.view.loc (c : Thread nD τ))) = oF m ρ c := by
    funext y
    have hy : ((cfg0.win (5 : Fin 6)).blk t₀).view.emb y = y := by
      funext a; fin_cases a <;> exact Fin.ext (by show 0 + 1 * (y _).val = _; omega)
    show oF m ρ c (((cfg0.win (5 : Fin 6)).blk t₀).view.emb y) = _
    rw [hy]
  refine (dats m ρ 0 c).arrAt_eq_of_cover (5 : Fin 6) (oF m ρ c) (fun t _ => ?_) fun i => ⟨t₀, by decide, ?_⟩
  · rw [fin_N t]; exact hr.symm
  · have hi : ((cfg0.win (5 : Fin 6)).blk t₀).view.emb i = i := by
      funext a; fin_cases a <;> exact Fin.ext (by show 0 + 1 * (i _).val = _; omega)
    have h := ((cfg0.win (5 : Fin 6)).blk t₀).view.emb_mem_set i
    rwa [hi] at h

/-- The run's end: on every device the result array holds `oF`, the arguments are as they were, and every counter is zero. -/
theorem run_value : θ_run defs (onTc (τ := τ) (main (F := F))) (s₀ m ρ) (fun r => (∀ c : Dev nD,
      r.2.mem ((c.tc : Thread nD τ).loc main_v1) = oF m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c (5 : Fin 6)).trans (finalA_out m ρ c),
    (h.1 c (0 : Fin 6)).trans ((dats (F := F) m ρ 0 c).arrAt_in (0 : Fin 6) rfl _),
    (h.1 c (1 : Fin 6)).trans ((dats (F := F) m ρ 0 c).arrAt_in (1 : Fin 6) rfl _),
    (h.1 c (3 : Fin 6)).trans ((dats (F := F) m ρ 0 c).arrAt_in (3 : Fin 6) rfl _),
    (h.1 c (4 : Fin 6)).trans ((dats (F := F) m ρ 0 c).arrAt_in (4 : Fin 6) rfl _),
    (h.1 c (2 : Fin 6)).trans ((dats (F := F) m ρ 0 c).arrAt_in (2 : Fin 6) rfl _)⟩, h.2⟩) (run_main m ρ)

end Cert.Attn
-- ==== Proof.Frames.lean ====
/-
# The frames

Each program runs to its end with its arguments as they were and every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Attn

open Idealize.ShloMosaic Idealize.SL.Sem

/-- The two printings of the kernel have one table of bodies. -/
theorem bodies_same : (Cert.Kernel.defs₀ (F := Bits) : Defs Cert.Kernel.nD Cert.Kernel.τ Cert.Kernel.sig (Elt Bits) Cert.Kernel.Λ₀)
    = Cert.KernelIdeal.defs₀ (F := Bits) := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))

/-- The two programs have the same launch bodies. -/
theorem defs_same : Cert.Kernel.defs (F := Bits) = Cert.KernelIdeal.defs (F := Bits) :=
  congrArg (Pipeline.defs (Cert.Kernel.pcfgs (F := Bits))) bodies_same

/-- The kernel at floats as bits. -/
theorem frame_kernel : Cert.quiescent_Kernel := fun m ρ _ => by
  rw [defs_same]
  exact (θ_run Cert.KernelIdeal.defs _ _).mono (fun _ h => ⟨fun c => (h.1 c).2, h.2⟩) (run_value (F := Bits) m ρ)

/-- The kernel at extended reals. -/
theorem frame_ideal : Cert.quiescent_KernelIdeal := fun m ρ _ =>
  (θ_run Cert.KernelIdeal.defs _ _).mono (fun _ h => ⟨fun c => (h.1 c).2, h.2⟩) (run_value (F := Ideal) m ρ)

/-- The reference: it has no counter. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Attn
-- ==== Proof.Head.lean ====
/-
# One head of the attention, over the extended reals

`headAt q k v` is the softmax attention of one head: scores are scaled products of rows of `q` and `k`, the weights are
their exponentials against the greatest score of the row, and the result is the weighted sum of the rows of `v` over the
sum of the weights. `headK` is the vector program that the kernel runs for each of its eight heads; at an index it is
`headAt` of the entries.
-/
module

public import proofs.«01_k».proof.Proof.Gen.KernelIdeal.Skeleton
public import Idealize.ShloMosaic.Lib.Pointwise

@[expose] public section

noncomputable section

namespace Cert.Attn

open Cert.KernelIdeal Cert.KernelIdeal.Gen
open Idealize.ShloMosaic
open scoped BigOperators

/-! ## The mathematics -/

/-- The factor of the scores, about `1 / √128`. -/
def scale : EReal := Ideal.ofBits .f32 0x3DB504F3#32

/-- The scaled score of row `i` of the queries against row `j` of the keys. -/
def score (q k : Fin 256 → Fin 128 → EReal) (i j : Fin 256) : EReal := (∑ d, q i d * k j d) * scale

/-- The greatest score of row `i`. -/
def top (q k : Fin 256 → Fin 128 → EReal) (i : Fin 256) : EReal := (Finset.univ : Finset (Fin 256)).fold max ⊥ fun j => score q k i j

/-- The unnormalised weight of row `j` for row `i`. -/
def weight (q k : Fin 256 → Fin 128 → EReal) (i j : Fin 256) : EReal := Ideal.exp (score q k i j - top q k i)

/-- One head's result. -/
def headAt (q k v : Fin 256 → Fin 128 → EReal) (i : Fin 256) (d : Fin 128) : EReal :=
  Ideal.div (∑ j, weight q k i j * v j d) (∑ j, weight q k i j)

/-- The pattern of minus infinity is the least extended real. -/
theorem ofBits_negInf : Ideal.ofBits .f32 0xFF800000#32 = ⊥ := by
  simp [Ideal.ofBits, Ideal.ieee]

/-! ## The kernel's program for one head -/

section
variable {F : FTy → Type} [FloatOps F]

/-- The scaled scores. -/
def scoreK (q k : FVec F S256x128 .f32) : FVec F S256x256 .f32 :=
  mulf (matmul dot_S256x128_S128x256_S256x256_1_0_0_1_n_n none q (transpose S128x256 [1, 0] k transposes_S256x128_p1_0_S128x256)
    (constant S256x256 .f32 0x00000000#32)) (broadcast S256x256 (Scalar.ofBits .f32 0x3DB504F3#32))

/-- The weights. -/
def weightK (s : FVec F S256x256 .f32) : FVec F S256x256 .f32 :=
  exp (subf s (broadcastTo S256x256
    (shapeCast S256x1 (multiReduction .maximumf [1] S256 s 0xFF800000#32 reduces_S256x256_S256 (.inl rfl) rfl) shapeCasts_S256_S256x1)
    broadcasts_S256x1_S256x256))

/-- The weighted sum over the sum of the weights. -/
def mixK (p : FVec F S256x256 .f32) (v : FVec F S256x128 .f32) : FVec F S256x128 .f32 :=
  divf (matmul dot_S256x256_S256x128_S256x128_1_0_0_1_n_n none p v (constant S256x128 .f32 0x00000000#32))
    (broadcastTo S256x128
      (shapeCast S256x1 (multiReduction .add [1] S256 p 0x00000000#32 reduces_S256x256_S256 (.inl rfl) rfl) shapeCasts_S256_S256x1)
      broadcasts_S256x1_S256x128)

/-- One head. -/
def headK (q k v : FVec F S256x128 .f32) : FVec F S256x128 .f32 := mixK (weightK (scoreK q k)) v

end

/-- A matrix as a function of row and column. -/
abbrev mat {a b : ℕ} {φ : FTy} (x : FVec Ideal (⟨2, ![a, b]⟩ : Shape) φ) : Fin a → Fin b → EReal := fun i j => x (ix2 i j)

/-- The kernel's scores are `score`. -/
theorem scoreK_apply (q k : FVec Ideal S256x128 .f32) (i j : Fin 256) : scoreK q k (ix2 i j) = score (mat q) (mat k) i j := by
  unfold scoreK score mat scale
  pointwise

/-- The kernel's weights, at an index. -/
theorem weightK_apply (s : FVec Ideal S256x256 .f32) (i j : Fin 256) :
    weightK s (ix2 i j) = Ideal.exp (s (ix2 i j) - (Finset.univ : Finset (Fin 256)).fold max ⊥ fun j => s (ix2 i j)) := by
  unfold weightK
  pointwise
  rw [ofBits_negInf]

/-- The kernel's weighted sum over the sum of the weights, at an index. -/
theorem mixK_apply (p : FVec Ideal S256x256 .f32) (v : FVec Ideal S256x128 .f32) (i : Fin 256) (d : Fin 128) :
    mixK p v (ix2 i d) = Ideal.div (∑ j, p (ix2 i j) * v (ix2 j d)) (∑ j, p (ix2 i j)) := by
  unfold mixK
  pointwise

/-- The kernel's head is `headAt`. -/
theorem headK_apply (q k v : FVec Ideal S256x128 .f32) (i : Fin 256) (d : Fin 128) :
    headK q k v (ix2 i d) = headAt (mat q) (mat k) (mat v) i d := by
  unfold headK headAt weight top
  simp only [mixK_apply, weightK_apply, scoreK_apply]

end Cert.Attn

end
-- ==== Proof.Partial.lean ====
/-
# What a device computes of one batch

`attnOf` at an index: the sum over the device's eight heads, and over the 128 columns of each, of the head's result times
the row of the output weights. The eight heads are one program at eight places of the same operands.
-/
module

public import proofs.«01_k».proof.Proof.Base
public import proofs.«01_k».proof.Proof.Head

@[expose] public section

noncomputable section

namespace Cert.Attn

open Cert.KernelIdeal Cert.KernelIdeal.Gen
open Idealize.ShloMosaic
open scoped BigOperators

/-- A sum over `a * b` places, in `a` runs of `b`. -/
theorem sum_runs {M : Type} [AddCommMonoid M] (a b n : ℕ) (hn : n = a * b) (f : Fin n → M) :
    ∑ k, f k = ∑ i : Fin a, ∑ j : Fin b, f ⟨b * i.val + j.val, by
      subst hn
      calc b * i.val + j.val < b * i.val + b := Nat.add_lt_add_left j.isLt _
        _ = b * (i.val + 1) := (Nat.mul_succ _ _).symm
        _ ≤ b * a := Nat.mul_le_mul_left _ i.isLt
        _ = a * b := Nat.mul_comm _ _⟩ := by
  subst hn
  rw [← Equiv.sum_comp finProdFinEquiv f, Fintype.sum_prod_type]
  refine Finset.sum_congr rfl fun i _ => Finset.sum_congr rfl fun j _ => congrArg f (Fin.ext ?_)
  show j.val + b * i.val = b * i.val + j.val
  exact Nat.add_comm _ _

/-! ## One head from the activations and the weights -/

/-- A row of the activations times a column of the weights. -/
def proj {n : ℕ} (x : Fin 256 → Fin 1024 → EReal) (w : Fin 1024 → Fin n → EReal) (i : Fin 256) (d : Fin n) : EReal := ∑ e, x i e * w e d

/-- A head of given weights, applied to the activations. -/
def headX (x : Fin 256 → Fin 1024 → EReal) (wq wk wv : Fin 1024 → Fin 128 → EReal) : Fin 256 → Fin 128 → EReal :=
  headAt (proj x wq) (proj x wk) (proj x wv)

/-- Place `d` of head `h` among the device's 1024 columns. -/
def at8 (h : Fin 8) (d : Fin 128) : Fin 1024 := ⟨128 * h.val + d.val, by omega⟩

/-! ## The eight heads of the kernel -/

section
variable {F : FTy → Type} [FloatOps F]

/-- The columns of head `h`. -/
def colsK (h : Fin 8) (x : FVec F S256x1024 .f32) : FVec F S256x128 .f32 := fun i => x (ix2 (i 0) (at8 h (i 1)))

/-- The columns of head `h` of a matrix, at an index. -/
theorem slice_cols (h : Fin 8) (o : ℕ) (ho : o = 128 * h.val) (hs : S256x1024.Slices ![0, o] S256x128) (x : FVec F S256x1024 .f32) :
    extractStridedSlice S256x128 ![0, o] x hs = colsK h x := by
  subst ho
  funext j
  idx_vars j
  pointwise [colsK, at8]

/-- Head `h`, from the projections. -/
def headN (q k v : FVec F S256x1024 .f32) (h : Fin 8) : FVec F S256x128 .f32 := headK (colsK h q) (colsK h k) (colsK h v)

/-- The heads as the kernel lists them to be put side by side. -/
def listK (P : Fin 8 → FVec F S256x128 .f32) : List ((s : Shape) × (s.Idx → F .f32)) := List.ofFn fun n : Fin 8 => ⟨S256x128, P n⟩

/-- Eight heads side by side fill the 1024 columns. -/
theorem listK_ok (P : Fin 8 → FVec F S256x128 .f32) : Shape.Concatenates ((listK P).map (·.1)) S256x1024 1 :=
  concatenates_S256x128_S256x128_S256x128_S256x128_S256x128_S256x128_S256x128_S256x128_S256x1024_d1

/-- The heads side by side. -/
def catK (P : Fin 8 → FVec F S256x128 .f32) : FVec F S256x1024 .f32 := concatenate S256x1024 1 (listK P) (listK_ok P)

/-- The heads side by side, times the output weights. -/
def outK (X : FVec F S256x1024 .f32) (wo : Vec F S1024x1024 .f32) : FVec F S256x1024 .bf16 :=
  truncf .bf16 (matmul dot_S256x1024_S1024x1024_S256x1024_1_0_0_1_n_n none X wo (constant S256x1024 .f32 0x00000000#32)) bitsLt_bf16_f32

/-- A list of heads cut at the eight offsets is the list of the eight heads. -/
theorem listK_eq (q k v : FVec F S256x1024 .f32) (o : Fin 8 → ℕ) (ho : ∀ h, o h = 128 * h.val) (hs : ∀ h, S256x1024.Slices ![0, o h] S256x128) :
    (List.ofFn fun h : Fin 8 => (⟨S256x128, headK (extractStridedSlice S256x128 ![0, o h] q (hs h)) (extractStridedSlice S256x128 ![0, o h] k (hs h))
      (extractStridedSlice S256x128 ![0, o h] v (hs h))⟩ : (s : Shape) × (s.Idx → F .f32))) = listK (headN q k v) := by
  unfold listK headN
  refine congrArg List.ofFn (funext fun h => ?_)
  rw [slice_cols h (o h) (ho h) (hs h) q, slice_cols h (o h) (ho h) (hs h) k, slice_cols h (o h) (ho h) (hs h) v]

/-- Equal lists of vectors are laid side by side alike. -/
theorem concatenate_congr {t : Shape} {a : Fin t.rank} {α : Type} {xs ys : List ((s : Shape) × (s.Idx → α))} (e : xs = ys)
    (h : Shape.Concatenates (xs.map (·.1)) t a) (h' : Shape.Concatenates (ys.map (·.1)) t a) : concatenate t a xs h = concatenate t a ys h' := by
  subst e; rfl

end

/-- The heads side by side, at an index. -/
theorem catK_apply (P : Fin 8 → FVec Ideal S256x128 .f32) (i : Fin 256) (h : Fin 8) (d : Fin 128) : catK P (ix2 i (at8 h d)) = P h (ix2 i d) := by
  unfold catK
  refine concatenate_ofFn_apply (t := S256x1024) (1 : Fin 2) P (listK_ok P) rfl 128 rfl _ h ?_ _ ?_ ?_
  · show (128 * h.val + d.val) / 128 = h.val
    omega
  · show d.val = (128 * h.val + d.val) % 128
    omega
  · intro b hb
    match b with
    | ⟨0, _⟩ => rfl
    | ⟨1, _⟩ => exact absurd rfl hb

/-- The kernel's output product, at an index. -/
theorem outK_apply (X : FVec Ideal S256x1024 .f32) (wo : Vec Ideal S1024x1024 .f32) (i : Fin 256) (c : Fin 1024) :
    outK X wo (ix2 i c) = ∑ h : Fin 8, ∑ d : Fin 128, X (ix2 i (at8 h d)) * wo (ix2 (at8 h d) c) := by
  have e : outK X wo (ix2 i c) = ∑ k : Fin 1024, X (ix2 i k) * wo (ix2 k c) := by
    unfold outK
    pointwise
  exact e.trans (sum_runs 8 128 1024 rfl _)

/-- The projections at an index. -/
theorem projK_apply (x : Vec Ideal S1x256x1024 .f32) (w : Vec Ideal S1024x1024 .f32) (i : Fin 256) (d : Fin 1024) :
    k0_pay2 x w (ix2 i d) = proj (fun i e => x (ix3 0 i e)) (mat (φ := .f32) w) i d := by
  unfold k0_pay2 k0_pay1 proj mat
  pointwise

/-- The eight offsets. -/
def offs (h : Fin 8) : ℕ := ![0, 128, 256, 384, 512, 640, 768, 896] h

/-- Where head `h` starts. -/
theorem offs_eq (h : Fin 8) : offs h = 128 * h.val := by fin_cases h <;> rfl

/-- A head's columns lie in the matrix. -/
theorem offs_ok (h : Fin 8) : S256x1024.Slices ![0, offs h] S256x128 := by
  fin_cases h
  · exact slices_S256x1024_o0_0_S256x128
  · exact slices_S256x1024_o0_128_S256x128
  · exact slices_S256x1024_o0_256_S256x128
  · exact slices_S256x1024_o0_384_S256x128
  · exact slices_S256x1024_o0_512_S256x128
  · exact slices_S256x1024_o0_640_S256x128
  · exact slices_S256x1024_o0_768_S256x128
  · exact slices_S256x1024_o0_896_S256x128

/-- The kernel's program is the eight heads. -/
theorem attnOf_eq {F : FTy → Type} [FloatOps F] (x : Vec F S1x256x1024 .f32) (wq wk wv wo : Vec F S1024x1024 .f32) :
    attnOf x wq wk wv wo = outK (catK (headN (k0_pay2 x wq) (k0_pay2 x wk) (k0_pay2 x wv))) wo := by
  have e : attnOf x wq wk wv wo = shapeCast S256x1024 (outK (concatenate S256x1024 1
      (List.ofFn fun h : Fin 8 => (⟨S256x128, headK (extractStridedSlice S256x128 ![0, offs h] (k0_pay2 x wq) (offs_ok h))
        (extractStridedSlice S256x128 ![0, offs h] (k0_pay2 x wk) (offs_ok h))
        (extractStridedSlice S256x128 ![0, offs h] (k0_pay2 x wv) (offs_ok h))⟩ : (s : Shape) × (s.Idx → F .f32)))
        concatenates_S256x128_S256x128_S256x128_S256x128_S256x128_S256x128_S256x128_S256x128_S256x1024_d1)
      (shapeCast S1024x1024 wo shapeCasts_S1024x1024_S1024x1024)) shapeCasts_S256x1024_S256x1024 := rfl
  rw [e, shapeCast_self, shapeCast_self]
  exact congrArg (outK · wo) (concatenate_congr (listK_eq _ _ _ offs offs_eq offs_ok) _ _)

/-- **What a device computes of one batch**, at an index. -/
theorem attnOf_apply (x : Vec Ideal S1x256x1024 .f32) (wq wk wv wo : Vec Ideal S1024x1024 .f32) (i : Fin 256) (c : Fin 1024) :
    attnOf x wq wk wv wo (ix2 i c) = ∑ h : Fin 8, ∑ d : Fin 128,
      headX (fun i e => x (ix3 0 i e)) (fun e d => wq (ix2 e (at8 h d))) (fun e d => wk (ix2 e (at8 h d))) (fun e d => wv (ix2 e (at8 h d))) i d
        * wo (ix2 (at8 h d) c) := by
  rw [attnOf_eq, outK_apply]
  refine Finset.sum_congr rfl fun h _ => Finset.sum_congr rfl fun d _ => ?_
  rw [catK_apply]
  unfold headN headX
  rw [headK_apply]
  have p : ∀ w : Vec Ideal S1024x1024 .f32, mat (colsK h (k0_pay2 x w)) = proj (fun i e => x (ix3 0 i e)) (fun e d => w (ix2 e (at8 h d))) := fun w => by
    funext i d
    exact projK_apply x w i (at8 h d)
  rw [p, p, p]

end Cert.Attn

end
-- ==== Proof.Total.lean ====
/-
# What the kernel leaves, over the extended reals

The entry at row `i` of batch `b` is, on every device, the sum over the eight devices of their partial outputs there:
the rows of device `e` are summed by `e` itself, in the order in which the slots are numbered from `e`, and addition of
extended reals does not depend on the order. The format changes between are the identity.
-/
module

public import proofs.«01_k».proof.Proof.Init
public import proofs.«01_k».proof.Proof.Partial
public import Idealize.ShloMosaic.Lib.Pointwise.IndexBridge

@[expose] public section

noncomputable section

namespace Cert.Attn

open Cert.KernelIdeal Cert.KernelIdeal.Gen
open Idealize.ShloMosaic Idealize.ShloMosaic.TcCoe
open scoped BigOperators

variable (m : (ℓ : Loc nD τ sig) → Buf (Elt Ideal) ℓ) (ρ : Dev nD → PrngReg)

/-! ## The arguments of a device -/

/-- The activations. -/
abbrev xA (c : Dev nD) : S4x256x1024.Idx → EReal := m ((c.tc : Thread nD τ).loc main_arg0)
/-- The weight blocks. -/
abbrev qA (c : Dev nD) : S1024x1024.Idx → EReal := m ((c.tc : Thread nD τ).loc main_arg1)
/-- Its `Wk` block, -/
abbrev kA (c : Dev nD) : S1024x1024.Idx → EReal := m ((c.tc : Thread nD τ).loc main_arg2)
/-- its `Wv` block, -/
abbrev vA (c : Dev nD) : S1024x1024.Idx → EReal := m ((c.tc : Thread nD τ).loc main_arg3)
/-- and its `Wo` block. -/
abbrev oA (c : Dev nD) : S1024x1024.Idx → EReal := m ((c.tc : Thread nD τ).loc main_arg4)

/-- The staged inputs are the arguments. -/
theorem xV_eq (c : Dev nD) : xV m ρ c = xA m c := by
  funext y
  have hy : (win0_0.blk (0 : Fin 1)).view.emb y = y := by
    funext a; fin_cases a <;> exact Fin.ext (by show 0 + 1 * (y _).val = _; omega)
  show xA m c ((win0_0.blk (0 : Fin 1)).view.emb y) = _
  rw [hy]
/-- The staged `Wq` is the argument, -/
theorem wqV_eq (c : Dev nD) : wqV m ρ c = qA m c := by
  funext y
  have hy : (win0_1.blk (0 : Fin 1)).view.emb y = y := by
    funext a; fin_cases a <;> exact Fin.ext (by show 0 + 1 * (y _).val = _; omega)
  show qA m c ((win0_1.blk (0 : Fin 1)).view.emb y) = _
  rw [hy]
/-- the staged `Wo`, -/
theorem woV_eq (c : Dev nD) : woV m ρ c = oA m c := by
  funext y
  have hy : (win0_2.blk (0 : Fin 1)).view.emb y = y := by
    funext a; fin_cases a <;> exact Fin.ext (by show 0 + 1 * (y _).val = _; omega)
  show oA m c ((win0_2.blk (0 : Fin 1)).view.emb y) = _
  rw [hy]
/-- the staged `Wk`, -/
theorem wkV_eq (c : Dev nD) : wkV m ρ c = kA m c := by
  funext y
  have hy : (win0_3.blk (0 : Fin 1)).view.emb y = y := by
    funext a; fin_cases a <;> exact Fin.ext (by show 0 + 1 * (y _).val = _; omega)
  show kA m c ((win0_3.blk (0 : Fin 1)).view.emb y) = _
  rw [hy]
/-- and the staged `Wv`. -/
theorem wvV_eq (c : Dev nD) : wvV m ρ c = vA m c := by
  funext y
  have hy : (win0_4.blk (0 : Fin 1)).view.emb y = y := by
    funext a; fin_cases a <;> exact Fin.ext (by show 0 + 1 * (y _).val = _; omega)
  show vA m c ((win0_4.blk (0 : Fin 1)).view.emb y) = _
  rw [hy]

/-! ## The partial outputs -/

/-- Batch `b` of device `c`'s partial output. -/
def part (c : Dev nD) (b : Fin 4) (i : Fin 256) (col : Fin 1024) : EReal := ∑ h : Fin 8, ∑ d : Fin 128,
  headX (fun i e => xA m c (ix3 b i e)) (fun e d => qA m c (ix2 e (at8 h d))) (fun e d => kA m c (ix2 e (at8 h d)))
    (fun e d => vA m c (ix2 e (at8 h d))) i d * oA m c (ix2 (at8 h d) col)

/-- A loaded batch of `x`, at an index. -/
theorem xb_apply (c : Dev nD) (b : Fin 4) (i : Fin 256) (e : Fin 1024) : xb m ρ c b (ix3 0 i e) = xA m c (ix3 b i e) := by
  unfold xb
  rw [xV_eq]
  refine congrArg (xA m c) ?_
  funext a
  match a with
  | ⟨0, _⟩ => exact Fin.ext (by show b.val + 1 * 0 = b.val; omega)
  | ⟨1, _⟩ => exact Fin.ext (by show 0 + 1 * i.val = i.val; omega)
  | ⟨2, _⟩ => exact Fin.ext (by show 0 + 1 * e.val = e.val; omega)

/-- The partial output of a batch, at an index. -/
theorem att_apply (c : Dev nD) (b : Fin 4) (i : Fin 256) (col : Fin 1024) : att m ρ c b (ix2 i col) = part m c b i col := by
  unfold att part
  rw [attnOf_apply, wqV_eq, wkV_eq, wvV_eq, woV_eq]
  simp only [xb_apply]

/-- Row `r` of the 32 rows of device `e` in a batch. -/
def row32 (e : Fin 8) (r : Fin 32) : Fin 256 := ⟨32 * e.val + r.val, by omega⟩

/-- The partial-output buffer at a row of device `d`. -/
theorem pF_apply (c : Dev nD) (b : Fin 4) (d : Fin 8) (r : Fin 32) (col : Fin 1024) :
    pF m ρ c (ix2 (rowOf b d r) col) = part m c b (row32 d r) col := by
  rw [← att_apply m ρ]
  show att m ρ c ⟨(256 * b.val + 32 * d.val + r.val) / 256, _⟩
    (ValueIdx.ix2 (⟨(256 * b.val + 32 * d.val + r.val) % 256, _⟩ : Fin 256) col) = _
  rw [← ix2_eq_valueIdx]
  have hb : (256 * b.val + 32 * d.val + r.val) / 256 = b.val := by omega
  have hr : (256 * b.val + 32 * d.val + r.val) % 256 = 32 * d.val + r.val := by omega
  simp only [hb, hr, row32]

/-! ## The sums -/

/-- A device's own rows as loaded, at an index. -/
theorem ldP_apply (c : Dev nD) (b : Fin 4) (r : Fin 32) (col : Fin 1024) : ldP m ρ c b (ix2 r col) = part m c b (row32 c r) col := by
  rw [← pF_apply m ρ]
  refine congrArg (pF m ρ c) ?_
  funext a
  match a with
  | ⟨0, _⟩ => exact Fin.ext (by show 256 * b.val + 32 * c.val + 1 * r.val = 256 * b.val + 32 * c.val + r.val; omega)
  | ⟨1, _⟩ => exact Fin.ext (by show 0 + 1 * col.val = col.val; omega)

/-- A slot of a landing buffer, at an index. -/
theorem slot_idx (b : Fin 4) (j : Fin 8) (r : Fin 32) (col : Fin 1024) :
    (slotR b j).toLoadRect.idx (ix4 0 0 r col) = (ix4 b j r col : S4x8x32x1024.Idx) := by
  funext a
  match a with
  | ⟨0, _⟩ => exact Fin.ext (by show b.val + 1 * 0 = b.val; omega)
  | ⟨1, _⟩ => exact Fin.ext (by show j.val + 1 * 0 = j.val; omega)
  | ⟨2, _⟩ => exact Fin.ext (by show 0 + 1 * r.val = r.val; omega)
  | ⟨3, _⟩ => exact Fin.ext (by show 0 + 1 * col.val = col.val; omega)

/-- A received slot as loaded, at an index. -/
theorem ldR_apply (c : Dev nD) (b : Fin 4) (j : Fin 8) (r : Fin 32) (col : Fin 1024) :
    ldR m ρ c b j (ix4 0 0 r col) = part m (c + j) b (row32 c r) col := by
  have e : ldR m ρ c b j (ix4 0 0 r col) = rF m ρ c (ix4 b j r col) := congrArg (rF m ρ c) (slot_idx b j r col)
  rw [e, ← pF_apply m ρ, ix2_eq_valueIdx]
  rfl

/-- What device `e` sums. -/
theorem red_apply (e : Dev nD) (b : Fin 4) (r : Fin 32) (col : Fin 1024) :
    red m ρ e b (ix2 r col) = ∑ c : Dev nD, part m c b (row32 e r) col := by
  have h : red m ρ e b (ix2 r col) = ldP m ρ e b (ix2 r col) + ldR m ρ e b 1 (ix4 0 0 r col) + ldR m ρ e b 2 (ix4 0 0 r col)
      + ldR m ρ e b 3 (ix4 0 0 r col) + ldR m ρ e b 4 (ix4 0 0 r col) + ldR m ρ e b 5 (ix4 0 0 r col) + ldR m ρ e b 6 (ix4 0 0 r col)
      + ldR m ρ e b 7 (ix4 0 0 r col) := by
    unfold red k0_pay40 k0_pay39
    pointwise
  rw [h, ← Equiv.sum_comp (Equiv.addLeft (e : Fin 8)) (fun c => part m c b (row32 e r) col)]
  rw [Fin.sum_univ_eight]
  simp only [ldP_apply, ldR_apply, Equiv.coe_addLeft, add_zero]

/-- The sum as the all-gather sends it is the sum. -/
theorem redG_apply (e : Dev nD) (b : Fin 4) (r : Fin 32) (col : Fin 1024) : redG m ρ e b (ix3 0 r col) = red m ρ e b (ix2 r col) := by
  unfold redG red k0_pay41
  pointwise

/-- A gathered slot as loaded, at an index. -/
theorem ldA_apply (c : Dev nD) (b : Fin 4) (j : Fin 8) (r : Fin 32) (col : Fin 1024) :
    ldA m ρ c b j (ix4 0 0 r col) = red m ρ (c + j) b (ix2 r col) := by
  have e : ldA m ρ c b j (ix4 0 0 r col) = aF m ρ c (ix4 b j r col) := congrArg (aF m ρ c) (slot_idx b j r col)
  rw [e, ← redG_apply, ix3_eq_valueIdx]
  rfl

/-- The rows of device `e` in the result are what `e` summed, on every device. -/
theorem outC_apply (c : Dev nD) (b : Fin 4) (e : Fin 8) (r : Fin 32) (col : Fin 1024) :
    outC m ρ c b e (ix2 r col) = ∑ c' : Dev nD, part m c' b (row32 e r) col := by
  rw [← red_apply m ρ]
  unfold outC
  split
  · next h => subst h; rfl
  · have h : k0_pay82 (ldA m ρ c b (e - c)) (ix2 r col) = ldA m ρ c b (e - c) (ix4 0 0 r col) := by
      unfold k0_pay82
      pointwise
    rw [h, ldA_apply]
    rw [subSub e c]

/-- Row `i` of batch `b` in an array of 1024 rows. -/
def rowB (b : Fin 4) (i : Fin 256) : Fin 1024 := ⟨256 * b.val + i.val, by omega⟩

/-- **The kernel's result**, at an index, on every device. -/
theorem oF_apply (c : Dev nD) (b : Fin 4) (i : Fin 256) (col : Fin 1024) :
    oF m ρ c (ix2 (rowB b i) col) = ∑ c' : Dev nD, part m c' b i col := by
  show outC m ρ c ⟨(256 * b.val + i.val) / 256, _⟩ ⟨(256 * b.val + i.val) % 256 / 32, _⟩
    (ValueIdx.ix2 (⟨(256 * b.val + i.val) % 32, _⟩ : Fin 32) col) = _
  rw [← ix2_eq_valueIdx, outC_apply]
  have hb : (256 * b.val + i.val) / 256 = b.val := by omega
  have hr : 32 * ((256 * b.val + i.val) % 256 / 32) + (256 * b.val + i.val) % 32 = i.val := by omega
  simp only [hb, hr, row32]

end Cert.Attn

end
-- ==== Proof.RefValue.lean ====
/-
# What the reference computes, over the extended reals

The reference is one pass of a running softmax over all the keys at once: its correction of the empty running sums is a
product with zero, and the running maximum starts from minus infinity, the least extended real. What remains is `headAt`
for each of the 64 heads, then the output product over all their columns.
-/
module

public import proofs.«01_k».proof.Proof.Gen.ReferenceIdeal.Run
public import proofs.«01_k».proof.Proof.Partial

@[expose] public section

noncomputable section

namespace Cert.Attn.Ref

open Cert.ReferenceIdeal Cert.ReferenceIdeal.Gen
open Idealize.ShloMosaic Idealize.ShloMosaic.TcCoe
open scoped BigOperators

/-- Place `d` of head `h` among all the 8192 columns. -/
def at64 (h : Fin 64) (d : Fin 128) : Fin 8192 := ⟨128 * h.val + d.val, by omega⟩

/-! ## The stages of the reference -/

variable {F : FTy → Type} [FloatOps F]

/-- A projection, cut in heads. -/
def projR (x : FVec F S4x256x1024 .f32) (w : FVec F S1024x8192 .f32) : FVec F S4x256x64x128 .f32 :=
  shapeCast _ (Host.dotGeneral dot_S4x256x1024_S1024x8192_S4x256x8192_2_0_01_1_n_n none x w) shapeCasts_S4x256x8192_S4x256x64x128

/-- The scaled scores. -/
def scoreR (q k : FVec F S4x256x64x128 .f32) : FVec F S4x64x256x256 .f32 :=
  mulf (Host.dotGeneral dot_S4x256x64x128_S4x256x64x128_S4x64x256x256_3_3_1_1_02_02 none q k)
    (broadcastInDim S4x64x256x256 ![] bcast_S_S4x64x256x256 (constant S_ .f32 0x3DB504F3#32))

/-- The running maximum after the pass. -/
def topR (s : FVec F S4x64x256x256 .f32) : FVec F S4x64x256x1 .f32 :=
  maximumf (broadcastInDim S4x64x256x1 ![] bcast_S_S4x64x256x1 (constant S_ .f32 0xFF800000#32))
    (broadcastInDim S4x64x256x1 ![0, 1, 2] bcast_S4x64x256_S4x64x256x1_0_1_2
      (Host.reduce FloatOps.maximumf s (constant S_ .f32 0xFF800000#32) reducesTo_S4x64x256x256_S4x64x256_d3 h_S_))

/-- The correction of what was summed before. -/
def corrR (s : FVec F S4x64x256x256 .f32) : FVec F S4x64x256x1 .f32 :=
  Host.exp (subf (broadcastInDim S4x64x256x1 ![] bcast_S_S4x64x256x1 (constant S_ .f32 0xFF800000#32)) (topR s))

/-- The weights. -/
def weightR (s : FVec F S4x64x256x256 .f32) : FVec F S4x64x256x256 .f32 :=
  Host.exp (subf s (broadcastInDim S4x64x256x256 ![0, 1, 2, 3] bcast_S4x64x256x1_S4x64x256x256_0_1_2_3 (topR s)))

/-- The sum of the weights. -/
def sumR (s : FVec F S4x64x256x256 .f32) : FVec F S4x64x256x1 .f32 :=
  addf (mulf (broadcastInDim S4x64x256x1 ![] bcast_S_S4x64x256x1 (constant S_ .f32 0x00000000#32)) (corrR s))
    (broadcastInDim S4x64x256x1 ![0, 1, 2] bcast_S4x64x256_S4x64x256x1_0_1_2
      (Host.reduceAdd (weightR s) (constant S_ .f32 0x00000000#32) reducesTo_S4x64x256x256_S4x64x256_d3 h_S_))

/-- The weighted sum of the values. -/
def mixR (s : FVec F S4x64x256x256 .f32) (v : FVec F S4x256x64x128 .f32) : FVec F S4x256x64x128 .f32 :=
  addf (mulf (broadcastInDim S4x256x64x128 ![] bcast_S_S4x256x64x128 (constant S_ .f32 0x00000000#32))
      (broadcastInDim S4x256x64x128 ![0, 1, 2, 3] bcast_S4x256x64x1_S4x256x64x128_0_1_2_3
        (transpose S4x256x64x1 [0, 2, 1, 3] (corrR s) transposes_S4x64x256x1_S4x256x64x1_0_2_1_3)))
    (transpose S4x256x64x128 [0, 3, 1, 2]
      (Host.dotGeneral dot_S4x256x64x128_S4x64x256x256_S4x64x128x256_1_3_3_2_02_01 none v (weightR s))
      transposes_S4x64x128x256_S4x256x64x128_0_3_1_2)

/-- The heads. -/
def headR (q k v : FVec F S4x256x64x128 .f32) : FVec F S4x256x64x128 .f32 :=
  Host.divf (mixR (scoreR q k) v)
    (broadcastInDim S4x256x64x128 ![0, 1, 2, 3] bcast_S4x256x64x1_S4x256x64x128_0_1_2_3
      (transpose S4x256x64x1 [0, 2, 1, 3] (sumR (scoreR q k)) transposes_S4x64x256x1_S4x256x64x1_0_2_1_3))

/-- The output product. -/
def outR (P : FVec F S4x256x64x128 .f32) (wo : FVec F S8192x1024 .f32) : FVec F S1024x1024 .f32 :=
  shapeCast _ (Host.dotGeneral dot_S4x256x8192_S8192x1024_S4x256x1024_2_0_01_1_n_n none
    (shapeCast _ P shapeCasts_S4x256x64x128_S4x256x8192) wo) shapeCasts_S4x256x1024_S1024x1024

/-- The reference's result is these stages. -/
theorem res_eq (m : (ℓ : Loc nD τ sig) → Buf (Elt F) ℓ) (c : Dev nD) : Cert.ReferenceIdeal.Value.res_out0 m c
    = outR (headR (projR (m ((c.tc : Thread nD τ).loc main_arg0)) (m ((c.tc : Thread nD τ).loc main_arg1)))
        (projR (m ((c.tc : Thread nD τ).loc main_arg0)) (m ((c.tc : Thread nD τ).loc main_arg2)))
        (projR (m ((c.tc : Thread nD τ).loc main_arg0)) (m ((c.tc : Thread nD τ).loc main_arg3))))
      (m ((c.tc : Thread nD τ).loc main_arg4)) := by
  unfold Cert.ReferenceIdeal.Value.res_out0 Cert.ReferenceIdeal.Value.res_main_v35
  unfold outR headR mixR sumR weightR corrR topR scoreR projR
  rfl

/-! ## The stages at an index -/

/-- The projection of a head. -/
theorem projR_apply (x : FVec Ideal S4x256x1024 .f32) (w : FVec Ideal S1024x8192 .f32) (b : Fin 4) (i : Fin 256) (h : Fin 64) (d : Fin 128) :
    projR x w (ix4 b i h d) = proj (fun i e => x (ix3 b i e)) (fun e d => w (ix2 e (at64 h d))) i d := by
  unfold projR proj
  pointwise
  refine Finset.sum_congr rfl fun e _ => ?_
  have hc : (⟨h.val * 128 + d.val, by omega⟩ : Fin 8192) = at64 h d := Fin.ext (by show h.val * 128 + d.val = 128 * h.val + d.val; omega)
  rw [hc]

/-- The scores of a head. -/
theorem scoreR_apply (q k : FVec Ideal S4x256x64x128 .f32) (b : Fin 4) (h : Fin 64) (i j : Fin 256) :
    scoreR q k (ix4 b h i j) = score (fun i d => q (ix4 b i h d)) (fun j d => k (ix4 b j h d)) i j := by
  have e : Host.dotGeneral dot_S4x256x64x128_S4x256x64x128_S4x64x256x256_3_3_1_1_02_02 none q k (ix4 b h i j)
      = ∑ d : Fin 128, q (ix4 b i h d) * k (ix4 b j h d) := by
    pointwise
  unfold scoreR score
  rw [← e]
  generalize Host.dotGeneral dot_S4x256x64x128_S4x256x64x128_S4x64x256x256_3_3_1_1_02_02 none q k = S
  pointwise
  rfl

/-- A largest element along the last of four axes, at an index; stated at any extents. -/
theorem reduce_last {n0 n1 n2 n3 : ℕ} {u : Shape} (h : (⟨4, ![n0, n1, n2, n3]⟩ : Shape).ReducesTo [3] ⟨3, ![n0, n1, n2]⟩) (hu : 0 < u.numel)
    (x : (⟨4, ![n0, n1, n2, n3]⟩ : Shape).Idx → EReal) (init : u.Idx → EReal) (a : Fin n0) (b : Fin n1) (c : Fin n2) :
    Host.reduce (max : EReal → EReal → EReal) x init h hu (ix3 a b c)
      = (Finset.univ : Finset (Fin n3)).fold max (init (Shape.Idx.first hu)) fun k => x (ix4 a b c k) := by
  rw [Host.reduce_eq_fold, Shape.ReducesTo.fold_fiber_r4_a3]
  rfl

/-- The largest score of a row. -/
theorem topR_red (s : FVec Ideal S4x64x256x256 .f32) (b : Fin 4) (h : Fin 64) (i : Fin 256) :
    Host.reduce FloatOps.maximumf s (constant S_ .f32 0xFF800000#32) reducesTo_S4x64x256x256_S4x64x256_d3 h_S_ (ix3 b h i)
      = (Finset.univ : Finset (Fin 256)).fold max ⊥ fun j => s (ix4 b h i j) := by
  rw [← ofBits_negInf]
  exact reduce_last reducesTo_S4x64x256x256_S4x64x256_d3 h_S_ s (constant (F := Ideal) S_ .f32 0xFF800000#32) b h i

/-- Minus infinity, spread. -/
theorem low_apply (b : Fin 4) (h : Fin 64) (i : Fin 256) :
    (broadcastInDim S4x64x256x1 ![] bcast_S_S4x64x256x1 (constant S_ .f32 0xFF800000#32) : FVec Ideal S4x64x256x1 .f32) (ix4 b h i 0) = ⊥ := by
  rw [← ofBits_negInf]
  pointwise

/-- A vector spread over a last axis of one place. -/
theorem spread_apply (M : FVec Ideal S4x64x256 .f32) (b : Fin 4) (h : Fin 64) (i : Fin 256) :
    (broadcastInDim S4x64x256x1 ![0, 1, 2] bcast_S4x64x256_S4x64x256x1_0_1_2 M : FVec Ideal S4x64x256x1 .f32) (ix4 b h i 0) = M (ix3 b h i) := by
  pointwise

/-- The running maximum is that largest score. -/
theorem topR_apply (s : FVec Ideal S4x64x256x256 .f32) (b : Fin 4) (h : Fin 64) (i : Fin 256) :
    topR s (ix4 b h i 0) = (Finset.univ : Finset (Fin 256)).fold max ⊥ fun j => s (ix4 b h i j) := by
  unfold topR
  rw [ValueIdx.maximumf_apply, low_apply, spread_apply, topR_red]
  exact max_eq_right bot_le

/-- The weights of a row. -/
theorem weightR_apply (s : FVec Ideal S4x64x256x256 .f32) (b : Fin 4) (h : Fin 64) (i j : Fin 256) :
    weightR s (ix4 b h i j) = Ideal.exp (s (ix4 b h i j) - (Finset.univ : Finset (Fin 256)).fold max ⊥ fun j => s (ix4 b h i j)) := by
  rw [← topR_apply]
  unfold weightR
  pointwise

/-- The sum of the weights: what was summed before counts as zero. -/
theorem sumR_apply (s : FVec Ideal S4x64x256x256 .f32) (b : Fin 4) (h : Fin 64) (i : Fin 256) :
    sumR s (ix4 b h i 0) = ∑ j, weightR s (ix4 b h i j) := by
  unfold sumR
  pointwise
  rw [zero_mul, zero_add]

/-- The weighted sum of the values, likewise. -/
theorem mixR_apply (s : FVec Ideal S4x64x256x256 .f32) (v : FVec Ideal S4x256x64x128 .f32) (b : Fin 4) (i : Fin 256) (h : Fin 64) (d : Fin 128) :
    mixR s v (ix4 b i h d) = ∑ j, weightR s (ix4 b h i j) * v (ix4 b j h d) := by
  unfold mixR
  pointwise
  rw [zero_mul, zero_add]
  exact Finset.sum_congr rfl fun j _ => mul_comm (G := EReal) _ _

/-- A head of the reference is `headAt`. -/
theorem headR_apply (q k v : FVec Ideal S4x256x64x128 .f32) (b : Fin 4) (i : Fin 256) (h : Fin 64) (d : Fin 128) :
    headR q k v (ix4 b i h d)
      = headAt (fun i d => q (ix4 b i h d)) (fun i d => k (ix4 b i h d)) (fun i d => v (ix4 b i h d)) i d := by
  have e : headR q k v (ix4 b i h d) = Ideal.div (mixR (scoreR q k) v (ix4 b i h d)) (sumR (scoreR q k) (ix4 b h i 0)) := by
    unfold headR
    pointwise
  rw [e, mixR_apply, sumR_apply]
  unfold headAt weight top
  simp only [weightR_apply, scoreR_apply]

/-- The output product, its columns counted by head. -/
theorem outR_apply (P : FVec Ideal S4x256x64x128 .f32) (wo : FVec Ideal S8192x1024 .f32) (b : Fin 4) (i : Fin 256) (col : Fin 1024) :
    outR P wo (ix2 ⟨256 * b.val + i.val, by omega⟩ col) = ∑ h : Fin 64, ∑ d : Fin 128, P (ix4 b i h d) * wo (ix2 (at64 h d) col) := by
  have e : outR P wo (ix2 ⟨256 * b.val + i.val, by omega⟩ col)
      = ∑ k : Fin 8192, (shapeCast S4x256x8192 P shapeCasts_S4x256x64x128_S4x256x8192) (ix3 b i k) * wo (ix2 k col) := by
    unfold outR
    generalize shapeCast S4x256x8192 P shapeCasts_S4x256x64x128_S4x256x8192 = Q
    pointwise
  rw [e, sum_runs 64 128 8192 rfl]
  refine Finset.sum_congr rfl fun h _ => Finset.sum_congr rfl fun d _ => congrArg (· * _) ?_
  pointwise

/-- **The reference's result** at an index. -/
theorem res_apply (m : (ℓ : Loc nD τ sig) → Buf (Elt Ideal) ℓ) (c : Dev nD) (b : Fin 4) (i : Fin 256) (col : Fin 1024) :
    (Cert.ReferenceIdeal.Value.res_out0 m c : FVec Ideal S1024x1024 .f32) (ix2 ⟨256 * b.val + i.val, by omega⟩ col)
      = ∑ h : Fin 64, ∑ d : Fin 128,
        headX (fun i e => (m ((c.tc : Thread nD τ).loc main_arg0) : FVec Ideal S4x256x1024 .f32) (ix3 b i e))
          (fun e d => (m ((c.tc : Thread nD τ).loc main_arg1) : FVec Ideal S1024x8192 .f32) (ix2 e (at64 h d)))
          (fun e d => (m ((c.tc : Thread nD τ).loc main_arg2) : FVec Ideal S1024x8192 .f32) (ix2 e (at64 h d)))
          (fun e d => (m ((c.tc : Thread nD τ).loc main_arg3) : FVec Ideal S1024x8192 .f32) (ix2 e (at64 h d))) i d
          * (m ((c.tc : Thread nD τ).loc main_arg4) : FVec Ideal S8192x1024 .f32) (ix2 (at64 h d) col) := by
  rw [res_eq, outR_apply]
  unfold headX
  simp only [headR_apply, projR_apply]

end Cert.Attn.Ref

end
-- ==== Proof.Equation.lean ====
/-
# The kernel's result is the reference's

Head `8 c + h` of the reference is head `h` of device `c`: the device's blocks of the three projections hold the columns of
those eight heads, its block of the output matrix their rows. So the reference's sum over 64 heads, cut in runs of eight, is
the sum of the devices' parts. Only the order of a finite sum of extended reals moves.
-/
module

public import proofs.«01_k».proof.Defs
public import proofs.«01_k».proof.Proof.Run
public import proofs.«01_k».proof.Proof.Total
public import proofs.«01_k».proof.Proof.RefValue

@[expose] public section

noncomputable section

namespace Cert.Attn

open Idealize.ShloMosaic Idealize.ShloMosaic.TcCoe Idealize.SL.Sem
open scoped BigOperators

/-! ## Blocks at an index -/

/-- Head `h` of device `c` among all the heads. -/
def headOf (c h : Fin 8) : Fin 64 := ⟨8 * c.val + h.val, by omega⟩

/-- Block `c` of a matrix cut by columns, at a column of head `h`. -/
theorem block_cols (v : (⟨2, ![1024, 8192]⟩ : Shape).Idx → EReal) (c h : Fin 8) (e : Fin 1024) (d : Fin 128) :
    Layout.block ⟨2, ![1024, 1024]⟩ ⟨2, ![1024, 8192]⟩ 1 8 c v (by decide) (ix2 e (at8 h d)) = v (ix2 e (Ref.at64 (headOf c h) d)) := by
  rw [Layout.block_apply]
  refine congrArg v (funext fun b => Fin.ext ?_)
  rw [Layout.Tiles.idx_val]
  match b with
  | ⟨0, _⟩ => rfl
  | ⟨1, _⟩ =>
    show c.val * 1024 + (128 * h.val + d.val) = 128 * (8 * c.val + h.val) + d.val
    omega

/-- Block `c` of a matrix cut by rows, at a row of head `h`. -/
theorem block_rows (v : (⟨2, ![8192, 1024]⟩ : Shape).Idx → EReal) (c h : Fin 8) (col : Fin 1024) (d : Fin 128) :
    Layout.block ⟨2, ![1024, 1024]⟩ ⟨2, ![8192, 1024]⟩ 0 8 c v (by decide) (ix2 (at8 h d) col) = v (ix2 (Ref.at64 (headOf c h) d) col) := by
  rw [Layout.block_apply]
  refine congrArg v (funext fun b => Fin.ext ?_)
  rw [Layout.Tiles.idx_val]
  match b with
  | ⟨1, _⟩ => rfl
  | ⟨0, _⟩ =>
    show c.val * 1024 + (128 * h.val + d.val) = 128 * (8 * c.val + h.val) + d.val
    omega

/-- Every row of the result is one of a batch. -/
theorem row_split (r : Fin 1024) : r = rowB ⟨r.val / 256, by omega⟩ ⟨r.val % 256, Nat.mod_lt _ (by decide)⟩ :=
  Fin.ext (by show r.val = 256 * (r.val / 256) + r.val % 256; omega)

/-! ## The equation -/

section Value

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- The reference's argument `x`, whole. -/
abbrev xR : (⟨3, ![4, 256, 1024]⟩ : Shape).Idx → EReal := m' (((0 : Dev ReferenceIdeal.nD).tc : Thread ReferenceIdeal.nD ReferenceIdeal.τ).loc ReferenceIdeal.main_arg0)
/-- The reference's projections, whole, -/
abbrev qR : (⟨2, ![1024, 8192]⟩ : Shape).Idx → EReal := m' (((0 : Dev ReferenceIdeal.nD).tc : Thread ReferenceIdeal.nD ReferenceIdeal.τ).loc ReferenceIdeal.main_arg1)
@[inherit_doc qR]
abbrev kR : (⟨2, ![1024, 8192]⟩ : Shape).Idx → EReal := m' (((0 : Dev ReferenceIdeal.nD).tc : Thread ReferenceIdeal.nD ReferenceIdeal.τ).loc ReferenceIdeal.main_arg2)
@[inherit_doc qR]
abbrev vR : (⟨2, ![1024, 8192]⟩ : Shape).Idx → EReal := m' (((0 : Dev ReferenceIdeal.nD).tc : Thread ReferenceIdeal.nD ReferenceIdeal.τ).loc ReferenceIdeal.main_arg3)
/-- and its output matrix. -/
abbrev oR : (⟨2, ![8192, 1024]⟩ : Shape).Idx → EReal := m' (((0 : Dev ReferenceIdeal.nD).tc : Thread ReferenceIdeal.nD ReferenceIdeal.τ).loc ReferenceIdeal.main_arg4)

/-- Every device holds `x` and its block of each matrix. -/
abbrev Held : Prop := ∀ c : Dev KernelIdeal.nD, xA m c = xR m'
  ∧ qA m c = Layout.block ⟨2, ![1024, 1024]⟩ ⟨2, ![1024, 8192]⟩ 1 8 c (qR m')
  ∧ kA m c = Layout.block ⟨2, ![1024, 1024]⟩ ⟨2, ![1024, 8192]⟩ 1 8 c (kR m')
  ∧ vA m c = Layout.block ⟨2, ![1024, 1024]⟩ ⟨2, ![1024, 8192]⟩ 1 8 c (vR m')
  ∧ oA m c = Layout.block ⟨2, ![1024, 1024]⟩ ⟨2, ![8192, 1024]⟩ 0 8 c (oR m')

/-- **A device's part**, of the whole arrays. -/
theorem part_eq (hm : Held m m') (c : Dev KernelIdeal.nD) (b : Fin 4) (i : Fin 256) (col : Fin 1024) :
    part m c b i col = ∑ h : Fin 8, ∑ d : Fin 128,
      headX (fun i e => xR m' (ix3 b i e)) (fun e d => qR m' (ix2 e (Ref.at64 (headOf c h) d)))
        (fun e d => kR m' (ix2 e (Ref.at64 (headOf c h) d))) (fun e d => vR m' (ix2 e (Ref.at64 (headOf c h) d))) i d
        * oR m' (ix2 (Ref.at64 (headOf c h) d) col) := by
  obtain ⟨hx, hq, hk, hv, ho⟩ := hm c
  unfold part
  rw [hx, hq, hk, hv, ho]
  refine Finset.sum_congr rfl fun h _ => Finset.sum_congr rfl fun d _ => ?_
  rw [block_rows]
  simp only [block_cols]

/-- The two results at an index. -/
theorem value_at (hm : Held m m') (c : Dev KernelIdeal.nD) (b : Fin 4) (i : Fin 256) (col : Fin 1024) :
    oF m ρ c (ix2 (rowB b i) col)
      = (ReferenceIdeal.Value.res_out0 m' 0 : (⟨2, ![1024, 1024]⟩ : Shape).Idx → EReal) (ix2 (rowB b i) col) := by
  rw [oF_apply]
  refine Eq.trans ?_ (Ref.res_apply m' 0 b i col).symm
  rw [sum_runs 8 8 64 rfl]
  exact Finset.sum_congr rfl fun c' _ => part_eq m m' hm c' b i col

/-- **The two results are one array**. -/
theorem value_eq (hm : Held m m') (c : Dev KernelIdeal.nD) :
    oF m ρ c = (ReferenceIdeal.Value.res_out0 m' 0 : (⟨2, ![1024, 1024]⟩ : Shape).Idx → EReal) := by
  funext j
  obtain ⟨r, col, rfl⟩ : ∃ r col : Fin 1024, j = ix2 r col := by
    idx_vars j
    exact ⟨_, _, rfl⟩
  have h := value_at m ρ m' hm c ⟨r.val / 256, by omega⟩ ⟨r.val % 256, Nat.mod_lt _ (by decide)⟩ col
  rwa [← row_split r] at h

end Value

/-! ## The claim -/

/-- **The kernel and the reference compute the same array**, at every input. -/
theorem same_result : Cert.algebraic_KernelIdeal_ReferenceIdeal := by
  intro m g m' g' _ hm
  refine ⟨ReferenceIdeal.Value.res_out0 m' 0, ?_, ?_⟩
  · exact (θ_run _ _ _).mono (fun r h c => ⟨(h.1 c).1.trans (value_eq m g m' hm c), (h.1 c).2⟩) (run_value (F := Ideal) m g)
  · exact (θ_run _ _ _).mono (fun r h => h 0) (ReferenceIdeal.Value.run (F := Ideal) m' g')

end Cert.Attn

end
-- ==== Proof.lean ====
/-
# The certificate

Every claim, from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts,
  Cert.Attn.frame_kernel, Cert.Attn.frame_ideal, Cert.Attn.frame_reference, trivial, Cert.Attn.same_result⟩

end Cert.Proof

end
